-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def preserves_Attn_AttnIdeal : Prop :=
  IdealRules.named_const.Statement Cert.AttnIdeal.κ "q_scale" .f32 0x3DD53B95#32 (((Real.log 2)⁻¹ * (Real.sqrt 192)⁻¹ : ℝ) : EReal)

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v10_0)) (v1 : (c : Dev Cert.AttnIdeal.nD) → Buf (Elt Ideal) ((c.tc : Thread Cert.AttnIdeal.nD Cert.AttnIdeal.τ).loc Cert.AttnIdeal.main_v10_1)) (v2 : (c : Dev Cert.AttnIdeal.nD) → Buf (Elt Ideal) ((c.tc : Thread Cert.AttnIdeal.nD Cert.AttnIdeal.τ).loc Cert.AttnIdeal.main_v10_2)) (v3 : (c : Dev Cert.AttnIdeal.nD) → Buf (Elt Ideal) ((c.tc : Thread Cert.AttnIdeal.nD Cert.AttnIdeal.τ).loc Cert.AttnIdeal.main_v10_3)) (v4 : (c : Dev Cert.AttnIdeal.nD) → Buf (Elt Ideal) ((c.tc : Thread Cert.AttnIdeal.nD Cert.AttnIdeal.τ).loc Cert.AttnIdeal.main_v10_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v10_0) = v0 c
          ∧ r.2.mem ((c.tc : Thread Cert.AttnIdeal.nD Cert.AttnIdeal.τ).loc Cert.AttnIdeal.main_v10_1) = v1 c
          ∧ r.2.mem ((c.tc : Thread Cert.AttnIdeal.nD Cert.AttnIdeal.τ).loc Cert.AttnIdeal.main_v10_2) = v2 c
          ∧ r.2.mem ((c.tc : Thread Cert.AttnIdeal.nD Cert.AttnIdeal.τ).loc Cert.AttnIdeal.main_v10_3) = v3 c
          ∧ r.2.mem ((c.tc : Thread Cert.AttnIdeal.nD Cert.AttnIdeal.τ).loc Cert.AttnIdeal.main_v10_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v21) = v0 c
          ∧ r.2.mem ((c.tc : Thread Cert.AttnRefIdeal.nD Cert.AttnRefIdeal.τ).loc Cert.AttnRefIdeal.main_v22) = v1 c
          ∧ r.2.mem ((c.tc : Thread Cert.AttnRefIdeal.nD Cert.AttnRefIdeal.τ).loc Cert.AttnRefIdeal.main_v23) = v2 c
          ∧ r.2.mem ((c.tc : Thread Cert.AttnRefIdeal.nD Cert.AttnRefIdeal.τ).loc Cert.AttnRefIdeal.main_v24) = v3 c
          ∧ r.2.mem ((c.tc : Thread Cert.AttnRefIdeal.nD Cert.AttnRefIdeal.τ).loc Cert.AttnRefIdeal.main_v25) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v16)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v16) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Proj_ProjIdeal : Prop :=
  IdealRules.named_const.Statement Cert.ProjIdeal.κ "log2_e" .f32 0x3FB8AA3B#32 (((Real.log 2)⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)) →
    ∃ (v0 : (c : Dev Cert.ProjIdeal.nD) → Buf (Elt Ideal) ((c.tc : Thread Cert.ProjIdeal.nD Cert.ProjIdeal.τ).loc Cert.ProjIdeal.main_v51_0)) (v1 : (c : Dev Cert.ProjIdeal.nD) → Buf (Elt Ideal) ((c.tc : Thread Cert.ProjIdeal.nD Cert.ProjIdeal.τ).loc Cert.ProjIdeal.main_v51_1)) (v2 : (c : Dev Cert.ProjIdeal.nD) → Buf (Elt Ideal) ((c.tc : Thread Cert.ProjIdeal.nD Cert.ProjIdeal.τ).loc Cert.ProjIdeal.main_v51_2)) (v3 : (c : Dev Cert.ProjIdeal.nD) → Buf (Elt Ideal) ((c.tc : Thread Cert.ProjIdeal.nD Cert.ProjIdeal.τ).loc Cert.ProjIdeal.main_v51_3)) (v4 : (c : Dev Cert.ProjIdeal.nD) → Buf (Elt Ideal) ((c.tc : Thread Cert.ProjIdeal.nD Cert.ProjIdeal.τ).loc Cert.ProjIdeal.main_v51_4)) (v5 : (c : Dev Cert.ProjIdeal.nD) → Buf (Elt Ideal) ((c.tc : Thread Cert.ProjIdeal.nD Cert.ProjIdeal.τ).loc Cert.ProjIdeal.main_v51_5)) (v6 : (c : Dev Cert.ProjIdeal.nD) → Buf (Elt Ideal) ((c.tc : Thread Cert.ProjIdeal.nD Cert.ProjIdeal.τ).loc Cert.ProjIdeal.main_v51_6)) (v7 : (c : Dev Cert.ProjIdeal.nD) → Buf (Elt Ideal) ((c.tc : Thread Cert.ProjIdeal.nD Cert.ProjIdeal.τ).loc Cert.ProjIdeal.main_v51_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v51_0) = v0 c
          ∧ r.2.mem ((c.tc : Thread Cert.ProjIdeal.nD Cert.ProjIdeal.τ).loc Cert.ProjIdeal.main_v51_1) = v1 c
          ∧ r.2.mem ((c.tc : Thread Cert.ProjIdeal.nD Cert.ProjIdeal.τ).loc Cert.ProjIdeal.main_v51_2) = v2 c
          ∧ r.2.mem ((c.tc : Thread Cert.ProjIdeal.nD Cert.ProjIdeal.τ).loc Cert.ProjIdeal.main_v51_3) = v3 c
          ∧ r.2.mem ((c.tc : Thread Cert.ProjIdeal.nD Cert.ProjIdeal.τ).loc Cert.ProjIdeal.main_v51_4) = v4 c
          ∧ r.2.mem ((c.tc : Thread Cert.ProjIdeal.nD Cert.ProjIdeal.τ).loc Cert.ProjIdeal.main_v51_5) = v5 c
          ∧ r.2.mem ((c.tc : Thread Cert.ProjIdeal.nD Cert.ProjIdeal.τ).loc Cert.ProjIdeal.main_v51_6) = v6 c
          ∧ r.2.mem ((c.tc : Thread Cert.ProjIdeal.nD Cert.ProjIdeal.τ).loc Cert.ProjIdeal.main_v51_8) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v164) = v0 c
          ∧ r.2.mem ((c.tc : Thread Cert.ProjRefIdeal.nD Cert.ProjRefIdeal.τ).loc Cert.ProjRefIdeal.main_v166) = v1 c
          ∧ r.2.mem ((c.tc : Thread Cert.ProjRefIdeal.nD Cert.ProjRefIdeal.τ).loc Cert.ProjRefIdeal.main_v168) = v2 c
          ∧ r.2.mem ((c.tc : Thread Cert.ProjRefIdeal.nD Cert.ProjRefIdeal.τ).loc Cert.ProjRefIdeal.main_v233) = v3 c
          ∧ r.2.mem ((c.tc : Thread Cert.ProjRefIdeal.nD Cert.ProjRefIdeal.τ).loc Cert.ProjRefIdeal.main_v235) = v4 c
          ∧ r.2.mem ((c.tc : Thread Cert.ProjRefIdeal.nD Cert.ProjRefIdeal.τ).loc Cert.ProjRefIdeal.main_v237) = v5 c
          ∧ r.2.mem ((c.tc : Thread Cert.ProjRefIdeal.nD Cert.ProjRefIdeal.τ).loc Cert.ProjRefIdeal.main_v239) = v6 c
          ∧ r.2.mem ((c.tc : Thread Cert.ProjRefIdeal.nD Cert.ProjRefIdeal.τ).loc Cert.ProjRefIdeal.main_v241) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hPre_finite_qk : Cert.Pre_finite_qk.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
-- ==== Pre_finite_qk.lean ====
abbrev S8x4096x4x192 : Shape := ⟨4, ![8, 4096, 4, 192]⟩
abbrev S8x256x4x192 : Shape := ⟨4, ![8, 256, 4, 192]⟩
abbrev S8x256x4x128 : Shape := ⟨4, ![8, 256, 4, 128]⟩
abbrev S8x4096x4x128 : Shape := ⟨4, ![8, 4096, 4, 128]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S8x4096x4x192 : S_.BroadcastsInDim S8x4096x4x192 (![] : Fin 0 → Fin S8x4096x4x192.rank)
  bcast_S_S8x256x4x192 : S_.BroadcastsInDim S8x256x4x192 (![] : Fin 0 → Fin S8x256x4x192.rank)

variable [Facts]

def fn {F : FTy → Type} [FloatOps F] (main_arg0 : FVec F S8x4096x4x192 .f32) (main_arg1 : FVec F S8x256x4x192 .f32) (main_arg2 : FVec F S8x4096x4x192 .f32) (main_arg3 : FVec F S8x256x4x128 .f32) (main_arg4 : FVec F S8x4096x4x128 .f32) (main_arg5 : FVec F S1024x1024 .f32) (main_arg6 : FVec F S1024x2816 .f32) (main_arg7 : FVec F S1024x2816 .f32) (main_arg8 : FVec F S2816x1024 .f32) : IVec S8x4096x4x192 1 × IVec S8x256x4x192 1 × IVec S8x4096x4x192 1 :=
  let main_v0 : FVec F S8x4096x4x192 .f32 := Host.absf main_arg0
  let main_cst : FVec F S_ .f32 := constant S_ .f32 0x7F800000#32
  let main_v1 : FVec F S8x4096x4x192 .f32 := broadcastInDim S8x4096x4x192 ![] bcast_S_S8x4096x4x192 main_cst
  let main_v2 : IVec S8x4096x4x192 1 := cmpf .olt main_v0 main_v1
  let main_v3 : FVec F S8x256x4x192 .f32 := Host.absf main_arg1
  let main_cst_0 : FVec F S_ .f32 := constant S_ .f32 0x7F800000#32
  let main_v4 : FVec F S8x256x4x192 .f32 := broadcastInDim S8x256x4x192 ![] bcast_S_S8x256x4x192 main_cst_0
  let main_v5 : IVec S8x256x4x192 1 := cmpf .olt main_v3 main_v4
  let main_v6 : FVec F S8x4096x4x192 .f32 := Host.absf main_arg2
  let main_cst_1 : FVec F S_ .f32 := constant S_ .f32 0x7F800000#32
  let main_v7 : FVec F S8x4096x4x192 .f32 := broadcastInDim S8x4096x4x192 ![] bcast_S_S8x4096x4x192 main_cst_1
  let main_v8 : IVec S8x4096x4x192 1 := cmpf .olt main_v6 main_v7
  (main_v2, main_v5, main_v8)
-- ==== Attn.lean ====
abbrev S8x4096x4x192 : Shape := ⟨4, ![8, 4096, 4, 192]⟩
abbrev S8x256x4x192 : Shape := ⟨4, ![8, 256, 4, 192]⟩
abbrev S8x256x4x128 : Shape := ⟨4, ![8, 256, 4, 128]⟩
abbrev S8x4096x4x128 : Shape := ⟨4, ![8, 4096, 4, 128]⟩
abbrev S1024x1024 : Shape := ⟨2, ![1024, 1024]⟩
abbrev S1024x2816 : Shape := ⟨2, ![1024, 2816]⟩
abbrev S2816x1024 : Shape := ⟨2, ![2816, 1024]⟩
abbrev S8x4x192x4096 : Shape := ⟨4, ![8, 4, 192, 4096]⟩
abbrev S8x4x256x192 : Shape := ⟨4, ![8, 4, 256, 192]⟩
abbrev S8x4x4096x192 : Shape := ⟨4, ![8, 4, 4096, 192]⟩
abbrev S8x4x128x256 : Shape := ⟨4, ![8, 4, 128, 256]⟩
abbrev S8x4x128x4096 : Shape := ⟨4, ![8, 4, 128, 4096]⟩
abbrev S8x4096x512 : Shape := ⟨3, ![8, 4096, 512]⟩
abbrev S1x1x192x4096 : Shape := ⟨4, ![1, 1, 192, 4096]⟩
abbrev S1x1x256x192 : Shape := ⟨4, ![1, 1, 256, 192]⟩
abbrev S1x1x4096x192 : Shape := ⟨4, ![1, 1, 4096, 192]⟩
abbrev S1x1x128x256 : Shape := ⟨4, ![1, 1, 128, 256]⟩
abbrev S1x1x128x4096 : Shape := ⟨4, ![1, 1, 128, 4096]⟩
abbrev S64x1024 : Shape := ⟨2, ![64, 1024]⟩
abbrev S64x2816 : Shape := ⟨2, ![64, 2816]⟩
abbrev S176x1024 : Shape := ⟨2, ![176, 1024]⟩
abbrev S1x4096x128 : Shape := ⟨3, ![1, 4096, 128]⟩
abbrev S2x1024x512 : Shape := ⟨3, ![2, 1024, 512]⟩
abbrev S2x8x512 : Shape := ⟨3, ![2, 8, 512]⟩
abbrev S1x1x192x512 : Shape := ⟨4, ![1, 1, 192, 512]⟩
abbrev S192x512 : Shape := ⟨2, ![192, 512]⟩
abbrev S256x192 : Shape := ⟨2, ![256, 192]⟩
abbrev S256x512 : Shape := ⟨2, ![256, 512]⟩
abbrev S1x256x512 : Shape := ⟨3, ![1, 256, 512]⟩
abbrev S512 : Shape := ⟨1, ![512]⟩
abbrev S1x512 : Shape := ⟨2, ![1, 512]⟩
abbrev S1x1x512 : Shape := ⟨3, ![1, 1, 512]⟩
abbrev S1x1x1024x192 : Shape := ⟨4, ![1, 1, 1024, 192]⟩
abbrev S1024x192 : Shape := ⟨2, ![1024, 192]⟩
abbrev S1024x512 : Shape := ⟨2, ![1024, 512]⟩
abbrev S1x1024x512 : Shape := ⟨3, ![1, 1024, 512]⟩
abbrev S128x256 : Shape := ⟨2, ![128, 256]⟩
abbrev S128x512 : Shape := ⟨2, ![128, 512]⟩
abbrev S1x1x128x1024 : Shape := ⟨4, ![1, 1, 128, 1024]⟩
abbrev S128x1024 : Shape := ⟨2, ![128, 1024]⟩
abbrev S512x128 : Shape := ⟨2, ![512, 128]⟩
abbrev S1x512x128 : Shape := ⟨3, ![1, 512, 128]⟩

abbrev nBuf : Space → Nat
  | .hbm => 24
  | .vmem => 30
  | .smem => 0
  | _ => 0

abbrev bufTy : (tb : Table) → Fin (tcTables nBuf tb) → BufTy
  | .hbm, ⟨0, _⟩ => ⟨S8x4096x4x192, .f32⟩
  | .hbm, ⟨1, _⟩ => ⟨S8x256x4x192, .f32⟩
  | .hbm, ⟨2, _⟩ => ⟨S8x4096x4x192, .f32⟩
  | .hbm, ⟨3, _⟩ => ⟨S8x256x4x128, .f32⟩
  | .hbm, ⟨4, _⟩ => ⟨S8x4096x4x128, .f32⟩
  | .hbm, ⟨5, _⟩ => ⟨S1024x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8x4096x4x192, .bf16⟩
  | .hbm, ⟨10, _⟩ => ⟨S8x4x192x4096, .bf16⟩
  | .hbm, ⟨11, _⟩ => ⟨S8x256x4x192, .bf16⟩
  | .hbm, ⟨12, _⟩ => ⟨S8x4x256x192, .bf16⟩
  | .hbm, ⟨13, _⟩ => ⟨S8x4096x4x192, .bf16⟩
  | .hbm, ⟨14, _⟩ => ⟨S8x4x4096x192, .bf16⟩
  | .hbm, ⟨15, _⟩ => ⟨S8x256x4x128, .bf16⟩
  | .hbm, ⟨16, _⟩ => ⟨S8x4x128x256, .bf16⟩
  | .hbm, ⟨17, _⟩ => ⟨S8x4096x4x128, .bf16⟩
  | .hbm, ⟨18, _⟩ => ⟨S8x4x128x4096, .bf16⟩
  | .hbm, ⟨19, _⟩ => ⟨S8x4096x512, .bf16⟩
  | .hbm, ⟨20, _⟩ => ⟨S1024x1024, .bf16⟩
  | .hbm, ⟨21, _⟩ => ⟨S1024x2816, .bf16⟩
  | .hbm, ⟨22, _⟩ => ⟨S1024x2816, .bf16⟩
  | .hbm, ⟨23, _⟩ => ⟨S2816x1024, .bf16⟩
  | .local _ .vmem, ⟨0, _⟩ => ⟨S1x1x192x4096, .bf16⟩
  | .local _ .vmem, ⟨1, _⟩ => ⟨S1x1x192x4096, .bf16⟩
  | .local _ .vmem, ⟨2, _⟩ => ⟨S1x1x256x192, .bf16⟩
  | .local _ .vmem, ⟨3, _⟩ => ⟨S1x1x256x192, .bf16⟩
  | .local _ .vmem, ⟨4, _⟩ => ⟨S1x1x4096x192, .bf16⟩
  | .local _ .vmem, ⟨5, _⟩ => ⟨S1x1x4096x192, .bf16⟩
  | .local _ .vmem, ⟨6, _⟩ => ⟨S1x1x128x256, .bf16⟩
  | .local _ .vmem, ⟨7, _⟩ => ⟨S1x1x128x256, .bf16⟩
  | .local _ .vmem, ⟨8, _⟩ => ⟨S1x1x128x4096, .bf16⟩
  | .local _ .vmem, ⟨9, _⟩ => ⟨S1x1x128x4096, .bf16⟩
  | .local _ .vmem, ⟨10, _⟩ => ⟨S64x1024, .f32⟩
  | .local _ .vmem, ⟨11, _⟩ => ⟨S64x1024, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | .local _ .vmem, ⟨16, _⟩ => ⟨S176x1024, .f32⟩
  | .local _ .vmem, ⟨17, _⟩ => ⟨S176x1024, .f32⟩
  | .local _ .vmem, ⟨18, _⟩ => ⟨S1x4096x128, .bf16⟩
  | .local _ .vmem, ⟨19, _⟩ => ⟨S1x4096x128, .bf16⟩
  | .local _ .vmem, ⟨20, _⟩ => ⟨S64x1024, .bf16⟩
  | .local _ .vmem, ⟨21, _⟩ => ⟨S64x1024, .bf16⟩
  | .local _ .vmem, ⟨22, _⟩ => ⟨S64x2816, .bf16⟩
  | .local _ .vmem, ⟨23, _⟩ => ⟨S64x2816, .bf16⟩
  | .local _ .vmem, ⟨24, _⟩ => ⟨S64x2816, .bf16⟩
  | .local _ .vmem, ⟨25, _⟩ => ⟨S64x2816, .bf16⟩
  | .local _ .vmem, ⟨26, _⟩ => ⟨S176x1024, .bf16⟩
  | .local _ .vmem, ⟨27, _⟩ => ⟨S176x1024, .bf16⟩
  | .local _ .vmem, ⟨28, _⟩ => ⟨S2x1024x512, .f32⟩
  | .local _ .vmem, ⟨29, _⟩ => ⟨S2x8x512, .f32⟩
  | _, _ => ⟨S8x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  c0_i32
@[reducible] def k0_t1_loop : Scf.Loop 32 :=
  let c0_i32_30 : BitVec 32 := 0#32
  let c4_i32 : BitVec 32 := 4#32
  let v31 : BitVec 32 := Scalar.addi c0_i32_30 c4_i32
  let c1_i32 : BitVec 32 := 1#32
  ⟨c0_i32_30, v31, c1_i32⟩
def k0_mult2 (k0_t1 : Fin k0_t1_loop.trips) : BitVec 32 :=
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c512_i32 : BitVec 32 := 512#32
  let v34 : BitVec 32 := Scalar.muli v32 c512_i32
  v34
def k0_off1 (k0_t1 : Fin k0_t1_loop.trips) : Fin 4 → Nat :=
  let c0_33 : Index := 0#32
  let c0_34 : Index := 0#32
  let c0_35 : Index := 0#32
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c512_i32 : BitVec 32 := 512#32
  let v34 : BitVec 32 := Scalar.muli v32 c512_i32
  let v35 : BitVec 32 := v34
  let v36 : Index := Scalar.indexCast v35
  ![0, 0, 0, v36.toNat]
def k0_mult3 (k0_t1 : Fin k0_t1_loop.trips) : BitVec 32 :=
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c1_i32_32 : BitVec 32 := 1#32
  let v33 : BitVec 32 := Scalar.addi v32 c1_i32_32
  let c512_i32_129 : BitVec 32 := 512#32
  let v163 : BitVec 32 := Scalar.muli v33 c512_i32_129
  v163
def k0_off2 (k0_t1 : Fin k0_t1_loop.trips) : Fin 4 → Nat :=
  let c0_130 : Index := 0#32
  let c0_131 : Index := 0#32
  let c0_132 : Index := 0#32
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c1_i32_32 : BitVec 32 := 1#32
  let v33 : BitVec 32 := Scalar.addi v32 c1_i32_32
  let c512_i32_129 : BitVec 32 := 512#32
  let v163 : BitVec 32 := Scalar.muli v33 c512_i32_129
  let v164 : BitVec 32 := v163
  let v165 : Index := Scalar.indexCast v164
  ![0, 0, 0, v165.toNat]
def k0_mult4 (k0_t1 : Fin k0_t1_loop.trips) : BitVec 32 :=
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c512_i32_159 : BitVec 32 := 512#32
  let v210 : BitVec 32 := Scalar.muli v32 c512_i32_159
  v210
def k0_off3 (k0_t1 : Fin k0_t1_loop.trips) : Fin 3 → Nat :=
  let c0_160 : Index := 0#32
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c512_i32_159 : BitVec 32 := 512#32
  let v210 : BitVec 32 := Scalar.muli v32 c512_i32_159
  let v211 : BitVec 32 := v210
  let v212 : Index := Scalar.indexCast v211
  let c0_161 : Index := 0#32
  ![0, v212.toNat, 0]
def k0_mult5 (k0_t1 : Fin k0_t1_loop.trips) : BitVec 32 :=
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c1_i32_162 : BitVec 32 := 1#32
  let v216 : BitVec 32 := Scalar.addi v32 c1_i32_162
  let c512_i32_164 : BitVec 32 := 512#32
  let v219 : BitVec 32 := Scalar.muli v216 c512_i32_164
  v219
def k0_mult6 (k0_t1 : Fin k0_t1_loop.trips) : BitVec 32 :=
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c2_i32_163 : BitVec 32 := 2#32
  let v217 : BitVec 32 := Scalar.addi v32 c2_i32_163
  let c7_i32 : BitVec 32 := 7#32
  let v218 : BitVec 32 := Scalar.minsi v217 c7_i32
  let c512_i32_265 : BitVec 32 := 512#32
  let v348 : BitVec 32 := Scalar.muli v218 c512_i32_265
  v348
def k0_off4 (k0_t1 : Fin k0_t1_loop.trips) : Fin 4 → Nat :=
  let c0_266 : Index := 0#32
  let c0_267 : Index := 0#32
  let c0_268 : Index := 0#32
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c2_i32_163 : BitVec 32 := 2#32
  let v217 : BitVec 32 := Scalar.addi v32 c2_i32_163
  let c7_i32 : BitVec 32 := 7#32
  let v218 : BitVec 32 := Scalar.minsi v217 c7_i32
  let c512_i32_265 : BitVec 32 := 512#32
  let v348 : BitVec 32 := Scalar.muli v218 c512_i32_265
  let v349 : BitVec 32 := v348
  let v350 : Index := Scalar.indexCast v349
  ![0, 0, 0, v350.toNat]
def k0_mult7 (k0_t1 : Fin k0_t1_loop.trips) : BitVec 32 :=
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c1_i32_162 : BitVec 32 := 1#32
  let v216 : BitVec 32 := Scalar.addi v32 c1_i32_162
  let c512_i32_295 : BitVec 32 := 512#32
  let v395 : BitVec 32 := Scalar.muli v216 c512_i32_295
  v395
def k0_off5 (k0_t1 : Fin k0_t1_loop.trips) : Fin 3 → Nat :=
  let c0_296 : Index := 0#32
  let c2_i32 : BitVec 32 := 2#32
  let c0_i32_30 : BitVec 32 := 0#32
  let c1_i32 : BitVec 32 := 1#32
  let arg18 : BitVec 32 := Scf.iv c0_i32_30 c1_i32 k0_t1
  let v32 : BitVec 32 := Scalar.muli c2_i32 arg18
  let c1_i32_162 : BitVec 32 := 1#32
  let v216 : BitVec 32 := Scalar.addi v32 c1_i32_162
  let c512_i32_295 : BitVec 32 := 512#32
  let v395 : BitVec 32 := Scalar.muli v216 c512_i32_295
  let v396 : BitVec 32 := v395
  let v397 : Index := Scalar.indexCast v396
  let c0_297 : Index := 0#32
  ![0, v397.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1x1x192x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== AttnIdeal.lean ====
variable {F : FTy → Type} [FloatOps F] [Named F]
def κ : String → Option EReal := fun
  | "q_scale" => some (((Real.log 2)⁻¹ * (Real.sqrt 192)⁻¹ : ℝ) : EReal)
  | _ => none
-- ==== AttnRefIdeal.lean ====
abbrev S8x4096x4x192 : Shape := ⟨4, ![8, 4096, 4, 192]⟩
abbrev S8x256x4x192 : Shape := ⟨4, ![8, 256, 4, 192]⟩
abbrev S8x256x4x128 : Shape := ⟨4, ![8, 256, 4, 128]⟩
abbrev S8x4096x4x128 : Shape := ⟨4, ![8, 4096, 4, 128]⟩
abbrev S1024x1024 : Shape := ⟨2, ![1024, 1024]⟩
abbrev S1024x2816 : Shape := ⟨2, ![1024, 2816]⟩
abbrev S2816x1024 : Shape := ⟨2, ![2816, 1024]⟩
abbrev S8x4352x4x192 : Shape := ⟨4, ![8, 4352, 4, 192]⟩
abbrev S8x4352x4x128 : Shape := ⟨4, ![8, 4352, 4, 128]⟩
abbrev S_ : Shape := ⟨0, ![]⟩
abbrev S8x4x4096x4352 : Shape := ⟨4, ![8, 4, 4096, 4352]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S8x4096x512 : Shape := ⟨3, ![8, 4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x4x192, .f32⟩
  | .hbm, ⟨1, _⟩ => ⟨S8x256x4x192, .f32⟩
  | .hbm, ⟨2, _⟩ => ⟨S8x4096x4x192, .f32⟩
  | .hbm, ⟨3, _⟩ => ⟨S8x256x4x128, .f32⟩
  | .hbm, ⟨4, _⟩ => ⟨S8x4096x4x128, .f32⟩
  | .hbm, ⟨5, _⟩ => ⟨S1024x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8x4352x4x192, .f32⟩
  | .hbm, ⟨10, _⟩ => ⟨S8x4352x4x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x4x4096x4352, .f32⟩
  | .hbm, ⟨16, _⟩ => ⟨S8x4x4096x4352, .f32⟩
  | .hbm, ⟨17, _⟩ => ⟨S8x4x4096x4352, .f32⟩
  | .hbm, ⟨18, _⟩ => ⟨S_, .f32⟩
  | .hbm, ⟨19, _⟩ => ⟨S8x4x4096, .f32⟩
  | .hbm, ⟨20, _⟩ => ⟨S_, .f32⟩
  | .hbm, ⟨21, _⟩ => ⟨S8x4x4096, .f32⟩
  | .hbm, ⟨22, _⟩ => ⟨S8x4x4096, .f32⟩
  | .hbm, ⟨23, _⟩ => ⟨S8x4x4096x1, .f32⟩
  | .hbm, ⟨24, _⟩ => ⟨S8x4x4096x4352, .f32⟩
  | .hbm, ⟨25, _⟩ => ⟨S8x4x4096x4352, .f32⟩
  | .hbm, ⟨26, _⟩ => ⟨S8x4x4096x4352, .f32⟩
  | .hbm, ⟨27, _⟩ => ⟨S_, .f32⟩
  | .hbm, ⟨28, _⟩ => ⟨S8x4x4096, .f32⟩
  | .hbm, ⟨29, _⟩ => ⟨S8x4x4096x1, .f32⟩
  | .hbm, ⟨30, _⟩ => ⟨S8x4x4096x4352, .f32⟩
  | .hbm, ⟨31, _⟩ => ⟨S8x4x4096x4352, .f32⟩
  | .hbm, ⟨32, _⟩ => ⟨S8x4x128x4096, .f32⟩
  | .hbm, ⟨33, _⟩ => ⟨S8x4096x4x128, .f32⟩
  | .hbm, ⟨34, _⟩ => ⟨S8x4096x512, .f32⟩
  | .hbm, ⟨35, _⟩ => ⟨S8x4096x512, .bf16⟩
  | .hbm, ⟨36, _⟩ => ⟨S1024x1024, .bf16⟩
  | .hbm, ⟨37, _⟩ => ⟨S1024x2816, .bf16⟩
  | .hbm, ⟨38, _⟩ => ⟨S1024x2816, .bf16⟩
  | .hbm, ⟨39, _⟩ => ⟨S2816x1024, .bf16⟩
  | _, _ => ⟨S8x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Ffn.lean ====
abbrev S8x4096x1024 : Shape := ⟨3, ![8, 4096, 1024]⟩
abbrev S8x4096x512 : Shape := ⟨3, ![8, 4096, 512]⟩
abbrev S8x6144 : Shape := ⟨2, ![8, 6144]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x2x1024 : Shape := ⟨3, ![8, 2, 1024]⟩
abbrev S8x6x1024 : Shape := ⟨3, ![8, 6, 1024]⟩
abbrev S8x8x1024 : Shape := ⟨3, ![8, 8, 1024]⟩
abbrev S1024x1024 : Shape := ⟨2, ![1024, 1024]⟩
abbrev S1024x2816 : Shape := ⟨2, ![1024, 2816]⟩
abbrev S2816x1024 : Shape := ⟨2, ![2816, 1024]⟩
abbrev S1x512x1024 : Shape := ⟨3, ![1, 512, 1024]⟩
abbrev S1x512x512 : Shape := ⟨3, ![1, 512, 512]⟩
abbrev S1x8x1024 : Shape := ⟨3, ![1, 8, 1024]⟩
abbrev S512x1024 : Shape := ⟨2, ![512, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 28
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x6144, .f32⟩
  | .hbm, ⟨4, _⟩ => ⟨S1x1024, .f32⟩
  | .hbm, ⟨5, _⟩ => ⟨S1x1024x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024, .f32⟩
  | .hbm, ⟨10, _⟩ => ⟨S_, .f32⟩
  | .hbm, ⟨11, _⟩ => ⟨S8x2x1024, .f32⟩
  | .hbm, ⟨12, _⟩ => ⟨S8x6x1024, .f32⟩
  | .hbm, ⟨13, _⟩ => ⟨S8x8x1024, .f32⟩
  | .hbm, ⟨14, _⟩ => ⟨S1024x1024, .f32⟩
  | .hbm, ⟨15, _⟩ => ⟨S1024x1024, .bf16⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S2816x1024, .f32⟩
  | .hbm, ⟨21, _⟩ => ⟨S2816x1024, .bf16⟩
  | .hbm, ⟨22, _⟩ => ⟨S8x4096x512, .bf16⟩
  | .hbm, ⟨23, _⟩ => ⟨S8x4096x512, .bf16⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S1024x1024, .bf16⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S8x4096x1024 : Shape := ⟨3, ![8, 4096, 1024]⟩
abbrev S8x4096x512 : Shape := ⟨3, ![8, 4096, 512]⟩
abbrev S8x6144 : Shape := ⟨2, ![8, 6144]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S8x1x6144 : Shape := ⟨3, ![8, 1, 6144]⟩
abbrev S8x1x1024 : Shape := ⟨3, ![8, 1, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x6144, .f32⟩
  | .hbm, ⟨4, _⟩ => ⟨S1x1024, .f32⟩
  | .hbm, ⟨5, _⟩ => ⟨S1x1024x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x4096x1024, .f32⟩
  | .hbm, ⟨18, _⟩ => ⟨S1024x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S1x1x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S1024x2816, .f32⟩
  | .hbm, ⟨48, _⟩ => ⟨S1024x2816, .f32⟩
  | .hbm, ⟨49, _⟩ => ⟨S2816x1024, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x1, .f32⟩
  | .hbm, ⟨77, _⟩ => ⟨S8x4096x1024, .f32⟩
  | .hbm, ⟨78, _⟩ => ⟨S8x4096x1024, .f32⟩
  | .hbm, ⟨79, _⟩ => ⟨S1x1x1024, .f32⟩
  | .hbm, ⟨80, _⟩ => ⟨S8x4096x1024, .f32⟩
  | .hbm, ⟨81, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_v45 : Ref sig .tc := ⟨.hbm, 68, rfl⟩
abbrev main_v46 : Ref sig .tc := ⟨.hbm, 69, rfl⟩
abbrev main_cst_4 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Proj.lean ====
abbrev S8x4096x1024 : Shape := ⟨3, ![8, 4096, 1024]⟩
abbrev S8x6144 : Shape := ⟨2, ![8, 6144]⟩
abbrev S1x1024 : Shape := ⟨2, ![1, 1024]⟩
abbrev S1x1024x3136 : Shape := ⟨3, ![1, 1024, 3136]⟩
abbrev S1x256 : Shape := ⟨2, ![1, 256]⟩
abbrev S1x256x768 : Shape := ⟨3, ![1, 256, 768]⟩
abbrev S1x256x1024 : Shape := ⟨3, ![1, 256, 1024]⟩
abbrev S4096x32 : Shape := ⟨2, ![4096, 32]⟩
abbrev S2x512 : Shape := ⟨2, ![2, 512]⟩
abbrev S64 : Shape := ⟨1, ![64]⟩
abbrev S_ : Shape := ⟨0, ![]⟩
abbrev S8x2x1024 : Shape := ⟨3, ![8, 2, 1024]⟩
abbrev S8x6x1024 : Shape := ⟨3, ![8, 6, 1024]⟩
abbrev S8x8x1024 : Shape := ⟨3, ![8, 8, 1024]⟩
abbrev S1024x3136 : Shape := ⟨2, ![1024, 3136]⟩
abbrev S1024x64 : Shape := ⟨2, ![1024, 64]⟩
abbrev S1024x16 : Shape := ⟨2, ![1024, 16]⟩
abbrev S1024x512 : Shape := ⟨2, ![1024, 512]⟩
abbrev S1024x2560 : Shape := ⟨2, ![1024, 2560]⟩
abbrev S1024x128 : Shape := ⟨2, ![1024, 128]⟩
abbrev S256x768 : Shape := ⟨2, ![256, 768]⟩
abbrev S256x1024 : Shape := ⟨2, ![256, 1024]⟩
abbrev S256x4x192 : Shape := ⟨3, ![256, 4, 192]⟩
abbrev S256x4x64 : Shape := ⟨3, ![256, 4, 64]⟩
abbrev S256x4x128 : Shape := ⟨3, ![256, 4, 128]⟩
abbrev S256x512 : Shape := ⟨2, ![256, 512]⟩
abbrev S256x256 : Shape := ⟨2, ![256, 256]⟩
abbrev S64x1 : Shape := ⟨2, ![64, 1]⟩
abbrev S256x4x256 : Shape := ⟨3, ![256, 4, 256]⟩
abbrev S4096x16 : Shape := ⟨2, ![4096, 16]⟩
abbrev S4096x64 : Shape := ⟨2, ![4096, 64]⟩
abbrev S1024 : Shape := ⟨1, ![1024]⟩
abbrev S256 : Shape := ⟨1, ![256]⟩
abbrev S8x4x192x4096 : Shape := ⟨4, ![8, 4, 192, 4096]⟩
abbrev S8x4x4096x192 : Shape := ⟨4, ![8, 4, 4096, 192]⟩
abbrev S8x4x128x4096 : Shape := ⟨4, ![8, 4, 128, 4096]⟩
abbrev S8x4x4096x128 : Shape := ⟨4, ![8, 4, 4096, 128]⟩
abbrev S1x1024x1024 : Shape := ⟨3, ![1, 1024, 1024]⟩
abbrev S1x8x1024 : Shape := ⟨3, ![1, 8, 1024]⟩
abbrev S1x4x192x1024 : Shape := ⟨4, ![1, 4, 192, 1024]⟩
abbrev S1x4x1024x192 : Shape := ⟨4, ![1, 4, 1024, 192]⟩
abbrev S1x4x128x1024 : Shape := ⟨4, ![1, 4, 128, 1024]⟩
abbrev S1x4x1024x128 : Shape := ⟨4, ![1, 4, 1024, 128]⟩
abbrev S1024x1024 : Shape := ⟨2, ![1024, 1024]⟩
abbrev S1x1x1024 : Shape := ⟨3, ![1, 1, 1024]⟩
abbrev S1024x1 : Shape := ⟨2, ![1024, 1]⟩
abbrev S1024x256 : Shape := ⟨2, ![1024, 256]⟩
abbrev S512x1024 : Shape := ⟨2, ![512, 1024]⟩
abbrev S128x1024 : Shape := ⟨2, ![128, 1024]⟩
abbrev S1x1x128x1024 : Shape := ⟨4, ![1, 1, 128, 1024]⟩
abbrev S64x1024 : Shape := ⟨2, ![64, 1024]⟩
abbrev S1x1x64x1024 : Shape := ⟨4, ![1, 1, 64, 1024]⟩
abbrev S1x1x1024x128 : Shape := ⟨4, ![1, 1, 1024, 128]⟩
abbrev S1x1x1024x64 : Shape := ⟨4, ![1, 1, 1024, 64]⟩
abbrev S512 : Shape := ⟨1, ![512]⟩
abbrev S1x512 : Shape := ⟨2, ![1, 512]⟩
abbrev S128x8x512 : Shape := ⟨3, ![128, 8, 512]⟩
abbrev S1x8x512 : Shape := ⟨3, ![1, 8, 512]⟩
abbrev S16x8x8x512 : Shape := ⟨4, ![16, 8, 8, 512]⟩
abbrev S16x1x8x512 : Shape := ⟨4, ![16, 1, 8, 512]⟩
abbrev S16x8x512 : Shape := ⟨3, ![16, 8, 512]⟩
abbrev S16x1x512 : Shape := ⟨3, ![16, 1, 512]⟩

abbrev nBuf : Space → Nat
  | .hbm => 77
  | .vmem => 38
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1x1024, .f32⟩
  | .hbm, ⟨3, _⟩ => ⟨S1x1024x3136, .f32⟩
  | .hbm, ⟨4, _⟩ => ⟨S1x256, .f32⟩
  | .hbm, ⟨5, _⟩ => ⟨S1x256x768, .f32⟩
  | .hbm, ⟨6, _⟩ => ⟨S1x256, .f32⟩
  | .hbm, ⟨7, _⟩ => ⟨S1x256x1024, .f32⟩
  | .hbm, ⟨8, _⟩ => ⟨S4096x32, .f32⟩
  | .hbm, ⟨9, _⟩ => ⟨S4096x32, .f32⟩
  | .hbm, ⟨10, _⟩ => ⟨S2x512, .f32⟩
  | .hbm, ⟨11, _⟩ => ⟨S2x512, .f32⟩
  | .hbm, ⟨12, _⟩ => ⟨S64, .i32⟩
  | .hbm, ⟨13, _⟩ => ⟨S64, .i1⟩
  | .hbm, ⟨14, _⟩ => ⟨S_, .f32⟩
  | .hbm, ⟨15, _⟩ => ⟨S8x2x1024, .f32⟩
  | .hbm, ⟨16, _⟩ => ⟨S8x6x1024, .f32⟩
  | .hbm, ⟨17, _⟩ => ⟨S8x8x1024, .f32⟩
  | .hbm, ⟨18, _⟩ => ⟨S1024x3136, .f32⟩
  | .hbm, ⟨19, _⟩ => ⟨S1024x64, .f32⟩
  | .hbm, ⟨20, _⟩ => ⟨S1024x16, .f32⟩
  | .hbm, ⟨21, _⟩ => ⟨S1024x16, .f32⟩
  | .hbm, ⟨22, _⟩ => ⟨S1024x16, .f32⟩
  | .hbm, ⟨23, _⟩ => ⟨S1024x16, .f32⟩
  | .hbm, ⟨24, _⟩ => ⟨S1024x512, .f32⟩
  | .hbm, ⟨25, _⟩ => ⟨S1024x512, .bf16⟩
  | .hbm, ⟨26, _⟩ => ⟨S1024x2560, .f32⟩
  | .hbm, ⟨27, _⟩ => ⟨S1024x2560, .bf16⟩
  | .hbm, ⟨28, _⟩ => ⟨S1024x128, .f32⟩
  | .hbm, ⟨29, _⟩ => ⟨S1024x128, .bf16⟩
  | .hbm, ⟨30, _⟩ => ⟨S256x768, .f32⟩
  | .hbm, ⟨31, _⟩ => ⟨S256x1024, .f32⟩
  | .hbm, ⟨32, _⟩ => ⟨S256x4x192, .f32⟩
  | .hbm, ⟨33, _⟩ => ⟨S256x4x64, .f32⟩
  | .hbm, ⟨34, _⟩ => ⟨S256x4x128, .f32⟩
  | .hbm, ⟨35, _⟩ => ⟨S256x512, .f32⟩
  | .hbm, ⟨36, _⟩ => ⟨S256x256, .f32⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S64x1, .i32⟩
  | .hbm, ⟨42, _⟩ => ⟨S256x4x64, .f32⟩
  | .hbm, ⟨43, _⟩ => ⟨S256x256, .f32⟩
  | .hbm, ⟨44, _⟩ => ⟨S256x1024, .f32⟩
  | .hbm, ⟨45, _⟩ => ⟨S256x1024, .bf16⟩
  | .hbm, ⟨46, _⟩ => ⟨S256x4x256, .f32⟩
  | .hbm, ⟨47, _⟩ => ⟨S256x4x128, .f32⟩
  | .hbm, ⟨48, _⟩ => ⟨S256x512, .f32⟩
  | .hbm, ⟨49, _⟩ => ⟨S256x4x128, .f32⟩
  | .hbm, ⟨50, _⟩ => ⟨S256x512, .f32⟩
  | .hbm, ⟨51, _⟩ => ⟨S256x1024, .f32⟩
  | .hbm, ⟨52, _⟩ => ⟨S256x1024, .bf16⟩
  | .hbm, ⟨53, _⟩ => ⟨S4096x16, .f32⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x64, .f32⟩
  | .hbm, ⟨58, _⟩ => ⟨S4096x16, .f32⟩
  | .hbm, ⟨59, _⟩ => ⟨S4096x16, .f32⟩
  | .hbm, ⟨60, _⟩ => ⟨S4096x64, .f32⟩
  | .hbm, ⟨61, _⟩ => ⟨S1024, .f32⟩
  | .hbm, ⟨62, _⟩ => ⟨S1x1024, .f32⟩
  | .hbm, ⟨63, _⟩ => ⟨S256, .f32⟩
  | .hbm, ⟨64, _⟩ => ⟨S1x256, .f32⟩
  | .hbm, ⟨65, _⟩ => ⟨S256, .f32⟩
  | .hbm, ⟨66, _⟩ => ⟨S1x256, .f32⟩
  | .hbm, ⟨67, _⟩ => ⟨S8x4x192x4096, .bf16⟩
  | .hbm, ⟨68, _⟩ => ⟨S8x4x4096x192, .bf16⟩
  | .hbm, ⟨69, _⟩ => ⟨S8x4x128x4096, .bf16⟩
  | .hbm, ⟨70, _⟩ => ⟨S8x4x4096x128, .bf16⟩
  | .hbm, ⟨71, _⟩ => ⟨S8x4x4096x128, .bf16⟩
  | .hbm, ⟨72, _⟩ => ⟨S8x4x4096x128, .bf16⟩
  | .hbm, ⟨73, _⟩ => ⟨S8x4x4096x128, .bf16⟩
  | .hbm, ⟨74, _⟩ => ⟨S8x4x4096x128, .f32⟩
  | .hbm, ⟨75, _⟩ => ⟨S8x4x4096x128, .bf16⟩
  | .hbm, ⟨76, _⟩ => ⟨S8x4x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x512, .bf16⟩
  | .local _ .vmem, ⟨6, _⟩ => ⟨S1024x2560, .bf16⟩
  | .local _ .vmem, ⟨7, _⟩ => ⟨S1024x128, .bf16⟩
  | .local _ .vmem, ⟨8, _⟩ => ⟨S1x256, .f32⟩
  | .local _ .vmem, ⟨9, _⟩ => ⟨S256x1024, .bf16⟩
  | .local _ .vmem, ⟨10, _⟩ => ⟨S1x256, .f32⟩
  | .local _ .vmem, ⟨11, _⟩ => ⟨S256x1024, .bf16⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S2x512, .f32⟩
  | .local _ .vmem, ⟨17, _⟩ => ⟨S2x512, .f32⟩
  | .local _ .vmem, ⟨18, _⟩ => ⟨S1x4x192x1024, .bf16⟩
  | .local _ .vmem, ⟨19, _⟩ => ⟨S1x4x192x1024, .bf16⟩
  | .local _ .vmem, ⟨20, _⟩ => ⟨S1x4x1024x192, .bf16⟩
  | .local _ .vmem, ⟨21, _⟩ => ⟨S1x4x1024x192, .bf16⟩
  | .local _ .vmem, ⟨22, _⟩ => ⟨S1x4x128x1024, .bf16⟩
  | .local _ .vmem, ⟨23, _⟩ => ⟨S1x4x128x1024, .bf16⟩
  | .local _ .vmem, ⟨24, _⟩ => ⟨S1x4x1024x128, .bf16⟩
  | .local _ .vmem, ⟨25, _⟩ => ⟨S1x4x1024x128, .bf16⟩
  | .local _ .vmem, ⟨26, _⟩ => ⟨S1x4x1024x128, .bf16⟩
  | .local _ .vmem, ⟨27, _⟩ => ⟨S1x4x1024x128, .bf16⟩
  | .local _ .vmem, ⟨28, _⟩ => ⟨S1x4x1024x128, .bf16⟩
  | .local _ .vmem, ⟨29, _⟩ => ⟨S1x4x1024x128, .bf16⟩
  | .local _ .vmem, ⟨30, _⟩ => ⟨S1x4x1024x128, .bf16⟩
  | .local _ .vmem, ⟨31, _⟩ => ⟨S1x4x1024x128, .bf16⟩
  | .local _ .vmem, ⟨32, _⟩ => ⟨S1x4x1024x128, .f32⟩
  | .local _ .vmem, ⟨33, _⟩ => ⟨S1x4x1024x128, .f32⟩
  | .local _ .vmem, ⟨34, _⟩ => ⟨S1x4x1024x128, .bf16⟩
  | .local _ .vmem, ⟨35, _⟩ => ⟨S1x4x1024x128, .bf16⟩
  | .local _ .vmem, ⟨36, _⟩ => ⟨S1x4x1024x128, .f32⟩
  | .local _ .vmem, ⟨37, _⟩ => ⟨S1x4x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51_0 : Ref sig .tc := ⟨.hbm, 67, rfl⟩
abbrev main_v51_1 : Ref sig .tc := ⟨.hbm, 68, rfl⟩
abbrev main_v51_2 : Ref sig .tc := ⟨.hbm, 69, rfl⟩
abbrev main_v51_3 : Ref sig .tc := ⟨.hbm, 70, rfl⟩
abbrev main_v51_4 : Ref sig .tc := ⟨.hbm, 71, rfl⟩
abbrev main_v51_5 : Ref sig .tc := ⟨.hbm, 72, rfl⟩
abbrev main_v51_6 : Ref sig .tc := ⟨.hbm, 73, rfl⟩
abbrev main_v51_7 : Ref sig .tc := ⟨.hbm, 74, rfl⟩
abbrev main_v51_8 : Ref sig .tc := ⟨.hbm, 75, rfl⟩
abbrev main_v51_9 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x4x192x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x1024x192 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x1024x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x1024x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x1024x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x1024x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x1024x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x4x1024x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x4x1024x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ProjIdeal.lean ====
variable {F : FTy → Type} [FloatOps F] [Named F]
def κ : String → Option EReal := fun
  | "log2_e" => some (((Real.log 2)⁻¹ : ℝ) : EReal)
  | _ => none
-- ==== ProjRefIdeal.lean ====
abbrev S8x4096x1024 : Shape := ⟨3, ![8, 4096, 1024]⟩
abbrev S8x6144 : Shape := ⟨2, ![8, 6144]⟩
abbrev S1x1024 : Shape := ⟨2, ![1, 1024]⟩
abbrev S1x1024x3136 : Shape := ⟨3, ![1, 1024, 3136]⟩
abbrev S1x256 : Shape := ⟨2, ![1, 256]⟩
abbrev S1x256x768 : Shape := ⟨3, ![1, 256, 768]⟩
abbrev S1x256x1024 : Shape := ⟨3, ![1, 256, 1024]⟩
abbrev S4096x32 : Shape := ⟨2, ![4096, 32]⟩
abbrev S2x512 : Shape := ⟨2, ![2, 512]⟩
abbrev S8x1x6144 : Shape := ⟨3, ![8, 1, 6144]⟩
abbrev S8x1x1024 : Shape := ⟨3, ![8, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3136 : Shape := ⟨2, ![1024, 3136]⟩
abbrev S8x4096x3136 : Shape := ⟨3, ![8, 4096, 3136]⟩
abbrev S8x4096x256 : Shape := ⟨3, ![8, 4096, 256]⟩
abbrev S8x4096x64 : Shape := ⟨3, ![8, 4096, 64]⟩
abbrev S8x4096x512 : Shape := ⟨3, ![8, 4096, 512]⟩
abbrev S256 : Shape := ⟨1, ![256]⟩
abbrev S1x1x256 : Shape := ⟨3, ![1, 1, 256]⟩
abbrev S256x768 : Shape := ⟨2, ![256, 768]⟩
abbrev S8x4096x768 : Shape := ⟨3, ![8, 4096, 768]⟩
abbrev S8x4096x4x192 : Shape := ⟨4, ![8, 4096, 4, 192]⟩
abbrev S8x4096x4x128 : Shape := ⟨4, ![8, 4096, 4, 128]⟩
abbrev S8x4096x4x64 : Shape := ⟨4, ![8, 4096, 4, 64]⟩
abbrev S4096x1x32 : Shape := ⟨3, ![4096, 1, 32]⟩
abbrev S8x4096x4x32 : Shape := ⟨4, ![8, 4096, 4, 32]⟩
abbrev S4096x1x16 : Shape := ⟨3, ![4096, 1, 16]⟩
abbrev S8x4096x4x16 : Shape := ⟨4, ![8, 4096, 4, 16]⟩
abbrev S1x4096x1x16 : Shape := ⟨4, ![1, 4096, 1, 16]⟩
abbrev S256x1024 : Shape := ⟨2, ![256, 1024]⟩
abbrev S8x4096x4x256 : Shape := ⟨4, ![8, 4096, 4, 256]⟩
abbrev S8x4096x32 : Shape := ⟨3, ![8, 4096, 32]⟩
abbrev S4096x16 : Shape := ⟨2, ![4096, 16]⟩
abbrev S8x4096x16 : Shape := ⟨3, ![8, 4096, 16]⟩
abbrev S1x4096x16 : Shape := ⟨3, ![1, 4096, 16]⟩
abbrev S8x4096x1x64 : Shape := ⟨4, ![8, 4096, 1, 64]⟩
abbrev S8x4x192x4096 : Shape := ⟨4, ![8, 4, 192, 4096]⟩
abbrev S8x4x4096x192 : Shape := ⟨4, ![8, 4, 4096, 192]⟩
abbrev S8x4x128x4096 : Shape := ⟨4, ![8, 4, 128, 4096]⟩
abbrev S512 : Shape := ⟨1, ![512]⟩
abbrev S1x512 : Shape := ⟨2, ![1, 512]⟩
abbrev S1x1x512 : Shape := ⟨3, ![1, 1, 512]⟩
abbrev S8x4x4096x128 : Shape := ⟨4, ![8, 4, 4096, 128]⟩

abbrev nBuf : Space → Nat
  | .hbm => 278
  | .vmem => 0
  | .smem => 0
  | _ => 0

abbrev hbmTy0_0 (i : Nat) : BufTy := match i % 128 with
  | 0 => ⟨S8x4096x1024, .f32⟩
  | 1 => ⟨S8x6144, .f32⟩
  | 2 => ⟨S1x1024, .f32⟩
  | 3 => ⟨S1x1024x3136, .f32⟩
  | 4 => ⟨S1x256, .f32⟩
  | 5 => ⟨S1x256x768, .f32⟩
  | 6 => ⟨S1x256, .f32⟩
  | 7 => ⟨S1x256x1024, .f32⟩
  | 8 => ⟨S4096x32, .f32⟩
  | 9 => ⟨S4096x32, .f32⟩
  | 10 => ⟨S2x512, .f32⟩
  | 11 => ⟨S2x512, .f32⟩
  | 12 => ⟨S8x1x6144, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S1024, .f32⟩
  | 20 => ⟨S8x4096x1024, .f32⟩
  | 21 => ⟨S_, .f32⟩
  | 22 => ⟨S8x4096, .f32⟩
  | 23 => ⟨S8x4096x1, .f32⟩
  | 24 => ⟨S_, .f32⟩
  | 25 => ⟨S8x4096x1, .f32⟩
  | 26 => ⟨S8x4096x1, .f32⟩
  | 27 => ⟨S_, .f32⟩
  | 28 => ⟨S8x4096x1, .f32⟩
  | 29 => ⟨S8x4096x1, .f32⟩
  | 30 => ⟨S8x4096x1, .f32⟩
  | 31 => ⟨S8x4096x1024, .f32⟩
  | 32 => ⟨S8x4096x1024, .f32⟩
  | 33 => ⟨S1x1x1024, .f32⟩
  | 34 => ⟨S8x4096x1024, .f32⟩
  | 35 => ⟨S8x4096x1024, .f32⟩
  | 36 => ⟨S_, .f32⟩
  | 37 => ⟨S8x1x1024, .f32⟩
  | 38 => ⟨S8x1x1024, .f32⟩
  | 39 => ⟨S8x4096x1024, .f32⟩
  | 40 => ⟨S8x4096x1024, .f32⟩
  | 41 => ⟨S8x4096x1024, .f32⟩
  | 42 => ⟨S8x4096x1024, .f32⟩
  | 43 => ⟨S1024x3136, .f32⟩
  | 44 => ⟨S8x4096x3136, .f32⟩
  | 45 => ⟨S8x4096x256, .f32⟩
  | 46 => ⟨S8x4096x256, .f32⟩
  | 47 => ⟨S8x4096x64, .f32⟩
  | 48 => ⟨S8x4096x512, .f32⟩
  | 49 => ⟨S8x4096x512, .f32⟩
  | 50 => ⟨S8x4096x512, .f32⟩
  | 51 => ⟨S8x4096x512, .f32⟩
  | 52 => ⟨S8x4096x512, .f32⟩
  | 53 => ⟨S256, .f32⟩
  | 54 => ⟨S8x4096x256, .f32⟩
  | 55 => ⟨S_, .f32⟩
  | 56 => ⟨S8x4096, .f32⟩
  | 57 => ⟨S8x4096x1, .f32⟩
  | 58 => ⟨S_, .f32⟩
  | 59 => ⟨S8x4096x1, .f32⟩
  | 60 => ⟨S8x4096x1, .f32⟩
  | 61 => ⟨S_, .f32⟩
  | 62 => ⟨S8x4096x1, .f32⟩
  | 63 => ⟨S8x4096x1, .f32⟩
  | 64 => ⟨S8x4096x1, .f32⟩
  | 65 => ⟨S8x4096x256, .f32⟩
  | 66 => ⟨S8x4096x256, .f32⟩
  | 67 => ⟨S1x1x256, .f32⟩
  | 68 => ⟨S8x4096x256, .f32⟩
  | 69 => ⟨S8x4096x256, .f32⟩
  | 70 => ⟨S256x768, .f32⟩
  | 71 => ⟨S8x4096x768, .f32⟩
  | 72 => ⟨S8x4096x4x192, .f32⟩
  | 73 => ⟨S8x4096x4x128, .f32⟩
  | 74 => ⟨S8x4096x4x64, .f32⟩
  | 75 => ⟨S4096x1x32, .f32⟩
  | 76 => ⟨S4096x1x32, .f32⟩
  | 77 => ⟨S8x4096x4x32, .f32⟩
  | 78 => ⟨S4096x1x16, .f32⟩
  | 79 => ⟨S4096x1x16, .f32⟩
  | 80 => ⟨S8x4096x4x16, .f32⟩
  | 81 => ⟨S8x4096x4x16, .f32⟩
  | 82 => ⟨S1x4096x1x16, .f32⟩
  | 83 => ⟨S8x4096x4x16, .f32⟩
  | 84 => ⟨S8x4096x4x16, .f32⟩
  | 85 => ⟨S1x4096x1x16, .f32⟩
  | 86 => ⟨S8x4096x4x16, .f32⟩
  | 87 => ⟨S8x4096x4x16, .f32⟩
  | 88 => ⟨S8x4096x4x16, .f32⟩
  | 89 => ⟨S1x4096x1x16, .f32⟩
  | 90 => ⟨S8x4096x4x16, .f32⟩
  | 91 => ⟨S8x4096x4x16, .f32⟩
  | 92 => ⟨S1x4096x1x16, .f32⟩
  | 93 => ⟨S8x4096x4x16, .f32⟩
  | 94 => ⟨S8x4096x4x16, .f32⟩
  | 95 => ⟨S8x4096x4x16, .f32⟩
  | 96 => ⟨S8x4096x4x32, .f32⟩
  | 97 => ⟨S8x4096x4x32, .f32⟩
  | 98 => ⟨S4096x1x16, .f32⟩
  | 99 => ⟨S4096x1x16, .f32⟩
  | 100 => ⟨S8x4096x4x16, .f32⟩
  | 101 => ⟨S8x4096x4x16, .f32⟩
  | 102 => ⟨S1x4096x1x16, .f32⟩
  | 103 => ⟨S8x4096x4x16, .f32⟩
  | 104 => ⟨S8x4096x4x16, .f32⟩
  | 105 => ⟨S1x4096x1x16, .f32⟩
  | 106 => ⟨S8x4096x4x16, .f32⟩
  | 107 => ⟨S8x4096x4x16, .f32⟩
  | 108 => ⟨S8x4096x4x16, .f32⟩
  | 109 => ⟨S1x4096x1x16, .f32⟩
  | 110 => ⟨S8x4096x4x16, .f32⟩
  | 111 => ⟨S8x4096x4x16, .f32⟩
  | 112 => ⟨S1x4096x1x16, .f32⟩
  | 113 => ⟨S8x4096x4x16, .f32⟩
  | 114 => ⟨S8x4096x4x16, .f32⟩
  | 115 => ⟨S8x4096x4x16, .f32⟩
  | 116 => ⟨S8x4096x4x32, .f32⟩
  | 117 => ⟨S8x4096x4x64, .f32⟩
  | 118 => ⟨S8x4096x4x192, .f32⟩
  | 119 => ⟨S256, .f32⟩
  | 120 => ⟨S8x4096x256, .f32⟩
  | 121 => ⟨S_, .f32⟩
  | 122 => ⟨S8x4096, .f32⟩
  | 123 => ⟨S8x4096x1, .f32⟩
  | 124 => ⟨S_, .f32⟩
  | 125 => ⟨S8x4096x1, .f32⟩
  | 126 => ⟨S8x4096x1, .f32⟩
  | 127 => ⟨S_, .f32⟩
  | _ => ⟨S8x4096x1024, .f32⟩

abbrev hbmTy0_1 (i : Nat) : BufTy := match i % 128 with
  | 0 => ⟨S8x4096x1, .f32⟩
  | 1 => ⟨S8x4096x1, .f32⟩
  | 2 => ⟨S8x4096x1, .f32⟩
  | 3 => ⟨S8x4096x256, .f32⟩
  | 4 => ⟨S8x4096x256, .f32⟩
  | 5 => ⟨S1x1x256, .f32⟩
  | 6 => ⟨S8x4096x256, .f32⟩
  | 7 => ⟨S8x4096x256, .f32⟩
  | 8 => ⟨S256x1024, .f32⟩
  | 9 => ⟨S8x4096x1024, .f32⟩
  | 10 => ⟨S8x4096x4x256, .f32⟩
  | 11 => ⟨S8x4096x4x128, .f32⟩
  | 12 => ⟨S8x4096x4x128, .f32⟩
  | 13 => ⟨S8x4096x32, .f32⟩
  | 14 => ⟨S4096x16, .f32⟩
  | 15 => ⟨S4096x16, .f32⟩
  | 16 => ⟨S8x4096x16, .f32⟩
  | 17 => ⟨S8x4096x16, .f32⟩
  | 18 => ⟨S1x4096x16, .f32⟩
  | 19 => ⟨S8x4096x16, .f32⟩
  | 20 => ⟨S8x4096x16, .f32⟩
  | 21 => ⟨S1x4096x16, .f32⟩
  | 22 => ⟨S8x4096x16, .f32⟩
  | 23 => ⟨S8x4096x16, .f32⟩
  | 24 => ⟨S8x4096x16, .f32⟩
  | 25 => ⟨S1x4096x16, .f32⟩
  | 26 => ⟨S8x4096x16, .f32⟩
  | 27 => ⟨S8x4096x16, .f32⟩
  | 28 => ⟨S1x4096x16, .f32⟩
  | 29 => ⟨S8x4096x16, .f32⟩
  | 30 => ⟨S8x4096x16, .f32⟩
  | 31 => ⟨S8x4096x16, .f32⟩
  | 32 => ⟨S8x4096x32, .f32⟩
  | 33 => ⟨S8x4096x32, .f32⟩
  | 34 => ⟨S4096x16, .f32⟩
  | 35 => ⟨S4096x16, .f32⟩
  | 36 => ⟨S8x4096x16, .f32⟩
  | 37 => ⟨S8x4096x16, .f32⟩
  | 38 => ⟨S1x4096x16, .f32⟩
  | 39 => ⟨S8x4096x16, .f32⟩
  | 40 => ⟨S8x4096x16, .f32⟩
  | 41 => ⟨S1x4096x16, .f32⟩
  | 42 => ⟨S8x4096x16, .f32⟩
  | 43 => ⟨S8x4096x16, .f32⟩
  | 44 => ⟨S8x4096x16, .f32⟩
  | 45 => ⟨S1x4096x16, .f32⟩
  | 46 => ⟨S8x4096x16, .f32⟩
  | 47 => ⟨S8x4096x16, .f32⟩
  | 48 => ⟨S1x4096x16, .f32⟩
  | 49 => ⟨S8x4096x16, .f32⟩
  | 50 => ⟨S8x4096x16, .f32⟩
  | 51 => ⟨S8x4096x16, .f32⟩
  | 52 => ⟨S8x4096x32, .f32⟩
  | 53 => ⟨S8x4096x64, .f32⟩
  | 54 => ⟨S8x4096x1x64, .f32⟩
  | 55 => ⟨S8x4096x4x64, .f32⟩
  | 56 => ⟨S8x4096x4x192, .f32⟩
  | 57 => ⟨S8x4x192x4096, .f32⟩
  | 58 => ⟨S8x4x192x4096, .bf16⟩
  | 59 => ⟨S8x4x4096x192, .f32⟩
  | 60 => ⟨S8x4x4096x192, .bf16⟩
  | 61 => ⟨S8x4x128x4096, .f32⟩
  | 62 => ⟨S8x4x128x4096, .bf16⟩
  | 63 => ⟨S8x4096x4x128, .f32⟩
  | 64 => ⟨S8x4096x4x128, .f32⟩
  | 65 => ⟨S8x4096x4x128, .f32⟩
  | 66 => ⟨S_, .f32⟩
  | 67 => ⟨S512, .f32⟩
  | 68 => ⟨S_, .f32⟩
  | 69 => ⟨S512, .f32⟩
  | 70 => ⟨S512, .f32⟩
  | 71 => ⟨S1x512, .f32⟩
  | 72 => ⟨S2x512, .f32⟩
  | 73 => ⟨S2x512, .f32⟩
  | 74 => ⟨S2x512, .f32⟩
  | 75 => ⟨S_, .f32⟩
  | 76 => ⟨S512, .f32⟩
  | 77 => ⟨S1x512, .f32⟩
  | 78 => ⟨S2x512, .f32⟩
  | 79 => ⟨S2x512, .f32⟩
  | 80 => ⟨S1x512, .f32⟩
  | 81 => ⟨S512, .f32⟩
  | 82 => ⟨S_, .f32⟩
  | 83 => ⟨S512, .f32⟩
  | 84 => ⟨S512, .f32⟩
  | 85 => ⟨S8x4096x512, .f32⟩
  | 86 => ⟨S8x4096x512, .f32⟩
  | 87 => ⟨S_, .f32⟩
  | 88 => ⟨S8x4096x512, .f32⟩
  | 89 => ⟨S8x4096x512, .f32⟩
  | 90 => ⟨S_, .f32⟩
  | 91 => ⟨S8x4096x512, .f32⟩
  | 92 => ⟨S8x4096x512, .f32⟩
  | 93 => ⟨S1x1x512, .f32⟩
  | 94 => ⟨S8x4096x512, .f32⟩
  | 95 => ⟨S8x4096x512, .f32⟩
  | 96 => ⟨S1x1x512, .f32⟩
  | 97 => ⟨S8x4096x512, .f32⟩
  | 98 => ⟨S8x4096x512, .f32⟩
  | 99 => ⟨S_, .f32⟩
  | 100 => ⟨S8x4096x512, .f32⟩
  | 101 => ⟨S8x4096x512, .f32⟩
  | 102 => ⟨S8x4096x4x128, .f32⟩
  | 103 => ⟨S_, .f32⟩
  | 104 => ⟨S512, .f32⟩
  | 105 => ⟨S_, .f32⟩
  | 106 => ⟨S512, .f32⟩
  | 107 => ⟨S512, .f32⟩
  | 108 => ⟨S1x512, .f32⟩
  | 109 => ⟨S2x512, .f32⟩
  | 110 => ⟨S2x512, .f32⟩
  | 111 => ⟨S2x512, .f32⟩
  | 112 => ⟨S_, .f32⟩
  | 113 => ⟨S512, .f32⟩
  | 114 => ⟨S1x512, .f32⟩
  | 115 => ⟨S2x512, .f32⟩
  | 116 => ⟨S2x512, .f32⟩
  | 117 => ⟨S1x512, .f32⟩
  | 118 => ⟨S512, .f32⟩
  | 119 => ⟨S_, .f32⟩
  | 120 => ⟨S512, .f32⟩
  | 121 => ⟨S512, .f32⟩
  | 122 => ⟨S8x4096x512, .f32⟩
  | 123 => ⟨S8x4096x512, .f32⟩
  | 124 => ⟨S_, .f32⟩
  | 125 => ⟨S8x4096x512, .f32⟩
  | 126 => ⟨S8x4096x512, .f32⟩
  | 127 => ⟨S_, .f32⟩
  | _ => ⟨S8x4096x1024, .f32⟩

abbrev hbmTy0_2 (i : Nat) : BufTy := match i % 128 with
  | 0 => ⟨S8x4096x512, .f32⟩
  | 1 => ⟨S8x4096x512, .f32⟩
  | 2 => ⟨S1x1x512, .f32⟩
  | 3 => ⟨S8x4096x512, .f32⟩
  | 4 => ⟨S8x4096x512, .f32⟩
  | 5 => ⟨S1x1x512, .f32⟩
  | 6 => ⟨S8x4096x512, .f32⟩
  | 7 => ⟨S8x4096x512, .f32⟩
  | 8 => ⟨S_, .f32⟩
  | 9 => ⟨S8x4096x512, .f32⟩
  | 10 => ⟨S8x4096x512, .f32⟩
  | 11 => ⟨S8x4096x4x128, .f32⟩
  | 12 => ⟨S8x4x4096x128, .f32⟩
  | 13 => ⟨S8x4x4096x128, .bf16⟩
  | 14 => ⟨S8x4x4096x128, .f32⟩
  | 15 => ⟨S8x4x4096x128, .bf16⟩
  | 16 => ⟨S8x4x4096x128, .f32⟩
  | 17 => ⟨S8x4x4096x128, .bf16⟩
  | 18 => ⟨S8x4x4096x128, .f32⟩
  | 19 => ⟨S8x4x4096x128, .bf16⟩
  | 20 => ⟨S8x4x4096x128, .f32⟩
  | 21 => ⟨S8x4x4096x128, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_6 : Ref sig .tc := ⟨.hbm, 121, rfl⟩
abbrev main_v102 : Ref sig .tc := ⟨.hbm, 122, rfl⟩
abbrev main_v103 : Ref sig .tc := ⟨.hbm, 123, rfl⟩
abbrev main_cst_7 : Ref sig .tc := ⟨.hbm, 124, rfl⟩
abbrev main_v104 : Ref sig .tc := ⟨.hbm, 125, rfl⟩
abbrev main_v105 : Ref sig .tc := ⟨.hbm, 126, rfl⟩
abbrev main_cst_8 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_cst_9 : Ref sig .tc := ⟨.hbm, 194, rfl⟩
abbrev main_v172 : Ref sig .tc := ⟨.hbm, 195, rfl⟩
abbrev main_cst_10 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_cst_11 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_cst_12 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_cst_13 : Ref sig .tc := ⟨.hbm, 215, rfl⟩
abbrev main_v189 : Ref sig .tc := ⟨.hbm, 216, rfl⟩
abbrev main_v190 : Ref sig .tc := ⟨.hbm, 217, rfl⟩
abbrev main_cst_14 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_cst_15 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_cst_16 : Ref sig .tc := ⟨.hbm, 231, rfl⟩
abbrev main_v202 : Ref sig .tc := ⟨.hbm, 232, rfl⟩
abbrev main_cst_17 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_cst_18 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_cst_19 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_cst_20 : Ref sig .tc := ⟨.hbm, 252, rfl⟩
abbrev main_v219 : Ref sig .tc := ⟨.hbm, 253, rfl⟩
abbrev main_v220 : Ref sig .tc := ⟨.hbm, 254, rfl⟩
abbrev main_cst_21 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_cst_22 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩

abbrev nD : Nat := 1
abbrev τ : Topo := Topo.v7x

variable {F : FTy → Type} [FloatOps F]
-- ==== Proof.AttnIdealTrip.lean ====
/- What one trip of the attention kernel's loop writes, as functions of the blocks the kernel reads.
   The kernel keeps the scores of one chunk in a scratch buffer while it computes those of the next:
   two slots of scores and two slots of their column maxima. A trip finishes two tiles of 512
   queries; the first of them starts from the scores the trip before it (or the lines before the
   loop) left in slot 0. Stated at any float interpretation. -/
module

public import proofs.«01_k».proof.Proof.Gen.AttnIdeal.Frame
public import proofs.«01_k».proof.Proof.Gen.AttnIdeal.Loops

@[expose] public section

set_option maxRecDepth 16384

noncomputable section

namespace Cert.AttnIdeal.Trip

open Idealize.ShloMosaic Idealize.ShloMosaic.TcCoe Idealize.ShloMosaic.Tactic
open Cert.AttnIdeal.Gen

variable {F : FTy → Type} [FloatOps F] [Named F]

/-! ## The tile of 512 queries -/

/-- The scores of a query tile, scaled by the kernel's constant, against the 256 context keys, as a
    slot of the scratch holds them. -/
def ctxScores (q : Vec F S1x1x192x512 .bf16) (kc : Vec F S1x1x256x192 .bf16) : FVec F S1x256x512 .f32 :=
  k0_pay41 q kc

/-- The column maxima of `ctxScores`. -/
def ctxMax (q : Vec F S1x1x192x512 .bf16) (kc : Vec F S1x1x256x192 .bf16) : FVec F S1x1x512 .f32 :=
  k0_pay42 q kc

/-- The scores of a query tile against 1024 of the lm keys. -/
def lmScores (q : Vec F S1x1x192x512 .bf16) (kl : Vec F S1x1x1024x192 .bf16) : FVec F S1x1024x512 .f32 :=
  k0_pay6 q kl

/-- The column maxima of `lmScores`. -/
def lmMax (q : Vec F S1x1x192x512 .bf16) (kl : Vec F S1x1x1024x192 .bf16) : FVec F S1x1x512 .f32 :=
  k0_pay7 q kl

/-- The running maximum after the context chunk. -/
def m0 (q : Vec F S1x1x192x512 .bf16) (kc : Vec F S1x1x256x192 .bf16) : FVec F S1x512 .f32 :=
  k0_pay8 (ctxMax q kc)

/-- The running maximum after one more chunk of lm keys. -/
def mNext (m : FVec F S1x512 .f32) (q : Vec F S1x1x192x512 .bf16) (kl : Vec F S1x1x1024x192 .bf16) :
    FVec F S1x512 .f32 :=
  k0_pay15 m (lmMax q kl)

/-- The running sum of the weights after the context chunk. -/
def l0 (q : Vec F S1x1x192x512 .bf16) (kc : Vec F S1x1x256x192 .bf16) : FVec F S1x512 .f32 :=
  k0_pay10 (ctxMax q kc) (ctxScores q kc)

/-- The running sum of the weights after one more chunk of lm keys. -/
def lNext (m l : FVec F S1x512 .f32) (q : Vec F S1x1x192x512 .bf16) (kl : Vec F S1x1x1024x192 .bf16) :
    FVec F S1x512 .f32 :=
  k0_pay62 m l (lmMax q kl) (lmScores q kl)

/-- The running weighted sum of the value rows after the context chunk. -/
def a0 (q : Vec F S1x1x192x512 .bf16) (kc : Vec F S1x1x256x192 .bf16) (vc : Vec F S1x1x128x256 .bf16) :
    FVec F S128x512 .f32 :=
  k0_pay11 (k0_pay9 (ctxMax q kc) (ctxScores q kc)) vc

/-- The running weighted sum of the value rows after one more chunk of lm keys. -/
def aNext (m : FVec F S1x512 .f32) (a : FVec F S128x512 .f32) (q : Vec F S1x1x192x512 .bf16)
    (kl : Vec F S1x1x1024x192 .bf16) (vl : Vec F S1x1x128x1024 .bf16) : FVec F S128x512 .f32 :=
  k0_pay63 m a (lmMax q kl) (lmScores q kl) vl

/-- The finished tile: the last chunk folded in, the weighted sum over the sum of the weights,
    transposed. -/
def fin (m l : FVec F S1x512 .f32) (a : FVec F S128x512 .f32) (q : Vec F S1x1x192x512 .bf16)
    (kl : Vec F S1x1x1024x192 .bf16) (vl : Vec F S1x1x128x1024 .bf16) : FVec F S1x512x128 .bf16 :=
  k0_pay3 (k0_pay85 m l a (lmMax q kl) (lmScores q kl) vl)

/-- One tile of the kernel's result: the online softmax over the context keys and the four chunks of
    lm keys. -/
def tile (q : Vec F S1x1x192x512 .bf16) (kc : Vec F S1x1x256x192 .bf16) (vc : Vec F S1x1x128x256 .bf16)
    (k0 k1 k2 k3 : Vec F S1x1x1024x192 .bf16) (v0 v1 v2 v3 : Vec F S1x1x128x1024 .bf16) :
    FVec F S1x512x128 .bf16 :=
  fin (mNext (mNext (mNext (m0 q kc) q k0) q k1) q k2)
    (lNext (mNext (mNext (m0 q kc) q k0) q k1) (lNext (mNext (m0 q kc) q k0) (lNext (m0 q kc) (l0 q kc) q k0) q k1) q k2)
    (aNext (mNext (mNext (m0 q kc) q k0) q k1)
      (aNext (mNext (m0 q kc) q k0) (aNext (m0 q kc) (a0 q kc vc) q k0 v0) q k1 v1) q k2 v2) q k3 v3

/-! ## Reads of the two scratch buffers -/

/-- Rectangles of the score scratch in different slots share no index. -/
theorem disjoint16 {a b : ℕ} {s s' : Fin 3 → ℕ} {inb inb'} (h : a + s 0 ≤ b ∨ b + s' 0 ≤ a) :
    Disjoint (Rect.unit (s := S2x1024x512) ![a, 0, 0] s inb).set (Rect.unit (s := S2x1024x512) ![b, 0, 0] s' inb').set :=
  Rect.unit_disjoint (s := S2x1024x512) 0 h

/-- Rectangles of the maxima scratch in different slots share no index. -/
theorem disjoint17 {a b : ℕ} {s s' : Fin 3 → ℕ} {inb inb'} (h : a + s 0 ≤ b ∨ b + s' 0 ≤ a) :
    Disjoint (Rect.unit (s := S2x8x512) ![a, 0, 0] s inb).set (Rect.unit (s := S2x8x512) ![b, 0, 0] s' inb').set :=
  Rect.unit_disjoint (s := S2x8x512) 0 h

/-- A load of the rectangle written last but one, apart from the one written last, reads what was
    written there. -/
theorem cov {s : Shape} {e : EltTy} (v : View sig .tc .vmem s e) (r' r : Rect s) (w' : r'.shape.Idx → Elt F e)
    (w : r.shape.Idx → Elt F e) (L : List (View.Piece (Elt F) s e)) (h : Disjoint r'.set r.set) :
    v.readCov (⟨r', w'⟩ :: ⟨r, w⟩ :: L) r.toLoadRect = w :=
  (View.readCov_cons_of_disjoint v ⟨r', w'⟩ _ _ h).trans (View.readCov_cons_toLoadRect v r w L)

/-- A load of the slot of the score scratch written last but one, the last write being in the other
    slot, reads what was written there. -/
theorem cov16 (v : View sig .tc .vmem S2x1024x512 .f32) {a b : ℕ} {s s' : Fin 3 → ℕ}
    {inb : ∀ x, (![a, 0, 0] : Fin 3 → ℕ) x + s x ≤ S2x1024x512.size x} {inb' : ∀ x, (![b, 0, 0] : Fin 3 → ℕ) x + s' x ≤ S2x1024x512.size x}
    (w' : (Rect.unit (s := S2x1024x512) ![a, 0, 0] s inb).shape.Idx → Elt F .f32)
    (w : (Rect.unit (s := S2x1024x512) ![b, 0, 0] s' inb').shape.Idx → Elt F .f32)
    (L : List (View.Piece (Elt F) S2x1024x512 .f32)) (h : a + s 0 ≤ b ∨ b + s' 0 ≤ a) :
    v.readCov (⟨Rect.unit (s := S2x1024x512) ![a, 0, 0] s inb, w'⟩ :: ⟨Rect.unit (s := S2x1024x512) ![b, 0, 0] s' inb', w⟩ :: L)
      (Rect.unit (s := S2x1024x512) ![b, 0, 0] s' inb').toLoadRect = w :=
  cov v _ _ w' w L (disjoint16 (inb := inb) (inb' := inb') h)

/-- A load of the slot of the maxima scratch written last but one, the last write being in the other
    slot, reads what was written there. -/
theorem cov17 (v : View sig .tc .vmem S2x8x512 .f32) {a b : ℕ} {s s' : Fin 3 → ℕ}
    {inb : ∀ x, (![a, 0, 0] : Fin 3 → ℕ) x + s x ≤ S2x8x512.size x} {inb' : ∀ x, (![b, 0, 0] : Fin 3 → ℕ) x + s' x ≤ S2x8x512.size x}
    (w' : (Rect.unit (s := S2x8x512) ![a, 0, 0] s inb).shape.Idx → Elt F .f32)
    (w : (Rect.unit (s := S2x8x512) ![b, 0, 0] s' inb').shape.Idx → Elt F .f32)
    (L : List (View.Piece (Elt F) S2x8x512 .f32)) (h : a + s 0 ≤ b ∨ b + s' 0 ≤ a) :
    v.readCov (⟨Rect.unit (s := S2x8x512) ![a, 0, 0] s inb, w'⟩ :: ⟨Rect.unit (s := S2x8x512) ![b, 0, 0] s' inb', w⟩ :: L)
      (Rect.unit (s := S2x8x512) ![b, 0, 0] s' inb').toLoadRect = w :=
  cov v _ _ w' w L (disjoint17 (inb := inb) (inb' := inb') h)

/-- A load through the rectangle written last reads what was written. -/
theorem readAt_head {sp : Space} {s : Shape} {e : EltTy} (v : View sig .tc sp s e) (f : v.ty.Contents (Elt F))
    (r : Rect s) (w : r.shape.Idx → Elt F e) (L : List (View.Piece (Elt F) s e)) :
    v.readAt (Elt F) r.toLoadRect (v.writes (Elt F) f (⟨r, w⟩ :: L)) = w :=
  funext fun j => View.read_writes_cons_emb v f r w L j

/-- The same where the last writes are given as a list that starts with it. -/
theorem readAt_head_append {sp : Space} {s : Shape} {e : EltTy} (v : View sig .tc sp s e) (f : v.ty.Contents (Elt F))
    (r : Rect s) (w : r.shape.Idx → Elt F e) (L L' P : List (View.Piece (Elt F) s e)) (h : P = ⟨r, w⟩ :: L) :
    v.readAt (Elt F) r.toLoadRect (v.writes (Elt F) f (P ++ L')) = w := by
  subst h; exact readAt_head v f r w (L ++ L')

/-! ## The blocks a trip reads -/

/-- A query tile: 512 columns of the query block from an offset. -/
abbrev qAt (x : Vec F S1x1x192x4096 .bf16) (off : Fin 4 → ℕ)
    (inb : ∀ a, off a + S1x1x192x512.size a ≤ S1x1x192x4096.size a) : Vec F S1x1x192x512 .bf16 :=
  View.ld x (Rect.unit (s := S1x1x192x4096) off S1x1x192x512.size inb)

/-- The context keys. -/
abbrev kcAt (x : Vec F S1x1x256x192 .bf16) : Vec F S1x1x256x192 .bf16 :=
  View.ld x (Rect.unit (s := S1x1x256x192) ![0, 0, 0, 0] S1x1x256x192.size inb_S1x1x256x192_S1x1x256x192_0_0_0_0)

/-- The context values. -/
abbrev vcAt (x : Vec F S1x1x128x256 .bf16) : Vec F S1x1x128x256 .bf16 :=
  View.ld x (Rect.unit (s := S1x1x128x256) ![0, 0, 0, 0] S1x1x128x256.size inb_S1x1x128x256_S1x1x128x256_0_0_0_0)

/-- A chunk of 1024 lm keys from an offset. -/
abbrev klAt (x : Vec F S1x1x4096x192 .bf16) (n : ℕ)
    (inb : ∀ a, (![0, 0, n, 0] : Fin 4 → ℕ) a + S1x1x1024x192.size a ≤ S1x1x4096x192.size a) :
    Vec F S1x1x1024x192 .bf16 :=
  View.ld x (Rect.unit (s := S1x1x4096x192) ![0, 0, n, 0] S1x1x1024x192.size inb)

/-- A chunk of 1024 lm values from an offset. -/
abbrev vlAt (x : Vec F S1x1x128x4096 .bf16) (n : ℕ)
    (inb : ∀ a, (![0, 0, 0, n] : Fin 4 → ℕ) a + S1x1x128x1024.size a ≤ S1x1x128x4096.size a) :
    Vec F S1x1x128x1024 .bf16 :=
  View.ld x (Rect.unit (s := S1x1x128x4096) ![0, 0, 0, n] S1x1x128x1024.size inb)

/-- The tile of the query columns from an offset, of the whole blocks. -/
def tileAt (x2 : Vec F S1x1x192x4096 .bf16) (x3 : Vec F S1x1x256x192 .bf16) (x4 : Vec F S1x1x4096x192 .bf16)
    (x5 : Vec F S1x1x128x256 .bf16) (x6 : Vec F S1x1x128x4096 .bf16) (off : Fin 4 → ℕ)
    (inb : ∀ a, off a + S1x1x192x512.size a ≤ S1x1x192x4096.size a) : FVec F S1x512x128 .bf16 :=
  tile (qAt x2 off inb) (kcAt x3) (vcAt x5)
    (klAt x4 0 inb_S1x1x4096x192_S1x1x1024x192_0_0_0_0) (klAt x4 1024 inb_S1x1x4096x192_S1x1x1024x192_0_0_1024_0)
    (klAt x4 2048 inb_S1x1x4096x192_S1x1x1024x192_0_0_2048_0) (klAt x4 3072 inb_S1x1x4096x192_S1x1x1024x192_0_0_3072_0)
    (vlAt x6 0 inb_S1x1x128x4096_S1x1x128x1024_0_0_0_0) (vlAt x6 1024 inb_S1x1x128x4096_S1x1x128x1024_0_0_0_1024)
    (vlAt x6 2048 inb_S1x1x128x4096_S1x1x128x1024_0_0_0_2048) (vlAt x6 3072 inb_S1x1x128x4096_S1x1x128x1024_0_0_0_3072)

/-! ## One trip -/

/-- The slot of the score scratch a trip starts from. -/
abbrev slot16 : Rect S2x1024x512 :=
  Rect.unit (s := S2x1024x512) ![0, 0, 0] S1x256x512.size inb_S2x1024x512_S1x256x512_0_0_0

/-- The slot of the maxima scratch a trip starts from. -/
abbrev slot17 : Rect S2x8x512 :=
  Rect.unit (s := S2x8x512) ![0, 0, 0] S1x1x512.size inb_S2x8x512_S1x1x512_0_0_0

/-- A trip that finds the context scores of its first tile and their maxima in slot 0 writes its two
    tiles. -/
theorem trip_out (𝒱 : Variants) (c : Dev nD) (bd : Option 𝒱.V) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (k : Fin k0_t1_loop.trips) (f11 : BufTy.Contents (Elt F) arg11.view.ty)
    (f16 : BufTy.Contents (Elt F) arg16.view.ty) (f17 : BufTy.Contents (Elt F) arg17.view.ty)
    (h16 : arg16.view.readAt (Elt F) slot16.toLoadRect f16
      = ctxScores (qAt (arg2.view.read (Elt F) X_arg2) (k0_off1 k) (k0_off1_inb k)) (kcAt (arg3.view.read (Elt F) X_arg3)))
    (h17 : arg17.view.readAt (Elt F) slot17.toLoadRect f17
      = ctxMax (qAt (arg2.view.read (Elt F) X_arg2) (k0_off1 k) (k0_off1_inb k)) (kcAt (arg3.view.read (Elt F) X_arg3))) :
    (trip_k0_t1 (F := F) 𝒱 c bd i arg2 harg2 arg3 harg3 arg4 harg4 arg5 harg5 arg6 harg6 arg7 harg7 arg8
      harg8 arg9 harg9 arg10 harg10 arg11 harg11 arg12 harg12 arg13 harg13 arg14 harg14 arg15 harg15 arg16
      harg16 arg17 harg17 X_arg2 X_arg3 X_arg4 X_arg5 X_arg6 k).1 f11 f16 f17
      = [⟨Rect.unit (s := S1x4096x128) (k0_off5 k) S1x512x128.size (k0_off5_inb k),
          tileAt (arg2.view.read (Elt F) X_arg2) (arg3.view.read (Elt F) X_arg3) (arg4.view.read (Elt F) X_arg4)
            (arg5.view.read (Elt F) X_arg5) (arg6.view.read (Elt F) X_arg6) (k0_off2 k) (k0_off2_inb k)⟩,
        ⟨Rect.unit (s := S1x4096x128) (k0_off3 k) S1x512x128.size (k0_off3_inb k),
          tileAt (arg2.view.read (Elt F) X_arg2) (arg3.view.read (Elt F) X_arg3) (arg4.view.read (Elt F) X_arg4)
            (arg5.view.read (Elt F) X_arg5) (arg6.view.read (Elt F) X_arg6) (k0_off1 k) (k0_off1_inb k)⟩] := by
  have e54 : trip_k0_t1.sl.v54 arg17 f17 = _ := h17
  have e56 : trip_k0_t1.sl.v56 arg16 f16 = _ := h16
  have e78 : trip_k0_t1.sl.v78 arg2 arg4 arg17 X_arg2 X_arg4 k
      = lmMax (qAt (arg2.view.read (Elt F) X_arg2) (k0_off1 k) (k0_off1_inb k)) (klAt (arg4.view.read (Elt F) X_arg4) 0 inb_S1x1x4096x192_S1x1x1024x192_0_0_0_0) := by
    delta trip_k0_t1.sl.v78 trip_k0_t1.sl.HW_arg17_2
    exact cov17 arg17.view _ _ _ (by decide)
  have e81 : trip_k0_t1.sl.v81 arg2 arg4 arg16 X_arg2 X_arg4 k
      = lmScores (qAt (arg2.view.read (Elt F) X_arg2) (k0_off1 k) (k0_off1_inb k)) (klAt (arg4.view.read (Elt F) X_arg4) 0 inb_S1x1x4096x192_S1x1x1024x192_0_0_0_0) := by
    delta trip_k0_t1.sl.v81 trip_k0_t1.sl.HW_arg16_2
    exact cov16 arg16.view _ _ _ (by decide)
  have e110 : trip_k0_t1.sl.v110 arg2 arg4 arg17 X_arg2 X_arg4 k
      = lmMax (qAt (arg2.view.read (Elt F) X_arg2) (k0_off1 k) (k0_off1_inb k)) (klAt (arg4.view.read (Elt F) X_arg4) 1024 inb_S1x1x4096x192_S1x1x1024x192_0_0_1024_0) := by
    delta trip_k0_t1.sl.v110 trip_k0_t1.sl.HW_arg17_3 trip_k0_t1.sl.HW_arg17_2
    exact cov17 arg17.view _ _ _ (by decide)
  have e113 : trip_k0_t1.sl.v113 arg2 arg4 arg16 X_arg2 X_arg4 k
      = lmScores (qAt (arg2.view.read (Elt F) X_arg2) (k0_off1 k) (k0_off1_inb k)) (klAt (arg4.view.read (Elt F) X_arg4) 1024 inb_S1x1x4096x192_S1x1x1024x192_0_0_1024_0) := by
    delta trip_k0_t1.sl.v113 trip_k0_t1.sl.HW_arg16_3 trip_k0_t1.sl.HW_arg16_2
    exact cov16 arg16.view _ _ _ (by decide)
  have e142 : trip_k0_t1.sl.v142 arg2 arg4 arg17 X_arg2 X_arg4 k
      = lmMax (qAt (arg2.view.read (Elt F) X_arg2) (k0_off1 k) (k0_off1_inb k)) (klAt (arg4.view.read (Elt F) X_arg4) 2048 inb_S1x1x4096x192_S1x1x1024x192_0_0_2048_0) := by
    delta trip_k0_t1.sl.v142 trip_k0_t1.sl.HW_arg17_4 trip_k0_t1.sl.HW_arg17_3
    exact cov17 arg17.view _ _ _ (by decide)
  have e145 : trip_k0_t1.sl.v145 arg2 arg4 arg16 X_arg2 X_arg4 k
      = lmScores (qAt (arg2.view.read (Elt F) X_arg2) (k0_off1 k) (k0_off1_inb k)) (klAt (arg4.view.read (Elt F) X_arg4) 2048 inb_S1x1x4096x192_S1x1x1024x192_0_0_2048_0) := by
    delta trip_k0_t1.sl.v145 trip_k0_t1.sl.HW_arg16_4 trip_k0_t1.sl.HW_arg16_3
    exact cov16 arg16.view _ _ _ (by decide)
  have e183 : trip_k0_t1.sl.v183 arg2 arg3 arg4 arg17 X_arg2 X_arg3 X_arg4 k
      = lmMax (qAt (arg2.view.read (Elt F) X_arg2) (k0_off1 k) (k0_off1_inb k)) (klAt (arg4.view.read (Elt F) X_arg4) 3072 inb_S1x1x4096x192_S1x1x1024x192_0_0_3072_0) := by
    delta trip_k0_t1.sl.v183 trip_k0_t1.sl.HW_arg17_5 trip_k0_t1.sl.HW_arg17_4
    exact cov17 arg17.view _ _ _ (by decide)
  have e186 : trip_k0_t1.sl.v186 arg2 arg3 arg4 arg16 X_arg2 X_arg3 X_arg4 k
      = lmScores (qAt (arg2.view.read (Elt F) X_arg2) (k0_off1 k) (k0_off1_inb k)) (klAt (arg4.view.read (Elt F) X_arg4) 3072 inb_S1x1x4096x192_S1x1x1024x192_0_0_3072_0) := by
    delta trip_k0_t1.sl.v186 trip_k0_t1.sl.HW_arg16_5 trip_k0_t1.sl.HW_arg16_4
    exact cov16 arg16.view _ _ _ (by decide)
  have e239 : trip_k0_t1.sl.v239 arg2 arg3 arg4 arg17 X_arg2 X_arg3 X_arg4 k
      = ctxMax (qAt (arg2.view.read (Elt F) X_arg2) (k0_off2 k) (k0_off2_inb k)) (kcAt (arg3.view.read (Elt F) X_arg3)) := by
    delta trip_k0_t1.sl.v239 trip_k0_t1.sl.HW_arg17_6 trip_k0_t1.sl.HW_arg17_5
    exact cov17 arg17.view _ _ _ (by decide)
  have e241 : trip_k0_t1.sl.v241 arg2 arg3 arg4 arg16 X_arg2 X_arg3 X_arg4 k
      = ctxScores (qAt (arg2.view.read (Elt F) X_arg2) (k0_off2 k) (k0_off2_inb k)) (kcAt (arg3.view.read (Elt F) X_arg3)) := by
    delta trip_k0_t1.sl.v241 trip_k0_t1.sl.HW_arg16_6 trip_k0_t1.sl.HW_arg16_5
    exact cov16 arg16.view _ _ _ (by decide)
  have e263 : trip_k0_t1.sl.v263 arg2 arg3 arg4 arg17 X_arg2 X_arg3 X_arg4 k
      = lmMax (qAt (arg2.view.read (Elt F) X_arg2) (k0_off2 k) (k0_off2_inb k)) (klAt (arg4.view.read (Elt F) X_arg4) 0 inb_S1x1x4096x192_S1x1x1024x192_0_0_0_0) := by
    delta trip_k0_t1.sl.v263 trip_k0_t1.sl.HW_arg17_7 trip_k0_t1.sl.HW_arg17_6
    exact cov17 arg17.view _ _ _ (by decide)
  have e266 : trip_k0_t1.sl.v266 arg2 arg3 arg4 arg16 X_arg2 X_arg3 X_arg4 k
      = lmScores (qAt (arg2.view.read (Elt F) X_arg2) (k0_off2 k) (k0_off2_inb k)) (klAt (arg4.view.read (Elt F) X_arg4) 0 inb_S1x1x4096x192_S1x1x1024x192_0_0_0_0) := by
    delta trip_k0_t1.sl.v266 trip_k0_t1.sl.HW_arg16_7 trip_k0_t1.sl.HW_arg16_6
    exact cov16 arg16.view _ _ _ (by decide)
  have e295 : trip_k0_t1.sl.v295 arg2 arg3 arg4 arg17 X_arg2 X_arg3 X_arg4 k
      = lmMax (qAt (arg2.view.read (Elt F) X_arg2) (k0_off2 k) (k0_off2_inb k)) (klAt (arg4.view.read (Elt F) X_arg4) 1024 inb_S1x1x4096x192_S1x1x1024x192_0_0_1024_0) := by
    delta trip_k0_t1.sl.v295 trip_k0_t1.sl.HW_arg17_8 trip_k0_t1.sl.HW_arg17_7
    exact cov17 arg17.view _ _ _ (by decide)
  have e298 : trip_k0_t1.sl.v298 arg2 arg3 arg4 arg16 X_arg2 X_arg3 X_arg4 k
      = lmScores (qAt (arg2.view.read (Elt F) X_arg2) (k0_off2 k) (k0_off2_inb k)) (klAt (arg4.view.read (Elt F) X_arg4) 1024 inb_S1x1x4096x192_S1x1x1024x192_0_0_1024_0) := by
    delta trip_k0_t1.sl.v298 trip_k0_t1.sl.HW_arg16_8 trip_k0_t1.sl.HW_arg16_7
    exact cov16 arg16.view _ _ _ (by decide)
  have e327 : trip_k0_t1.sl.v327 arg2 arg3 arg4 arg17 X_arg2 X_arg3 X_arg4 k
      = lmMax (qAt (arg2.view.read (Elt F) X_arg2) (k0_off2 k) (k0_off2_inb k)) (klAt (arg4.view.read (Elt F) X_arg4) 2048 inb_S1x1x4096x192_S1x1x1024x192_0_0_2048_0) := by
    delta trip_k0_t1.sl.v327 trip_k0_t1.sl.HW_arg17_9 trip_k0_t1.sl.HW_arg17_8
    exact cov17 arg17.view _ _ _ (by decide)
  have e330 : trip_k0_t1.sl.v330 arg2 arg3 arg4 arg16 X_arg2 X_arg3 X_arg4 k
      = lmScores (qAt (arg2.view.read (Elt F) X_arg2) (k0_off2 k) (k0_off2_inb k)) (klAt (arg4.view.read (Elt F) X_arg4) 2048 inb_S1x1x4096x192_S1x1x1024x192_0_0_2048_0) := by
    delta trip_k0_t1.sl.v330 trip_k0_t1.sl.HW_arg16_9 trip_k0_t1.sl.HW_arg16_8
    exact cov16 arg16.view _ _ _ (by decide)
  have e368 : trip_k0_t1.sl.v368 arg2 arg3 arg4 arg17 X_arg2 X_arg3 X_arg4 k
      = lmMax (qAt (arg2.view.read (Elt F) X_arg2) (k0_off2 k) (k0_off2_inb k)) (klAt (arg4.view.read (Elt F) X_arg4) 3072 inb_S1x1x4096x192_S1x1x1024x192_0_0_3072_0) := by
    delta trip_k0_t1.sl.v368 trip_k0_t1.sl.HW_arg17_10 trip_k0_t1.sl.HW_arg17_9
    exact cov17 arg17.view _ _ _ (by decide)
  have e371 : trip_k0_t1.sl.v371 arg2 arg3 arg4 arg16 X_arg2 X_arg3 X_arg4 k
      = lmScores (qAt (arg2.view.read (Elt F) X_arg2) (k0_off2 k) (k0_off2_inb k)) (klAt (arg4.view.read (Elt F) X_arg4) 3072 inb_S1x1x4096x192_S1x1x1024x192_0_0_3072_0) := by
    delta trip_k0_t1.sl.v371 trip_k0_t1.sl.HW_arg16_10 trip_k0_t1.sl.HW_arg16_9
    exact cov16 arg16.view _ _ _ (by decide)
  have r_1 : trip_k0_t1.sl.r_1 arg17 f17
      = m0 (qAt (arg2.view.read (Elt F) X_arg2) (k0_off1 k) (k0_off1_inb k)) (kcAt (arg3.view.read (Elt F) X_arg3)) := by
    delta trip_k0_t1.sl.r_1
    rw [e54]
    rfl
  have r_3 : trip_k0_t1.sl.r_3 arg16 arg17 f16 f17
      = l0 (qAt (arg2.view.read (Elt F) X_arg2) (k0_off1 k) (k0_off1_inb k)) (kcAt (arg3.view.read (Elt F) X_arg3)) := by
    delta trip_k0_t1.sl.r_3
    rw [e54, e56]
    rfl
  have w66 : trip_k0_t1.sl.v66 arg5 arg16 arg17 X_arg5 f16 f17
      = a0 (qAt (arg2.view.read (Elt F) X_arg2) (k0_off1 k) (k0_off1_inb k)) (kcAt (arg3.view.read (Elt F) X_arg3)) (vcAt (arg5.view.read (Elt F) X_arg5)) := by
    delta trip_k0_t1.sl.v66 trip_k0_t1.sl.v64 trip_k0_t1.sl.v65 trip_k0_t1.sl.cst_59 trip_k0_t1.sl.r_2
    rw [e54, e56]
    rfl
  have w80 : trip_k0_t1.sl.v80 arg2 arg4 arg17 X_arg2 X_arg4 k f17
      = mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0) := by
    delta trip_k0_t1.sl.v80 trip_k0_t1.sl.v79
    rw [r_1, e78]
    rfl
  have w95 : trip_k0_t1.sl.v95 arg2 arg4 arg16 arg17 X_arg2 X_arg4 k f16 f17
      = lNext (m0 (qAt (arg2.view.read (Elt F) X_arg2) (k0_off1 k) (k0_off1_inb k)) (kcAt (arg3.view.read (Elt F) X_arg3))) (l0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0) := by
    delta trip_k0_t1.sl.v95 trip_k0_t1.sl.v94 trip_k0_t1.sl.v87 trip_k0_t1.sl.v93 trip_k0_t1.sl.v86
      trip_k0_t1.sl.v92 trip_k0_t1.sl.v85 trip_k0_t1.sl.v84 trip_k0_t1.sl.v82 trip_k0_t1.sl.v83
    rw [r_3, r_1, w80, e81]
    rfl
  have w98 : trip_k0_t1.sl.v98 arg2 arg4 arg5 arg6 arg16 arg17 X_arg2 X_arg4 X_arg5 X_arg6 k f16 f17
      = aNext (m0 (qAt (arg2.view.read (Elt F) X_arg2) (k0_off1 k) (k0_off1_inb k)) (kcAt (arg3.view.read (Elt F) X_arg3))) (a0 (qAt (arg2.view.read (Elt F) X_arg2) (k0_off1 k) (k0_off1_inb k)) (kcAt (arg3.view.read (Elt F) X_arg3)) (vcAt (arg5.view.read (Elt F) X_arg5))) (qAt (arg2.view.read (Elt F) X_arg2) (k0_off1 k) (k0_off1_inb k)) (klAt (arg4.view.read (Elt F) X_arg4) 0 inb_S1x1x4096x192_S1x1x1024x192_0_0_0_0) (vlAt (arg6.view.read (Elt F) X_arg6) 0 inb_S1x1x128x4096_S1x1x128x1024_0_0_0_0) := by
    delta trip_k0_t1.sl.v98 trip_k0_t1.sl.v97 trip_k0_t1.sl.v91 trip_k0_t1.sl.v96 trip_k0_t1.sl.v89
      trip_k0_t1.sl.v90 trip_k0_t1.sl.cst_59 trip_k0_t1.sl.v93 trip_k0_t1.sl.v85 trip_k0_t1.sl.v92
      trip_k0_t1.sl.v84 trip_k0_t1.sl.v82 trip_k0_t1.sl.v83
    rw [w66, r_1, w80, e81]
    rfl
  have w112 : trip_k0_t1.sl.v112 arg2 arg4 arg17 X_arg2 X_arg4 k f17
      = mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0) := by
    delta trip_k0_t1.sl.v112 trip_k0_t1.sl.v111
    rw [w80, e110]
    rfl
  have w127 : trip_k0_t1.sl.v127 arg2 arg4 arg16 arg17 X_arg2 X_arg4 k f16 f17
      = lNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (lNext (m0 (qAt (arg2.view.read (Elt F) X_arg2) (k0_off1 k) (k0_off1_inb k)) (kcAt (arg3.view.read (Elt F) X_arg3))) (l0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0) := by
    delta trip_k0_t1.sl.v127 trip_k0_t1.sl.v126 trip_k0_t1.sl.v119 trip_k0_t1.sl.v125 trip_k0_t1.sl.v118
      trip_k0_t1.sl.v124 trip_k0_t1.sl.v117 trip_k0_t1.sl.v116 trip_k0_t1.sl.v114 trip_k0_t1.sl.v115
    rw [w95, w80, w112, e113]
    rfl
  have w130 : trip_k0_t1.sl.v130 arg2 arg4 arg5 arg6 arg16 arg17 X_arg2 X_arg4 X_arg5 X_arg6 k f16 f17
      = aNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (aNext (m0 (qAt (arg2.view.read (Elt F) X_arg2) (k0_off1 k) (k0_off1_inb k)) (kcAt (arg3.view.read (Elt F) X_arg3))) (a0 (qAt (arg2.view.read (Elt F) X_arg2) (k0_off1 k) (k0_off1_inb k)) (kcAt (arg3.view.read (Elt F) X_arg3)) (vcAt (arg5.view.read (Elt F) X_arg5))) (qAt (arg2.view.read (Elt F) X_arg2) (k0_off1 k) (k0_off1_inb k)) (klAt (arg4.view.read (Elt F) X_arg4) 0 inb_S1x1x4096x192_S1x1x1024x192_0_0_0_0) (vlAt (arg6.view.read (Elt F) X_arg6) 0 inb_S1x1x128x4096_S1x1x128x1024_0_0_0_0)) (qAt (arg2.view.read (Elt F) X_arg2) (k0_off1 k) (k0_off1_inb k)) (klAt (arg4.view.read (Elt F) X_arg4) 1024 inb_S1x1x4096x192_S1x1x1024x192_0_0_1024_0) (vlAt (arg6.view.read (Elt F) X_arg6) 1024 inb_S1x1x128x4096_S1x1x128x1024_0_0_0_1024) := by
    delta trip_k0_t1.sl.v130 trip_k0_t1.sl.v129 trip_k0_t1.sl.v123 trip_k0_t1.sl.v128 trip_k0_t1.sl.v121
      trip_k0_t1.sl.v122 trip_k0_t1.sl.cst_59 trip_k0_t1.sl.v125 trip_k0_t1.sl.v117 trip_k0_t1.sl.v124
      trip_k0_t1.sl.v116 trip_k0_t1.sl.v114 trip_k0_t1.sl.v115
    rw [w98, w80, w112, e113]
    rfl
  have w144 : trip_k0_t1.sl.v144 arg2 arg4 arg17 X_arg2 X_arg4 k f17
      = mNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (qAt (arg2.view.read (Elt F) X_arg2) (k0_off1 k) (k0_off1_inb k)) (klAt (arg4.view.read (Elt F) X_arg4) 2048 inb_S1x1x4096x192_S1x1x1024x192_0_0_2048_0) := by
    delta trip_k0_t1.sl.v144 trip_k0_t1.sl.v143
    rw [w112, e142]
    rfl
  have w159 : trip_k0_t1.sl.v159 arg2 arg4 arg16 arg17 X_arg2 X_arg4 k f16 f17
      = lNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (lNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (lNext (m0 (qAt (arg2.view.read (Elt F) X_arg2) (k0_off1 k) (k0_off1_inb k)) (kcAt (arg3.view.read (Elt F) X_arg3))) (l0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (qAt (arg2.view.read (Elt F) X_arg2) (k0_off1 k) (k0_off1_inb k)) (klAt (arg4.view.read (Elt F) X_arg4) 2048 inb_S1x1x4096x192_S1x1x1024x192_0_0_2048_0) := by
    delta trip_k0_t1.sl.v159 trip_k0_t1.sl.v158 trip_k0_t1.sl.v151 trip_k0_t1.sl.v157 trip_k0_t1.sl.v150
      trip_k0_t1.sl.v156 trip_k0_t1.sl.v149 trip_k0_t1.sl.v148 trip_k0_t1.sl.v146 trip_k0_t1.sl.v147
    rw [w127, w112, w144, e145]
    rfl
  have r_4 : trip_k0_t1.sl.r_4 arg2 arg4 arg5 arg6 arg16 arg17 X_arg2 X_arg4 X_arg5 X_arg6 k f16 f17
      = aNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (aNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (aNext (m0 (qAt (arg2.view.read (Elt F) X_arg2) (k0_off1 k) (k0_off1_inb k)) (kcAt (arg3.view.read (Elt F) X_arg3))) (a0 (qAt (arg2.view.read (Elt F) X_arg2) (k0_off1 k) (k0_off1_inb k)) (kcAt (arg3.view.read (Elt F) X_arg3)) (vcAt (arg5.view.read (Elt F) X_arg5))) (qAt (arg2.view.read (Elt F) X_arg2) (k0_off1 k) (k0_off1_inb k)) (klAt (arg4.view.read (Elt F) X_arg4) 0 inb_S1x1x4096x192_S1x1x1024x192_0_0_0_0) (vlAt (arg6.view.read (Elt F) X_arg6) 0 inb_S1x1x128x4096_S1x1x128x1024_0_0_0_0)) (qAt (arg2.view.read (Elt F) X_arg2) (k0_off1 k) (k0_off1_inb k)) (klAt (arg4.view.read (Elt F) X_arg4) 1024 inb_S1x1x4096x192_S1x1x1024x192_0_0_1024_0) (vlAt (arg6.view.read (Elt F) X_arg6) 1024 inb_S1x1x128x4096_S1x1x128x1024_0_0_0_1024)) (qAt (arg2.view.read (Elt F) X_arg2) (k0_off1 k) (k0_off1_inb k)) (klAt (arg4.view.read (Elt F) X_arg4) 2048 inb_S1x1x4096x192_S1x1x1024x192_0_0_2048_0) (vlAt (arg6.view.read (Elt F) X_arg6) 2048 inb_S1x1x128x4096_S1x1x128x1024_0_0_0_2048) := by
    delta trip_k0_t1.sl.r_4 trip_k0_t1.sl.v155 trip_k0_t1.sl.v157 trip_k0_t1.sl.v153 trip_k0_t1.sl.v154
      trip_k0_t1.sl.cst_59 trip_k0_t1.sl.v156 trip_k0_t1.sl.v149 trip_k0_t1.sl.v148 trip_k0_t1.sl.v146
      trip_k0_t1.sl.v147
    rw [w130, w112, w144, e145]
    rfl
  have r_5 : trip_k0_t1.sl.r_5 arg2 arg3 arg4 arg17 X_arg2 X_arg3 X_arg4 k f17
      = k0_pay43 (mNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (qAt (arg2.view.read (Elt F) X_arg2) (k0_off1 k) (k0_off1_inb k)) (klAt (arg4.view.read (Elt F) X_arg4) 2048 inb_S1x1x4096x192_S1x1x1024x192_0_0_2048_0)) (lmMax (qAt (arg2.view.read (Elt F) X_arg2) (k0_off1 k) (k0_off1_inb k)) (klAt (arg4.view.read (Elt F) X_arg4) 3072 inb_S1x1x4096x192_S1x1x1024x192_0_0_3072_0)) := by
    delta trip_k0_t1.sl.r_5
    rw [w144, e183]
  have r_6 : trip_k0_t1.sl.r_6 arg2 arg3 arg4 arg16 arg17 X_arg2 X_arg3 X_arg4 k f17
      = k0_pay44 (mNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (qAt (arg2.view.read (Elt F) X_arg2) (k0_off1 k) (k0_off1_inb k)) (klAt (arg4.view.read (Elt F) X_arg4) 2048 inb_S1x1x4096x192_S1x1x1024x192_0_0_2048_0)) (lmMax (qAt (arg2.view.read (Elt F) X_arg2) (k0_off1 k) (k0_off1_inb k)) (klAt (arg4.view.read (Elt F) X_arg4) 3072 inb_S1x1x4096x192_S1x1x1024x192_0_0_3072_0)) (lmScores (qAt (arg2.view.read (Elt F) X_arg2) (k0_off1 k) (k0_off1_inb k)) (klAt (arg4.view.read (Elt F) X_arg4) 3072 inb_S1x1x4096x192_S1x1x1024x192_0_0_3072_0)) := by
    delta trip_k0_t1.sl.r_6
    rw [w144, e183, e186]
  have r_7 : trip_k0_t1.sl.r_7 arg2 arg3 arg4 arg16 arg17 X_arg2 X_arg3 X_arg4 k f17
      = k0_pay45 (mNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (qAt (arg2.view.read (Elt F) X_arg2) (k0_off1 k) (k0_off1_inb k)) (klAt (arg4.view.read (Elt F) X_arg4) 2048 inb_S1x1x4096x192_S1x1x1024x192_0_0_2048_0)) (lmMax (qAt (arg2.view.read (Elt F) X_arg2) (k0_off1 k) (k0_off1_inb k)) (klAt (arg4.view.read (Elt F) X_arg4) 3072 inb_S1x1x4096x192_S1x1x1024x192_0_0_3072_0)) (lmScores (qAt (arg2.view.read (Elt F) X_arg2) (k0_off1 k) (k0_off1_inb k)) (klAt (arg4.view.read (Elt F) X_arg4) 3072 inb_S1x1x4096x192_S1x1x1024x192_0_0_3072_0)) := by
    delta trip_k0_t1.sl.r_7
    rw [w144, e183, e186]
  have w240 : trip_k0_t1.sl.v240 arg2 arg3 arg4 arg17 X_arg2 X_arg3 X_arg4 k
      = m0 (qAt (arg2.view.read (Elt F) X_arg2) (k0_off2 k) (k0_off2_inb k)) (kcAt (arg3.view.read (Elt F) X_arg3)) := by
    delta trip_k0_t1.sl.v240
    rw [e239]
    rfl
  have w247 : trip_k0_t1.sl.v247 arg2 arg3 arg4 arg16 arg17 X_arg2 X_arg3 X_arg4 k
      = l0 (qAt (arg2.view.read (Elt F) X_arg2) (k0_off2 k) (k0_off2_inb k)) (kcAt (arg3.view.read (Elt F) X_arg3)) := by
    delta trip_k0_t1.sl.v247 trip_k0_t1.sl.v246 trip_k0_t1.sl.v245 trip_k0_t1.sl.v244 trip_k0_t1.sl.v242
      trip_k0_t1.sl.v243
    rw [e241, w240]
    rfl
  have w251 : trip_k0_t1.sl.v251 arg2 arg3 arg4 arg5 arg16 arg17 X_arg2 X_arg3 X_arg4 X_arg5 k
      = a0 (qAt (arg2.view.read (Elt F) X_arg2) (k0_off2 k) (k0_off2_inb k)) (kcAt (arg3.view.read (Elt F) X_arg3)) (vcAt (arg5.view.read (Elt F) X_arg5)) := by
    delta trip_k0_t1.sl.v251 trip_k0_t1.sl.v64 trip_k0_t1.sl.v250 trip_k0_t1.sl.cst_59 trip_k0_t1.sl.v245
      trip_k0_t1.sl.v244 trip_k0_t1.sl.v242 trip_k0_t1.sl.v243
    rw [e241, w240]
    rfl
  have w265 : trip_k0_t1.sl.v265 arg2 arg3 arg4 arg17 X_arg2 X_arg3 X_arg4 k
      = mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0) := by
    delta trip_k0_t1.sl.v265 trip_k0_t1.sl.v264
    rw [w240, e263]
    rfl
  have w280 : trip_k0_t1.sl.v280 arg2 arg3 arg4 arg16 arg17 X_arg2 X_arg3 X_arg4 k
      = lNext (m0 (qAt (arg2.view.read (Elt F) X_arg2) (k0_off2 k) (k0_off2_inb k)) (kcAt (arg3.view.read (Elt F) X_arg3))) (l0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0) := by
    delta trip_k0_t1.sl.v280 trip_k0_t1.sl.v279 trip_k0_t1.sl.v272 trip_k0_t1.sl.v278 trip_k0_t1.sl.v271
      trip_k0_t1.sl.v277 trip_k0_t1.sl.v270 trip_k0_t1.sl.v269 trip_k0_t1.sl.v267 trip_k0_t1.sl.v268
    rw [w247, w240, w265, e266]
    rfl
  have w283 : trip_k0_t1.sl.v283 arg2 arg3 arg4 arg5 arg6 arg16 arg17 X_arg2 X_arg3 X_arg4 X_arg5 X_arg6 k
      = aNext (m0 (qAt (arg2.view.read (Elt F) X_arg2) (k0_off2 k) (k0_off2_inb k)) (kcAt (arg3.view.read (Elt F) X_arg3))) (a0 (qAt (arg2.view.read (Elt F) X_arg2) (k0_off2 k) (k0_off2_inb k)) (kcAt (arg3.view.read (Elt F) X_arg3)) (vcAt (arg5.view.read (Elt F) X_arg5))) (qAt (arg2.view.read (Elt F) X_arg2) (k0_off2 k) (k0_off2_inb k)) (klAt (arg4.view.read (Elt F) X_arg4) 0 inb_S1x1x4096x192_S1x1x1024x192_0_0_0_0) (vlAt (arg6.view.read (Elt F) X_arg6) 0 inb_S1x1x128x4096_S1x1x128x1024_0_0_0_0) := by
    delta trip_k0_t1.sl.v283 trip_k0_t1.sl.v282 trip_k0_t1.sl.v276 trip_k0_t1.sl.v281 trip_k0_t1.sl.v89
      trip_k0_t1.sl.v275 trip_k0_t1.sl.cst_59 trip_k0_t1.sl.v278 trip_k0_t1.sl.v270 trip_k0_t1.sl.v277
      trip_k0_t1.sl.v269 trip_k0_t1.sl.v267 trip_k0_t1.sl.v268
    rw [w251, w240, w265, e266]
    rfl
  have w297 : trip_k0_t1.sl.v297 arg2 arg3 arg4 arg17 X_arg2 X_arg3 X_arg4 k
      = mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0) := by
    delta trip_k0_t1.sl.v297 trip_k0_t1.sl.v296
    rw [w265, e295]
    rfl
  have w312 : trip_k0_t1.sl.v312 arg2 arg3 arg4 arg16 arg17 X_arg2 X_arg3 X_arg4 k
      = lNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (lNext (m0 (qAt (arg2.view.read (Elt F) X_arg2) (k0_off2 k) (k0_off2_inb k)) (kcAt (arg3.view.read (Elt F) X_arg3))) (l0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0) := by
    delta trip_k0_t1.sl.v312 trip_k0_t1.sl.v311 trip_k0_t1.sl.v304 trip_k0_t1.sl.v310 trip_k0_t1.sl.v303
      trip_k0_t1.sl.v309 trip_k0_t1.sl.v302 trip_k0_t1.sl.v301 trip_k0_t1.sl.v299 trip_k0_t1.sl.v300
    rw [w280, w265, w297, e298]
    rfl
  have w315 : trip_k0_t1.sl.v315 arg2 arg3 arg4 arg5 arg6 arg16 arg17 X_arg2 X_arg3 X_arg4 X_arg5 X_arg6 k
      = aNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (aNext (m0 (qAt (arg2.view.read (Elt F) X_arg2) (k0_off2 k) (k0_off2_inb k)) (kcAt (arg3.view.read (Elt F) X_arg3))) (a0 (qAt (arg2.view.read (Elt F) X_arg2) (k0_off2 k) (k0_off2_inb k)) (kcAt (arg3.view.read (Elt F) X_arg3)) (vcAt (arg5.view.read (Elt F) X_arg5))) (qAt (arg2.view.read (Elt F) X_arg2) (k0_off2 k) (k0_off2_inb k)) (klAt (arg4.view.read (Elt F) X_arg4) 0 inb_S1x1x4096x192_S1x1x1024x192_0_0_0_0) (vlAt (arg6.view.read (Elt F) X_arg6) 0 inb_S1x1x128x4096_S1x1x128x1024_0_0_0_0)) (qAt (arg2.view.read (Elt F) X_arg2) (k0_off2 k) (k0_off2_inb k)) (klAt (arg4.view.read (Elt F) X_arg4) 1024 inb_S1x1x4096x192_S1x1x1024x192_0_0_1024_0) (vlAt (arg6.view.read (Elt F) X_arg6) 1024 inb_S1x1x128x4096_S1x1x128x1024_0_0_0_1024) := by
    delta trip_k0_t1.sl.v315 trip_k0_t1.sl.v314 trip_k0_t1.sl.v308 trip_k0_t1.sl.v313 trip_k0_t1.sl.v121
      trip_k0_t1.sl.v307 trip_k0_t1.sl.cst_59 trip_k0_t1.sl.v310 trip_k0_t1.sl.v302 trip_k0_t1.sl.v309
      trip_k0_t1.sl.v301 trip_k0_t1.sl.v299 trip_k0_t1.sl.v300
    rw [w283, w265, w297, e298]
    rfl
  have r_10 : trip_k0_t1.sl.r_10 arg2 arg3 arg4 arg17 X_arg2 X_arg3 X_arg4 k
      = mNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (qAt (arg2.view.read (Elt F) X_arg2) (k0_off2 k) (k0_off2_inb k)) (klAt (arg4.view.read (Elt F) X_arg4) 2048 inb_S1x1x4096x192_S1x1x1024x192_0_0_2048_0) := by
    delta trip_k0_t1.sl.r_10
    rw [w297, e327]
    rfl
  have r_11 : trip_k0_t1.sl.r_11 arg2 arg3 arg4 arg16 arg17 X_arg2 X_arg3 X_arg4 k
      = lNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (lNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (lNext (m0 (qAt (arg2.view.read (Elt F) X_arg2) (k0_off2 k) (k0_off2_inb k)) (kcAt (arg3.view.read (Elt F) X_arg3))) (l0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (qAt (arg2.view.read (Elt F) X_arg2) (k0_off2 k) (k0_off2_inb k)) (klAt (arg4.view.read (Elt F) X_arg4) 2048 inb_S1x1x4096x192_S1x1x1024x192_0_0_2048_0) := by
    delta trip_k0_t1.sl.r_11
    rw [w297, w312, e327, e330]
    rfl
  have r_12 : trip_k0_t1.sl.r_12 arg2 arg3 arg4 arg5 arg6 arg16 arg17 X_arg2 X_arg3 X_arg4 X_arg5 X_arg6 k
      = aNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (aNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (aNext (m0 (qAt (arg2.view.read (Elt F) X_arg2) (k0_off2 k) (k0_off2_inb k)) (kcAt (arg3.view.read (Elt F) X_arg3))) (a0 (qAt (arg2.view.read (Elt F) X_arg2) (k0_off2 k) (k0_off2_inb k)) (kcAt (arg3.view.read (Elt F) X_arg3)) (vcAt (arg5.view.read (Elt F) X_arg5))) (qAt (arg2.view.read (Elt F) X_arg2) (k0_off2 k) (k0_off2_inb k)) (klAt (arg4.view.read (Elt F) X_arg4) 0 inb_S1x1x4096x192_S1x1x1024x192_0_0_0_0) (vlAt (arg6.view.read (Elt F) X_arg6) 0 inb_S1x1x128x4096_S1x1x128x1024_0_0_0_0)) (qAt (arg2.view.read (Elt F) X_arg2) (k0_off2 k) (k0_off2_inb k)) (klAt (arg4.view.read (Elt F) X_arg4) 1024 inb_S1x1x4096x192_S1x1x1024x192_0_0_1024_0) (vlAt (arg6.view.read (Elt F) X_arg6) 1024 inb_S1x1x128x4096_S1x1x128x1024_0_0_0_1024)) (qAt (arg2.view.read (Elt F) X_arg2) (k0_off2 k) (k0_off2_inb k)) (klAt (arg4.view.read (Elt F) X_arg4) 2048 inb_S1x1x4096x192_S1x1x1024x192_0_0_2048_0) (vlAt (arg6.view.read (Elt F) X_arg6) 2048 inb_S1x1x128x4096_S1x1x128x1024_0_0_0_2048) := by
    delta trip_k0_t1.sl.r_12
    rw [w297, w315, e327, e330]
    rfl
  have w394 : trip_k0_t1.sl.v394 arg2 arg3 arg4 arg5 arg6 arg16 arg17 X_arg2 X_arg3 X_arg4 X_arg5 X_arg6 k
      = k0_pay85 (mNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (qAt (arg2.view.read (Elt F) X_arg2) (k0_off2 k) (k0_off2_inb k)) (klAt (arg4.view.read (Elt F) X_arg4) 2048 inb_S1x1x4096x192_S1x1x1024x192_0_0_2048_0)) (lNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (lNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (lNext (m0 (qAt (arg2.view.read (Elt F) X_arg2) (k0_off2 k) (k0_off2_inb k)) (kcAt (arg3.view.read (Elt F) X_arg3))) (l0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (qAt (arg2.view.read (Elt F) X_arg2) (k0_off2 k) (k0_off2_inb k)) (klAt (arg4.view.read (Elt F) X_arg4) 2048 inb_S1x1x4096x192_S1x1x1024x192_0_0_2048_0)) (aNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (aNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (aNext (m0 (qAt (arg2.view.read (Elt F) X_arg2) (k0_off2 k) (k0_off2_inb k)) (kcAt (arg3.view.read (Elt F) X_arg3))) (a0 (qAt (arg2.view.read (Elt F) X_arg2) (k0_off2 k) (k0_off2_inb k)) (kcAt (arg3.view.read (Elt F) X_arg3)) (vcAt (arg5.view.read (Elt F) X_arg5))) (qAt (arg2.view.read (Elt F) X_arg2) (k0_off2 k) (k0_off2_inb k)) (klAt (arg4.view.read (Elt F) X_arg4) 0 inb_S1x1x4096x192_S1x1x1024x192_0_0_0_0) (vlAt (arg6.view.read (Elt F) X_arg6) 0 inb_S1x1x128x4096_S1x1x128x1024_0_0_0_0)) (qAt (arg2.view.read (Elt F) X_arg2) (k0_off2 k) (k0_off2_inb k)) (klAt (arg4.view.read (Elt F) X_arg4) 1024 inb_S1x1x4096x192_S1x1x1024x192_0_0_1024_0) (vlAt (arg6.view.read (Elt F) X_arg6) 1024 inb_S1x1x128x4096_S1x1x128x1024_0_0_0_1024)) (qAt (arg2.view.read (Elt F) X_arg2) (k0_off2 k) (k0_off2_inb k)) (klAt (arg4.view.read (Elt F) X_arg4) 2048 inb_S1x1x4096x192_S1x1x1024x192_0_0_2048_0) (vlAt (arg6.view.read (Elt F) X_arg6) 2048 inb_S1x1x128x4096_S1x1x128x1024_0_0_0_2048)) (lmMax (qAt (arg2.view.read (Elt F) X_arg2) (k0_off2 k) (k0_off2_inb k)) (klAt (arg4.view.read (Elt F) X_arg4) 3072 inb_S1x1x4096x192_S1x1x1024x192_0_0_3072_0)) (lmScores (qAt (arg2.view.read (Elt F) X_arg2) (k0_off2 k) (k0_off2_inb k)) (klAt (arg4.view.read (Elt F) X_arg4) 3072 inb_S1x1x4096x192_S1x1x1024x192_0_0_3072_0)) (vlAt (arg6.view.read (Elt F) X_arg6) 3072 inb_S1x1x128x4096_S1x1x128x1024_0_0_0_3072) := by
    delta trip_k0_t1.sl.v394 trip_k0_t1.sl.v393 trip_k0_t1.sl.v392 trip_k0_t1.sl.v388 trip_k0_t1.sl.v391
      trip_k0_t1.sl.v387 trip_k0_t1.sl.v381 trip_k0_t1.sl.v390 trip_k0_t1.sl.v386 trip_k0_t1.sl.v379
      trip_k0_t1.sl.v380 trip_k0_t1.sl.cst_59 trip_k0_t1.sl.v389 trip_k0_t1.sl.v385 trip_k0_t1.sl.v383
      trip_k0_t1.sl.v375 trip_k0_t1.sl.cst_294 trip_k0_t1.sl.v384 trip_k0_t1.sl.v377 trip_k0_t1.sl.v382
      trip_k0_t1.sl.v374 trip_k0_t1.sl.v376 trip_k0_t1.sl.v370 trip_k0_t1.sl.v372 trip_k0_t1.sl.v373
      trip_k0_t1.sl.v369
    rw [r_12, r_11, r_10, e371, e368]
    rfl
  unfold trip_k0_t1
  dsimp only
  rw [w144, w159, r_4, r_5, r_6, r_7, w394]
  rfl

/-- A trip leaves the context scores of the tile after its two in slot 0 of the score scratch. -/
theorem trip_slot16 (𝒱 : Variants) (c : Dev nD) (bd : Option 𝒱.V) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (k : Fin k0_t1_loop.trips) (f11 : BufTy.Contents (Elt F) arg11.view.ty)
    (f16 : BufTy.Contents (Elt F) arg16.view.ty) (f17 : BufTy.Contents (Elt F) arg17.view.ty) :
    ∃ L, (trip_k0_t1 (F := F) 𝒱 c bd i arg2 harg2 arg3 harg3 arg4 harg4 arg5 harg5 arg6 harg6 arg7 harg7 arg8
      harg8 arg9 harg9 arg10 harg10 arg11 harg11 arg12 harg12 arg13 harg13 arg14 harg14 arg15 harg15 arg16
      harg16 arg17 harg17 X_arg2 X_arg3 X_arg4 X_arg5 X_arg6 k).2.1 f11 f16 f17
      = ⟨slot16, ctxScores (qAt (arg2.view.read (Elt F) X_arg2) (k0_off4 k) (k0_off4_inb k)) (kcAt (arg3.view.read (Elt F) X_arg3))⟩ :: L := by
  unfold trip_k0_t1
  exact ⟨_, rfl⟩

/-- A trip leaves their column maxima in slot 0 of the maxima scratch. -/
theorem trip_slot17 (𝒱 : Variants) (c : Dev nD) (bd : Option 𝒱.V) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (k : Fin k0_t1_loop.trips) (f11 : BufTy.Contents (Elt F) arg11.view.ty)
    (f16 : BufTy.Contents (Elt F) arg16.view.ty) (f17 : BufTy.Contents (Elt F) arg17.view.ty) :
    ∃ L, (trip_k0_t1 (F := F) 𝒱 c bd i arg2 harg2 arg3 harg3 arg4 harg4 arg5 harg5 arg6 harg6 arg7 harg7 arg8
      harg8 arg9 harg9 arg10 harg10 arg11 harg11 arg12 harg12 arg13 harg13 arg14 harg14 arg15 harg15 arg16
      harg16 arg17 harg17 X_arg2 X_arg3 X_arg4 X_arg5 X_arg6 k).2.2.1 f11 f16 f17
      = ⟨slot17, ctxMax (qAt (arg2.view.read (Elt F) X_arg2) (k0_off4 k) (k0_off4_inb k)) (kcAt (arg3.view.read (Elt F) X_arg3))⟩ :: L := by
  unfold trip_k0_t1
  exact ⟨_, rfl⟩

/-! ## The loop -/

/-- A query tile depends on the offset alone. -/
theorem qAt_congr (x : Vec F S1x1x192x4096 .bf16) {off off' : Fin 4 → ℕ} {inb inb'} (h : off = off') :
    qAt x off inb = qAt x off' inb' := by
  subst h; rfl

/-- The two tiles a trip writes into the result block, the later one first. -/
def pieces (x2 : Vec F S1x1x192x4096 .bf16) (x3 : Vec F S1x1x256x192 .bf16) (x4 : Vec F S1x1x4096x192 .bf16)
    (x5 : Vec F S1x1x128x256 .bf16) (x6 : Vec F S1x1x128x4096 .bf16) (k : Fin k0_t1_loop.trips) :
    List (View.Piece (Elt F) S1x4096x128 .bf16) :=
  [⟨Rect.unit (s := S1x4096x128) (k0_off5 k) S1x512x128.size (k0_off5_inb k),
      tileAt x2 x3 x4 x5 x6 (k0_off2 k) (k0_off2_inb k)⟩,
    ⟨Rect.unit (s := S1x4096x128) (k0_off3 k) S1x512x128.size (k0_off3_inb k),
      tileAt x2 x3 x4 x5 x6 (k0_off1 k) (k0_off1_inb k)⟩]

/-- The eight tiles of the result block, last first. -/
def outPieces (x2 : Vec F S1x1x192x4096 .bf16) (x3 : Vec F S1x1x256x192 .bf16) (x4 : Vec F S1x1x4096x192 .bf16)
    (x5 : Vec F S1x1x128x256 .bf16) (x6 : Vec F S1x1x128x4096 .bf16) : List (View.Piece (Elt F) S1x4096x128 .bf16) :=
  pieces x2 x3 x4 x5 x6 ⟨3, by decide⟩ ++ (pieces x2 x3 x4 x5 x6 ⟨2, by decide⟩
    ++ (pieces x2 x3 x4 x5 x6 ⟨1, by decide⟩ ++ pieces x2 x3 x4 x5 x6 ⟨0, by decide⟩))

/-- One trip of the loop: from slot 0 as the trip needs it, its two tiles go in front of the earlier
    ones and slot 0 is as the next trip needs it. -/
theorem loop_step (𝒱 : Variants) (c : Dev nD) (bd : Option 𝒱.V) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (G_arg11 : BufTy.Contents (Elt F) arg11.view.ty) (G_arg16 : BufTy.Contents (Elt F) arg16.view.ty)
    (G_arg17 : BufTy.Contents (Elt F) arg17.view.ty) (k : Fin k0_t1_loop.trips)
    (L1 : List (View.Piece (Elt F) S1x4096x128 .bf16))
    (h : (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).1 = L1
      ∧ arg16.view.readAt (Elt F) slot16.toLoadRect (arg16.view.writes (Elt F) G_arg16 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.1)
        = ctxScores (qAt (arg2.view.read (Elt F) X_arg2) (k0_off1 k) (k0_off1_inb k)) (kcAt (arg3.view.read (Elt F) X_arg3))
      ∧ arg17.view.readAt (Elt F) slot17.toLoadRect (arg17.view.writes (Elt F) G_arg17 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.2)
        = ctxMax (qAt (arg2.view.read (Elt F) X_arg2) (k0_off1 k) (k0_off1_inb k)) (kcAt (arg3.view.read (Elt F) X_arg3))) :
    (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 (k.val + 1)).1
        = pieces (arg2.view.read (Elt F) X_arg2) (arg3.view.read (Elt F) X_arg3) (arg4.view.read (Elt F) X_arg4)
            (arg5.view.read (Elt F) X_arg5) (arg6.view.read (Elt F) X_arg6) k ++ L1
      ∧ arg16.view.readAt (Elt F) slot16.toLoadRect (arg16.view.writes (Elt F) G_arg16 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 (k.val + 1)).2.1)
        = ctxScores (qAt (arg2.view.read (Elt F) X_arg2) (k0_off4 k) (k0_off4_inb k)) (kcAt (arg3.view.read (Elt F) X_arg3))
      ∧ arg17.view.readAt (Elt F) slot17.toLoadRect (arg17.view.writes (Elt F) G_arg17 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 (k.val + 1)).2.2)
        = ctxMax (qAt (arg2.view.read (Elt F) X_arg2) (k0_off4 k) (k0_off4_inb k)) (kcAt (arg3.view.read (Elt F) X_arg3)) := by
  obtain ⟨h1, h16, h17⟩ := h
  rw [pb_k0_t1_succ]
  refine ⟨?_, ?_, ?_⟩
  · have e := trip_out
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 k
      (arg11.view.writes (Elt F) G_arg11 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).1) _ _ h16 h17
    exact congr (congrArg _ e) h1
  · obtain ⟨L, e⟩ := trip_slot16
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 k
      (arg11.view.writes (Elt F) G_arg11 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).1)
      (arg16.view.writes (Elt F) G_arg16 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.1)
      (arg17.view.writes (Elt F) G_arg17 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.2)
    exact readAt_head_append arg16.view _ slot16 _ L _ _ e
  · obtain ⟨L, e⟩ := trip_slot17
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 k
      (arg11.view.writes (Elt F) G_arg11 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).1)
      (arg16.view.writes (Elt F) G_arg16 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.1)
      (arg17.view.writes (Elt F) G_arg17 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.2)
    exact readAt_head_append arg17.view _ slot17 _ L _ _ e

/-- The loop writes the eight tiles of the result block. -/
theorem loop_out (𝒱 : Variants) (c : Dev nD) (bd : Option 𝒱.V) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (G_arg11 : BufTy.Contents (Elt F) arg11.view.ty) (G_arg16 : BufTy.Contents (Elt F) arg16.view.ty)
    (G_arg17 : BufTy.Contents (Elt F) arg17.view.ty)
    (h16 : arg16.view.readAt (Elt F) slot16.toLoadRect G_arg16
      = ctxScores (qAt (arg2.view.read (Elt F) X_arg2) ![0, 0, 0, 0] inb_S1x1x192x4096_S1x1x192x512_0_0_0_0) (kcAt (arg3.view.read (Elt F) X_arg3)))
    (h17 : arg17.view.readAt (Elt F) slot17.toLoadRect G_arg17
      = ctxMax (qAt (arg2.view.read (Elt F) X_arg2) ![0, 0, 0, 0] inb_S1x1x192x4096_S1x1x192x512_0_0_0_0) (kcAt (arg3.view.read (Elt F) X_arg3))) :
    (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k0_t1_loop.trips).1
      = outPieces (arg2.view.read (Elt F) X_arg2) (arg3.view.read (Elt F) X_arg3) (arg4.view.read (Elt F) X_arg4)
          (arg5.view.read (Elt F) X_arg5) (arg6.view.read (Elt F) X_arg6) := by
  have hq0 := qAt_congr (arg2.view.read (Elt F) X_arg2) (inb := inb_S1x1x192x4096_S1x1x192x512_0_0_0_0)
    (inb' := k0_off1_inb ⟨0, by decide⟩) (show ![0, 0, 0, 0] = k0_off1 ⟨0, by decide⟩ by decide +kernel)
  have hq1 := qAt_congr (arg2.view.read (Elt F) X_arg2) (inb := k0_off4_inb ⟨0, by decide⟩)
    (inb' := k0_off1_inb ⟨1, by decide⟩) (show k0_off4 ⟨0, by decide⟩ = k0_off1 ⟨1, by decide⟩ by decide +kernel)
  have hq2 := qAt_congr (arg2.view.read (Elt F) X_arg2) (inb := k0_off4_inb ⟨1, by decide⟩)
    (inb' := k0_off1_inb ⟨2, by decide⟩) (show k0_off4 ⟨1, by decide⟩ = k0_off1 ⟨2, by decide⟩ by decide +kernel)
  have hq3 := qAt_congr (arg2.view.read (Elt F) X_arg2) (inb := k0_off4_inb ⟨2, by decide⟩)
    (inb' := k0_off1_inb ⟨3, by decide⟩) (show k0_off4 ⟨2, by decide⟩ = k0_off1 ⟨3, by decide⟩ by decide +kernel)
  have s1 := loop_step
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 G_arg11 G_arg16 G_arg17 ⟨0, by decide⟩ [] ⟨rfl, by rw [← hq0]; exact h16, by rw [← hq0]; exact h17⟩
  rw [hq1] at s1
  have s2 := loop_step
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 G_arg11 G_arg16 G_arg17 ⟨1, by decide⟩ _ s1
  rw [hq2] at s2
  have s3 := loop_step
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 G_arg11 G_arg16 G_arg17 ⟨2, by decide⟩ _ s2
  rw [hq3] at s3
  have s4 := loop_step
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 G_arg11 G_arg16 G_arg17 ⟨3, by decide⟩ _ s3
  have ht : k0_t1_loop.trips = 3 + 1 := by decide
  rw [ht]
  refine s4.1.trans ?_
  rw [List.append_nil]
  rfl

end Cert.AttnIdeal.Trip

end
-- ==== Proof.AttnIdealRun.lean ====
/- The attention kernel's run, at any float interpretation: what its body leaves in every staging
   buffer as a function of the blocks it is called with, the launch over the whole grid, and the
   frame: the argument arrays end as they began and every semaphore counter is back at zero. -/
module

public import proofs.«01_k».proof.Proof.AttnIdealTrip
public import Idealize.ShloMosaic.Lib.Pipeline.FrameBody
public import Idealize.ShloMosaic.Lib.Claim
public import Idealize.ShloMosaic.Lib.Tactic

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen Cert.AttnIdeal.Trip

variable {F : FTy → Type} [FloatOps F] [Named F]

local notation "𝕄" => MT nD τ sig Unit (Elt F) ℕ (UR sig nD τ) ℕ

/-! ## What the body leaves -/

/-- The result block: the eight tiles of 512 queries. -/
def out9 (x0 : Vec F S1x1x192x4096 .bf16) (x1 : Vec F S1x1x256x192 .bf16) (x2 : Vec F S1x1x4096x192 .bf16)
    (x3 : Vec F S1x1x128x256 .bf16) (x4 : Vec F S1x1x128x4096 .bf16) : Vec F S1x4096x128 .bf16 :=
  View.canon (outPieces x0 x1 x2 x3 x4)

/-- The rounded rows of weight block 5. -/
def cast10 (x : Vec F S64x1024 .f32) : Vec F S64x1024 .bf16 :=
  View.canon [⟨Rect.unit (s := S64x1024) ![0, 0] S64x1024.size inb_S64x1024_S64x1024_0_0,
    k0_pay86 (View.ld x (Rect.unit (s := S64x1024) ![0, 0] S64x1024.size inb_S64x1024_S64x1024_0_0))⟩]

/-- The rounded rows of weight block 6. -/
def cast11 (x : Vec F S64x2816 .f32) : Vec F S64x2816 .bf16 :=
  View.canon [⟨Rect.unit (s := S64x2816) ![0, 0] S64x2816.size inb_S64x2816_S64x2816_0_0,
    k0_pay87 (View.ld x (Rect.unit (s := S64x2816) ![0, 0] S64x2816.size inb_S64x2816_S64x2816_0_0))⟩]

/-- The rounded rows of weight block 7. -/
def cast12 (x : Vec F S64x2816 .f32) : Vec F S64x2816 .bf16 :=
  View.canon [⟨Rect.unit (s := S64x2816) ![0, 0] S64x2816.size inb_S64x2816_S64x2816_0_0,
    k0_pay88 (View.ld x (Rect.unit (s := S64x2816) ![0, 0] S64x2816.size inb_S64x2816_S64x2816_0_0))⟩]

/-- The rounded rows of weight block 8. -/
def cast13 (x : Vec F S176x1024 .f32) : Vec F S176x1024 .bf16 :=
  View.canon [⟨Rect.unit (s := S176x1024) ![0, 0] S176x1024.size inb_S176x1024_S176x1024_0_0,
    k0_pay89 (View.ld x (Rect.unit (s := S176x1024) ![0, 0] S176x1024.size inb_S176x1024_S176x1024_0_0))⟩]

/-- One store of the whole block covers it. -/
theorem cover_S64x1024 (p : Vec F S64x1024 .bf16) (y : S64x1024.Idx) :
    ∃ pc ∈ ([⟨Rect.unit (s := S64x1024) ![0, 0] S64x1024.size inb_S64x1024_S64x1024_0_0, p⟩] : List (View.Piece (Elt F) S64x1024 .bf16)), y ∈ pc.1.set :=
  View.cover_of_tiled [⟨Rect.unit (s := S64x1024) ![0, 0] S64x1024.size inb_S64x1024_S64x1024_0_0, p⟩] S64x1024.size (by rfl) y

/-- One store of the whole block covers it. -/
theorem cover_S64x2816 (p : Vec F S64x2816 .bf16) (y : S64x2816.Idx) :
    ∃ pc ∈ ([⟨Rect.unit (s := S64x2816) ![0, 0] S64x2816.size inb_S64x2816_S64x2816_0_0, p⟩] : List (View.Piece (Elt F) S64x2816 .bf16)), y ∈ pc.1.set :=
  View.cover_of_tiled [⟨Rect.unit (s := S64x2816) ![0, 0] S64x2816.size inb_S64x2816_S64x2816_0_0, p⟩] S64x2816.size (by rfl) y

/-- One store of the whole block covers it. -/
theorem cover_S176x1024 (p : Vec F S176x1024 .bf16) (y : S176x1024.Idx) :
    ∃ pc ∈ ([⟨Rect.unit (s := S176x1024) ![0, 0] S176x1024.size inb_S176x1024_S176x1024_0_0, p⟩] : List (View.Piece (Elt F) S176x1024 .bf16)), y ∈ pc.1.set :=
  View.cover_of_tiled [⟨Rect.unit (s := S176x1024) ![0, 0] S176x1024.size inb_S176x1024_S176x1024_0_0, p⟩] S176x1024.size (by rfl) y

/-- The eight tiles cover the result block. -/
theorem cover_out (x0 : Vec F S1x1x192x4096 .bf16) (x1 : Vec F S1x1x256x192 .bf16) (x2 : Vec F S1x1x4096x192 .bf16)
    (x3 : Vec F S1x1x128x256 .bf16) (x4 : Vec F S1x1x128x4096 .bf16) (y : S1x4096x128.Idx) :
    ∃ pc ∈ outPieces x0 x1 x2 x3 x4, y ∈ pc.1.set :=
  View.cover_of_tiled (outPieces x0 x1 x2 x3 x4) ![1, 512, 128] (by rfl) y
/-! ## The body's triple -/

set_option maxHeartbeats 4000000 in

/-- The kernel body on whole buffers, the inputs at given contents and the results' and the scratch at
    any, runs to the inputs as they were and each result at its value of the inputs. -/
theorem sound_kernel (c : Dev nD) (E : Set ℕ) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (x0 : Vec F S1x1x192x4096 .bf16)
    (x1 : Vec F S1x1x256x192 .bf16)
    (x2 : Vec F S1x1x4096x192 .bf16)
    (x3 : Vec F S1x1x128x256 .bf16)
    (x4 : Vec F S1x1x128x4096 .bf16)
    (x5 : Vec F S64x1024 .f32)
    (x6 : Vec F S64x2816 .f32)
    (x7 : Vec F S64x2816 .f32)
    (x8 : Vec F S176x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out9 x0 x1 x2 x3 x4) ∗ owns (c : Thread nD τ) arg12 fullShare (cast10 x5) ∗ owns (c : Thread nD τ) arg13 fullShare (cast11 x6) ∗ owns (c : Thread nD τ) arg14 fullShare (cast12 x7) ∗ owns (c : Thread nD τ) arg15 fullShare (cast13 x8) ∗ (∃ d, owns (c : Thread nD τ) arg16 fullShare d) ∗ (∃ d, owns (c : Thread nD τ) arg17 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attn_eq_skeleton]; unfold cc0_attn_skel
  simp only [k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro
    refine (congrArg (fun L => View.read (Elt F) arg11.view (arg11.view.writes (Elt F) f9 L))
      (loop_out Variants.none c none i arg2 harg2 arg3 harg3 arg4 harg4 arg5 harg5 arg6 harg6 arg7 harg7 arg8 harg8
        arg9 harg9 arg10 harg10 arg11 harg11 arg12 harg12 arg13 harg13 arg14 harg14 arg15 harg15 arg16 harg16 arg17
        harg17 f0 f1 f2 f3 f4 f9 _ _ ?_ ?_)).trans ?_
    · exact readAt_head _ _ _ _ _
    · exact readAt_head _ _ _ _ _
    · exact View.read_writes_eq_canon _ _ _ (cover_out _ _ _ _ _)
  isplitl [H10]
  · iexists _; isplitr; swap; · iexact H10
    ipureintro
    exact (View.read_writes_eq_canon _ _ _ (cover_S64x1024 _)).trans rfl
  isplitl [H11]
  · iexists _; isplitr; swap; · iexact H11
    ipureintro
    exact (View.read_writes_eq_canon _ _ _ (cover_S64x2816 _)).trans rfl
  isplitl [H12]
  · iexists _; isplitr; swap; · iexact H12
    ipureintro
    exact (View.read_writes_eq_canon _ _ _ (cover_S64x2816 _)).trans rfl
  isplitl [H13]
  · iexists _; isplitr; swap; · iexact H13
    ipureintro
    exact (View.read_writes_eq_canon _ _ _ (cover_S176x1024 _)).trans rfl
  isplitl [H14]
  · iexists _; iexists _; isplitr; swap; · iexact H14
    ipureintro; rfl
  · iexists _; iexists _; isplitr; swap; · iexact H15
    ipureintro; rfl

/-! ## The proof data of the launch -/

variable (m : (ℓ : Loc nD τ sig) → Buf (Elt F) ℓ) (ρ : Dev nD → PrngReg)

/-- The data of the launch: each input's staging buffer keeps its block, each result's is left at the body's value of
    the inputs' blocks; the invariant is the two scratch buffers at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t)
    | ⟨10, _⟩ => cast10 (iblk m c 5 t)
    | ⟨11, _⟩ => cast11 (iblk m c 6 t)
    | ⟨12, _⟩ => cast12 (iblk m c 7 t)
    | ⟨13, _⟩ => cast13 (iblk m c 8 t)
  Φ _ := Pipeline.ΦA spec0 c
  q _ := fullShare
  owed _ := 0

/-- The arrays start as the region finds them. -/
theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 (iblk m c 0 t) (iblk m c 1 t) (iblk m c 2 t) (iblk m c 3 t) (iblk m c 4 t) := by dsimp only [dats]
theorem after0_10 (c : Dev nD) (t : Fin cfg0.N) : (dats m 0 c).after 10 t = cast10 (iblk m c 5 t) := by dsimp only [dats]
theorem after0_11 (c : Dev nD) (t : Fin cfg0.N) : (dats m 0 c).after 11 t = cast11 (iblk m c 6 t) := by dsimp only [dats]
theorem after0_12 (c : Dev nD) (t : Fin cfg0.N) : (dats m 0 c).after 12 t = cast12 (iblk m c 7 t) := by dsimp only [dats]
theorem after0_13 (c : Dev nD) (t : Fin cfg0.N) : (dats m 0 c).after 13 t = cast13 (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The invariant, the two scratch buffers spelled as whole memrefs. -/
theorem Φ_eq (c : Dev nD) (t : Fin (cfg0.N + 1)) : (dats m 0 c).Φ t
    = iprop(((∃ d, owns (c : Thread nD τ) (Memref.whole cc0_scratch0) fullShare d)
        ∗ (∃ d, owns (c : Thread nD τ) (Memref.whole cc0_scratch1) fullShare d)) ∗ ∃ r, prngReg c r) := by
  show Pipeline.ΦA spec0 c = _
  unfold Pipeline.ΦA
  rw [scopedRest0_eq]
  simp only [owns_whole]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in

/-- The body at any point: the inputs' buffers hold their blocks, the scratch is taken out of the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [Φ_eq, Φ_eq,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨⟨⟨⟨%d14, H14⟩, ⟨%d15, H15⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [H14 H15 Hr]
  · isplitl [H14 H15]
    · isplitl [H14]; · iexact H14
      iexact H15
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as spelled above. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in

/-- Every fair execution ends, with every array of the pipeline at what the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The argument arrays end as they began and every semaphore counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.AttnIdeal.Run

end
-- ==== Proof.AttnMath.lean ====
/- The mathematics of the attention call over the extended reals, for one query and one value column: softmax with real
   logits, computed at once or by running sums that are rescaled whenever the running maximum grows. -/
module

public import Idealize.ShloMosaic.Lib.Pointwise

@[expose] public section

noncomputable section

namespace Cert.AttnMath

open Idealize.ShloMosaic

/-- The sum of the values `v` weighted by the softmax of the logits `z`. -/
def soft {n : ℕ} (z : Fin n → ℝ) (v : Fin n → EReal) : EReal :=
  ∑ k, v k * ((Real.exp (z k) / ∑ i, Real.exp (z i) : ℝ) : EReal)

/-- A nonnegative real factor goes into a sum of two. -/
theorem real_mul_add {c : ℝ} (hc : 0 ≤ c) (x y : EReal) : (c : EReal) * (x + y) = c * x + c * y :=
  EReal.left_distrib_of_nonneg_of_ne_top (EReal.coe_nonneg.mpr hc) (EReal.coe_ne_top c) x y

/-- A nonnegative real factor goes into a sum. -/
theorem real_mul_sum {ι : Type} {c : ℝ} (hc : 0 ≤ c) (s : Finset ι) (f : ι → EReal) :
    (c : EReal) * ∑ i ∈ s, f i = ∑ i ∈ s, (c : EReal) * f i := by
  classical
  induction s using Finset.induction_on with
  | empty => simp
  | insert i s hi ih => rw [Finset.sum_insert hi, Finset.sum_insert hi, real_mul_add hc, ih]

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The greatest of finitely many reals, started at `⊥`, is a real. -/
theorem fold_max_real {n : ℕ} [NeZero n] (s : Fin n → EReal) (σ : Fin n → ℝ) (hs : ∀ j, s j = σ j) :
    ∃ μ : ℝ, Finset.fold max ⊥ s Finset.univ = (μ : EReal) := by
  have h1 : Finset.fold max ⊥ s Finset.univ ≠ ⊤ :=
    ne_of_lt ((Finset.fold_max_lt _).mpr ⟨bot_lt_top, fun j _ => by rw [hs]; exact EReal.coe_lt_top _⟩)
  have h2 : Finset.fold max ⊥ s Finset.univ ≠ ⊥ :=
    (ne_of_lt ((Finset.lt_fold_max _).mpr (.inr ⟨0, Finset.mem_univ _, by rw [hs]; exact EReal.bot_lt_coe _⟩))).symm
  exact ⟨_, (EReal.coe_toReal h1 h2).symm⟩

/-- The power of two at a difference of reals. -/
theorem exp2_sub (x y : ℝ) : Ideal.exp2 ((x : EReal) - y) = (((2 : ℝ) ^ (-y) * (2 : ℝ) ^ x : ℝ) : EReal) := by
  rw [← EReal.coe_sub, Ideal.exp2_coe, ← Real.rpow_add two_pos, neg_add_eq_sub]
  rfl

theorem pow_nonneg (x : ℝ) : 0 ≤ (2 : ℝ) ^ x := (Real.rpow_pos_of_pos two_pos x).le

/-- Running sums `l` and `a` at the running maximum `m`: they are the unscaled sums `L` and `A` times the power of two at
    `-m`, and `m` is a real. -/
def Run (m l a L A : EReal) : Prop :=
  ∃ μ : ℝ, m = μ ∧ l = (((2 : ℝ) ^ (-μ) : ℝ) : EReal) * L ∧ a = (((2 : ℝ) ^ (-μ) : ℝ) : EReal) * A

/-- The sum of a chunk's weights at a running maximum `μ`. -/
theorem sum_weights {n : ℕ} (s : Fin n → EReal) (σ : Fin n → ℝ) (hs : ∀ j, s j = σ j) (μ : ℝ) :
    ∑ j, Ideal.exp2 (s j - μ) = (((2 : ℝ) ^ (-μ) : ℝ) : EReal) * ∑ j, (((2 : ℝ) ^ σ j : ℝ) : EReal) := by
  rw [real_mul_sum (pow_nonneg _)]
  refine Finset.sum_congr rfl fun j _ => ?_
  rw [hs, exp2_sub, EReal.coe_mul]

/-- The sum of a chunk's weighted values at a running maximum `μ`. -/
theorem sum_values {n : ℕ} (s v : Fin n → EReal) (σ : Fin n → ℝ) (hs : ∀ j, s j = σ j) (μ : ℝ) :
    ∑ j, v j * Ideal.exp2 (s j - μ) = (((2 : ℝ) ^ (-μ) : ℝ) : EReal) * ∑ j, v j * (((2 : ℝ) ^ σ j : ℝ) : EReal) := by
  rw [real_mul_sum (pow_nonneg _)]
  refine Finset.sum_congr rfl fun j _ => ?_
  rw [hs, exp2_sub, EReal.coe_mul, mul_left_comm]

/-- The first chunk sets the running sums up. -/
theorem run_start {n : ℕ} [NeZero n] (s v : Fin n → EReal) (σ : Fin n → ℝ) (hs : ∀ j, s j = σ j) (m : EReal)
    (hm : m = Finset.fold max ⊥ s Finset.univ) :
    Run m (∑ j, Ideal.exp2 (s j - m)) (∑ j, v j * Ideal.exp2 (s j - m))
      (∑ j, (((2 : ℝ) ^ σ j : ℝ) : EReal)) (∑ j, v j * (((2 : ℝ) ^ σ j : ℝ) : EReal)) := by
  obtain ⟨μ, hμ⟩ := fold_max_real s σ hs
  rw [hμ] at hm
  subst hm
  exact ⟨μ, rfl, sum_weights s σ hs μ, sum_values s v σ hs μ⟩

/-- Another chunk: the running sums are rescaled to the new maximum and the chunk's sums added. -/
theorem run_step {n : ℕ} [NeZero n] (s v : Fin n → EReal) (σ : Fin n → ℝ) (hs : ∀ j, s j = σ j) {m l a L A : EReal}
    (h : Run m l a L A) (m' : EReal) (hm : m' = max m (Finset.fold max ⊥ s Finset.univ)) :
    Run m' (Ideal.exp2 (m - m') * l + ∑ j, Ideal.exp2 (s j - m'))
      (Ideal.exp2 (m - m') * a + ∑ j, v j * Ideal.exp2 (s j - m'))
      (L + ∑ j, (((2 : ℝ) ^ σ j : ℝ) : EReal)) (A + ∑ j, v j * (((2 : ℝ) ^ σ j : ℝ) : EReal)) := by
  obtain ⟨μ, rfl, rfl, rfl⟩ := h
  obtain ⟨ν, hν⟩ := fold_max_real s σ hs
  rw [hν, ← EReal.coe_strictMono.monotone.map_max] at hm
  subst hm
  have hc : ∀ x : EReal, Ideal.exp2 ((μ : EReal) - ((max μ ν : ℝ) : EReal)) * ((((2 : ℝ) ^ (-μ) : ℝ) : EReal) * x)
      = (((2 : ℝ) ^ (-(max μ ν)) : ℝ) : EReal) * x := fun x => by
    rw [exp2_sub, ← mul_assoc, ← EReal.coe_mul, mul_assoc, ← Real.rpow_add two_pos, add_neg_cancel, Real.rpow_zero, mul_one]
  refine ⟨max μ ν, rfl, ?_, ?_⟩
  · rw [hc, sum_weights s σ hs, real_mul_add (pow_nonneg _)]
  · rw [hc, sum_values s v σ hs, real_mul_add (pow_nonneg _)]

/-- The end: the quotient of the running sums is that of the unscaled ones. -/
theorem run_finish {m l a A : EReal} {Λ : ℝ} (hΛ : 0 < Λ) (h : Run m l a (Λ : EReal) A) :
    a * Ideal.div 1 l = ((1 / Λ : ℝ) : EReal) * A := by
  obtain ⟨μ, -, rfl, rfl⟩ := h
  have hp : (0 : ℝ) < 2 ^ (-μ) := Real.rpow_pos_of_pos two_pos _
  rw [← EReal.coe_mul, Ideal.div_coe (mul_pos hp hΛ).ne', one_mul, mul_comm, ← mul_assoc, ← EReal.coe_mul]
  congr 2
  field_simp

/-- A sum over the 4352 keys, split into the 256 context keys and the four chunks of lm keys. -/
theorem sum_keys (f : Fin 4352 → EReal) :
    ∑ k, f k = ∑ j : Fin 256, f ⟨j.val, by omega⟩ + ∑ j : Fin 1024, f ⟨256 + j.val, by omega⟩
      + ∑ j : Fin 1024, f ⟨1280 + j.val, by omega⟩ + ∑ j : Fin 1024, f ⟨2304 + j.val, by omega⟩
      + ∑ j : Fin 1024, f ⟨3328 + j.val, by omega⟩ := by
  refine (Fin.sum_univ_add (a := 3328) (b := 1024) f).trans (congrArg₂ (· + ·) ?_ rfl)
  refine (Fin.sum_univ_add (a := 2304) (b := 1024) _).trans (congrArg₂ (· + ·) ?_ rfl)
  refine (Fin.sum_univ_add (a := 1280) (b := 1024) _).trans (congrArg₂ (· + ·) ?_ rfl)
  exact Fin.sum_univ_add (a := 256) (b := 1024) _

/-- Unscaled sums of powers of two at logits divided by `log 2` give the softmax of the logits. -/
theorem soft_eq {n : ℕ} [NeZero n] (z σ : Fin n → ℝ) (hσ : ∀ k, Real.exp (z k) = (2 : ℝ) ^ σ k) (v : Fin n → EReal) :
    ((1 / ∑ k, (2 : ℝ) ^ σ k : ℝ) : EReal) * ∑ k, v k * (((2 : ℝ) ^ σ k : ℝ) : EReal) = soft z v := by
  have hp : 0 ≤ 1 / ∑ k, (2 : ℝ) ^ σ k := one_div_nonneg.mpr (Finset.sum_nonneg fun k _ => pow_nonneg _)
  rw [real_mul_sum hp]
  unfold soft
  refine Finset.sum_congr rfl fun k _ => ?_
  rw [mul_left_comm, ← EReal.coe_mul]
  simp only [hσ]
  rw [one_div_mul_eq_div]

/-- The softmax as the reference computes it: the logits lowered by a real `M`, the exponentials divided by their sum. -/
theorem soft_ref {n : ℕ} [NeZero n] (s v : Fin n → EReal) (z : Fin n → ℝ) (hs : ∀ k, s k = z k) (M : ℝ) :
    ∑ k, v k * Ideal.div (Ideal.exp (s k - M)) (∑ i, Ideal.exp (s i - M)) = soft z v := by
  have he : ∀ k, Ideal.exp (s k - M) = ((Real.exp (-M) * Real.exp (z k) : ℝ) : EReal) := fun k => by
    rw [hs, ← EReal.coe_sub, Ideal.exp_coe, ← Real.exp_add, neg_add_eq_sub]
  have hsum : ∑ i, Ideal.exp (s i - M) = ((Real.exp (-M) * ∑ i, Real.exp (z i) : ℝ) : EReal) := by
    simp only [he]
    rw [← coe_sum, Finset.mul_sum]
  have hpos : 0 < ∑ i, Real.exp (z i) := Finset.sum_pos (fun i _ => Real.exp_pos _) ⟨0, Finset.mem_univ _⟩
  unfold soft
  refine Finset.sum_congr rfl fun k _ => ?_
  rw [hsum, he, Ideal.div_coe (mul_pos (Real.exp_pos _) hpos).ne', ← EReal.coe_mul]
  congr 2
  have := (Real.exp_pos (-M)).ne'
  field_simp

/-- The exponential of a logit is the power of two at the logit over `log 2`. -/
theorem exp_eq_two_pow (x : ℝ) : Real.exp x = (2 : ℝ) ^ (x * (Real.log 2)⁻¹) := by
  have : Real.log 2 ≠ 0 := (Real.log_pos one_lt_two).ne'
  rw [Real.rpow_def_of_pos two_pos]
  congr 1
  field_simp

end Cert.AttnMath

end
-- ==== Proof.AttnBlock.lean ====
/- What the attention kernel leaves in its output block, element by element: the softmax-weighted sum of the value
   columns, the logits being the reals the query and the keys give. -/
module

public import proofs.«01_k».proof.Proof.AttnIdealRun
public import proofs.«01_k».proof.Proof.AttnMath
public import Idealize.ShloMosaic.Lib.Pipeline.ValueKit
public import Idealize.ShloMosaic.Rules

@[expose] public section

set_option maxRecDepth 16384

noncomputable section

namespace Cert.AttnIdeal.Block

open Cert.AttnIdeal Cert.AttnIdeal.Gen Cert.AttnIdeal.Trip Idealize.ShloMosaic Cert.AttnMath

/-- The kernel's scale as a real. -/
def scale : ℝ := (Real.log 2)⁻¹ * (Real.sqrt 192)⁻¹

theorem scale_eq : (Named.named κ "q_scale" 0x3DD53B95#32 : Ideal .f32) = (scale : EReal) :=
  IdealRules.named_const.ideal_named_scalar _ _ _ _ rfl

theorem bot_eq : Ideal.ofBits .f32 4286578688#32 = (⊥ : EReal) := by simp [Ideal.ofBits, Ideal.ieee]

variable (q : Vec Ideal S1x1x192x512 .bf16) (kc : Vec Ideal S1x1x256x192 .bf16) (kl : Vec Ideal S1x1x1024x192 .bf16)
  (vc : Vec Ideal S1x1x128x256 .bf16) (vl : Vec Ideal S1x1x128x1024 .bf16)
  (m l : FVec Ideal S1x512 .f32) (a : FVec Ideal S128x512 .f32)

/-- A context score. -/
def sc (r : Fin 512) (j : Fin 256) : EReal := ∑ x : Fin 192, kc (ix4 0 0 j x) * (q (ix4 0 0 x r) * (scale : EReal))

/-- An lm score. -/
def sl (r : Fin 512) (j : Fin 1024) : EReal := ∑ x : Fin 192, kl (ix4 0 0 j x) * (q (ix4 0 0 x r) * (scale : EReal))

theorem ctxScores_apply (r : Fin 512) (j : Fin 256) : ctxScores q kc (ix3 0 j r) = sc q kc r j := by
  pointwise [ctxScores, k0_pay41, k0_pay40, sc]
  simp only [scale_eq]

theorem ctxMax_apply (r : Fin 512) : ctxMax q kc (ix3 0 0 r) = Finset.fold max ⊥ (sc q kc r) Finset.univ := by
  pointwise [ctxMax, k0_pay42, k0_pay40]
  simp only [scale_eq, bot_eq]
  rfl

theorem lmScores_apply (r : Fin 512) (j : Fin 1024) : lmScores q kl (ix3 0 j r) = sl q kl r j := by
  pointwise [lmScores, k0_pay6, k0_pay5, k0_pay4, sl]
  simp only [scale_eq]

theorem lmMax_apply (r : Fin 512) : lmMax q kl (ix3 0 0 r) = Finset.fold max ⊥ (sl q kl r) Finset.univ := by
  pointwise [lmMax, k0_pay7, k0_pay5, k0_pay4]
  simp only [scale_eq, bot_eq]
  rfl

theorem m0_apply (r : Fin 512) : m0 q kc (ix2 0 r) = Finset.fold max ⊥ (sc q kc r) Finset.univ := by
  pointwise [m0, k0_pay8]
  exact ctxMax_apply q kc r

theorem mNext_apply (r : Fin 512) :
    mNext m q kl (ix2 0 r) = max (m (ix2 0 r)) (Finset.fold max ⊥ (sl q kl r) Finset.univ) := by
  pointwise [mNext, k0_pay15]
  rw [lmMax_apply]

theorem l0_apply (r : Fin 512) : l0 q kc (ix2 0 r) = ∑ j, Ideal.exp2 (sc q kc r j - m0 q kc (ix2 0 r)) := by
  rw [m0_apply]
  pointwise [l0, k0_pay10, k0_pay9, k0_pay8]
  simp only [ctxMax_apply, ctxScores_apply]
  try rfl

theorem lNext_apply (r : Fin 512) :
    lNext m l q kl (ix2 0 r) = Ideal.exp2 (m (ix2 0 r) - mNext m q kl (ix2 0 r)) * l (ix2 0 r)
      + ∑ j, Ideal.exp2 (sl q kl r j - mNext m q kl (ix2 0 r)) := by
  rw [mNext_apply]
  pointwise [lNext, k0_pay62, k0_pay60, k0_pay61, k0_pay59]
  simp only [lmMax_apply, lmScores_apply]
  try rfl

theorem a0_apply (r : Fin 512) (d : Fin 128) :
    a0 q kc vc (ix2 d r) = ∑ j, vc (ix4 0 0 d j) * Ideal.exp2 (sc q kc r j - m0 q kc (ix2 0 r)) := by
  simp only [m0_apply]
  pointwise [a0, k0_pay11, k0_pay9, k0_pay8]
  simp only [ctxMax_apply, ctxScores_apply]
  try rfl

theorem aNext_apply (r : Fin 512) (d : Fin 128) :
    aNext m a q kl vl (ix2 d r) = Ideal.exp2 (m (ix2 0 r) - mNext m q kl (ix2 0 r)) * a (ix2 d r)
      + ∑ j, vl (ix4 0 0 d j) * Ideal.exp2 (sl q kl r j - mNext m q kl (ix2 0 r)) := by
  rw [mNext_apply]
  pointwise [aNext, k0_pay63, k0_pay60, k0_pay61, k0_pay59]
  simp only [lmMax_apply, lmScores_apply]
  try rfl

theorem fin_apply (r : Fin 512) (d : Fin 128) :
    fin m l a q kl vl (ix3 0 r d) = aNext m a q kl vl (ix2 d r) * Ideal.div 1 (lNext m l q kl (ix2 0 r)) := by
  rw [aNext_apply, lNext_apply, mNext_apply]
  pointwise [fin, k0_pay3, k0_pay85]
  simp only [lmMax_apply, lmScores_apply, Ideal.ofBits_one_f32]
  try rfl

variable (k0 k1 k2 k3 : Vec Ideal S1x1x1024x192 .bf16) (v0 v1 v2 v3 : Vec Ideal S1x1x128x1024 .bf16)

/-- The logit of a query column and a key row of reals, without the factor of the base two. -/
def logit (Q K : Fin 192 → ℝ) : ℝ := (∑ x, Q x * K x) * (Real.sqrt 192)⁻¹

theorem score_real (Q K : Fin 192 → ℝ) :
    ∑ x : Fin 192, (K x : EReal) * ((Q x : EReal) * (scale : EReal)) = ((logit Q K * (Real.log 2)⁻¹ : ℝ) : EReal) := by
  rw [show (logit Q K * (Real.log 2)⁻¹ : ℝ) = ∑ x : Fin 192, K x * (Q x * scale) by
    unfold logit scale
    rw [Finset.sum_mul, Finset.sum_mul]
    exact Finset.sum_congr rfl fun x _ => by ring]
  rw [coe_sum]
  simp only [EReal.coe_mul]

/-- A finished tile holds the softmax-weighted sums of the value columns, over all 4352 keys. -/
theorem tile_eq (Q : Fin 192 → ℝ) (K : Fin 4352 → Fin 192 → ℝ) (v : Fin 4352 → EReal) (r : Fin 512) (d : Fin 128)
    (hq : ∀ x, q (ix4 0 0 x r) = (Q x : EReal))
    (hkc : ∀ (j : Fin 256) x, kc (ix4 0 0 j x) = (K ⟨j.val, by omega⟩ x : EReal))
    (hk0 : ∀ (j : Fin 1024) x, k0 (ix4 0 0 j x) = (K ⟨256 + j.val, by omega⟩ x : EReal))
    (hk1 : ∀ (j : Fin 1024) x, k1 (ix4 0 0 j x) = (K ⟨1280 + j.val, by omega⟩ x : EReal))
    (hk2 : ∀ (j : Fin 1024) x, k2 (ix4 0 0 j x) = (K ⟨2304 + j.val, by omega⟩ x : EReal))
    (hk3 : ∀ (j : Fin 1024) x, k3 (ix4 0 0 j x) = (K ⟨3328 + j.val, by omega⟩ x : EReal))
    (hvc : ∀ j : Fin 256, vc (ix4 0 0 d j) = v ⟨j.val, by omega⟩)
    (hv0 : ∀ j : Fin 1024, v0 (ix4 0 0 d j) = v ⟨256 + j.val, by omega⟩)
    (hv1 : ∀ j : Fin 1024, v1 (ix4 0 0 d j) = v ⟨1280 + j.val, by omega⟩)
    (hv2 : ∀ j : Fin 1024, v2 (ix4 0 0 d j) = v ⟨2304 + j.val, by omega⟩)
    (hv3 : ∀ j : Fin 1024, v3 (ix4 0 0 d j) = v ⟨3328 + j.val, by omega⟩) :
    tile q kc vc k0 k1 k2 k3 v0 v1 v2 v3 (ix3 0 r d) = soft (fun k => logit Q (K k)) v := by
  have sC : ∀ j : Fin 256, sc q kc r j = ((logit Q (K ⟨j.val, by omega⟩) * (Real.log 2)⁻¹ : ℝ) : EReal) := fun j => by
    rw [← score_real]; unfold sc; simp only [hq, hkc]
  have s0 : ∀ j : Fin 1024, sl q k0 r j = ((logit Q (K ⟨256 + j.val, by omega⟩) * (Real.log 2)⁻¹ : ℝ) : EReal) := fun j => by
    rw [← score_real]; unfold sl; simp only [hq, hk0]
  have s1 : ∀ j : Fin 1024, sl q k1 r j = ((logit Q (K ⟨1280 + j.val, by omega⟩) * (Real.log 2)⁻¹ : ℝ) : EReal) := fun j => by
    rw [← score_real]; unfold sl; simp only [hq, hk1]
  have s2 : ∀ j : Fin 1024, sl q k2 r j = ((logit Q (K ⟨2304 + j.val, by omega⟩) * (Real.log 2)⁻¹ : ℝ) : EReal) := fun j => by
    rw [← score_real]; unfold sl; simp only [hq, hk2]
  have s3 : ∀ j : Fin 1024, sl q k3 r j = ((logit Q (K ⟨3328 + j.val, by omega⟩) * (Real.log 2)⁻¹ : ℝ) : EReal) := fun j => by
    rw [← score_real]; unfold sl; simp only [hq, hk3]
  have h0 := run_start (sc q kc r) (fun j => vc (ix4 0 0 d j)) _ sC (m0 q kc (ix2 0 r)) (m0_apply q kc r)
  rw [← l0_apply, ← a0_apply] at h0
  have h1 := run_step (sl q k0 r) (fun j => v0 (ix4 0 0 d j)) _ s0 h0 _ (mNext_apply q k0 _ r)
  rw [← lNext_apply, ← aNext_apply] at h1
  have h2 := run_step (sl q k1 r) (fun j => v1 (ix4 0 0 d j)) _ s1 h1 _ (mNext_apply q k1 _ r)
  rw [← lNext_apply, ← aNext_apply] at h2
  have h3 := run_step (sl q k2 r) (fun j => v2 (ix4 0 0 d j)) _ s2 h2 _ (mNext_apply q k2 _ r)
  rw [← lNext_apply, ← aNext_apply] at h3
  have h4 := run_step (sl q k3 r) (fun j => v3 (ix4 0 0 d j)) _ s3 h3 _ (mNext_apply q k3 _ r)
  rw [← lNext_apply, ← aNext_apply] at h4
  simp only [hvc, hv0, hv1, hv2, hv3] at h4
  rw [← sum_keys (fun k => (((2 : ℝ) ^ (logit Q (K k) * (Real.log 2)⁻¹) : ℝ) : EReal)),
    ← sum_keys (fun k => v k * (((2 : ℝ) ^ (logit Q (K k) * (Real.log 2)⁻¹) : ℝ) : EReal)), ← coe_sum] at h4
  unfold tile
  rw [fin_apply]
  refine (run_finish (Finset.sum_pos (fun k _ => Real.rpow_pos_of_pos two_pos _) ⟨0, Finset.mem_univ _⟩) h4).trans ?_
  exact soft_eq _ _ (fun k => exp_eq_two_pow _) _

/-! ## The whole block -/

section Whole

variable (x0 : Vec Ideal S1x1x192x4096 .bf16) (x1 : Vec Ideal S1x1x256x192 .bf16) (x2 : Vec Ideal S1x1x4096x192 .bf16)
  (x3 : Vec Ideal S1x1x128x256 .bf16) (x4 : Vec Ideal S1x1x128x4096 .bf16)

theorem kc_at (j : Fin 256) (x : Fin 192) : kcAt x1 (ix4 0 0 j x) = x1 (ix4 0 0 j x) := by
  refine congrArg x1 (funext fun a => Fin.ext ?_)
  match a with
  | ⟨0, _⟩ => rfl
  | ⟨1, _⟩ => rfl
  | ⟨2, _⟩ => exact (Nat.zero_add _).trans (Nat.one_mul j.val)
  | ⟨3, _⟩ => exact (Nat.zero_add _).trans (Nat.one_mul x.val)

theorem vc_at (d : Fin 128) (j : Fin 256) : vcAt x3 (ix4 0 0 d j) = x3 (ix4 0 0 d j) := by
  refine congrArg x3 (funext fun a => Fin.ext ?_)
  match a with
  | ⟨0, _⟩ => rfl
  | ⟨1, _⟩ => rfl
  | ⟨2, _⟩ => exact (Nat.zero_add _).trans (Nat.one_mul d.val)
  | ⟨3, _⟩ => exact (Nat.zero_add _).trans (Nat.one_mul j.val)

theorem kl_at (n : ℕ) (hn : n + 1024 ≤ 4096) (inb) (j : Fin 1024) (x : Fin 192) :
    klAt x2 n inb (ix4 0 0 j x) = x2 (ix4 0 0 ⟨n + j.val, by omega⟩ x) := by
  refine congrArg x2 (funext fun a => Fin.ext ?_)
  match a with
  | ⟨0, _⟩ => rfl
  | ⟨1, _⟩ => rfl
  | ⟨2, _⟩ => exact congrArg (n + ·) (Nat.one_mul j.val)
  | ⟨3, _⟩ => exact (Nat.zero_add _).trans (Nat.one_mul x.val)

theorem vl_at (n : ℕ) (hn : n + 1024 ≤ 4096) (inb) (d : Fin 128) (j : Fin 1024) :
    vlAt x4 n inb (ix4 0 0 d j) = x4 (ix4 0 0 d ⟨n + j.val, by omega⟩) := by
  refine congrArg x4 (funext fun a => Fin.ext ?_)
  match a with
  | ⟨0, _⟩ => rfl
  | ⟨1, _⟩ => rfl
  | ⟨2, _⟩ => exact (Nat.zero_add _).trans (Nat.one_mul d.val)
  | ⟨3, _⟩ => exact congrArg (n + ·) (Nat.one_mul j.val)

theorem q_at (n : ℕ) (hn : n + 512 ≤ 4096) (inb) (x : Fin 192) (r : Fin 512) :
    qAt x0 ![0, 0, 0, n] inb (ix4 0 0 x r) = x0 (ix4 0 0 x ⟨n + r.val, by omega⟩) := by
  refine congrArg x0 (funext fun a => Fin.ext ?_)
  match a with
  | ⟨0, _⟩ => rfl
  | ⟨1, _⟩ => rfl
  | ⟨2, _⟩ => exact (Nat.zero_add _).trans (Nat.one_mul x.val)
  | ⟨3, _⟩ => exact congrArg (n + ·) (Nat.one_mul r.val)

variable (Q : Fin 192 → ℝ) (K : Fin 4352 → Fin 192 → ℝ) (v : Fin 4352 → EReal) (R : Fin 4096) (d : Fin 128)

/-- What a query column, the keys and a value column of the blocks are: reals `Q` and `K`, values `v`. -/
structure Reads : Prop where
  q : ∀ x, x0 (ix4 0 0 x R) = (Q x : EReal)
  kc : ∀ (j : Fin 256) x, x1 (ix4 0 0 j x) = (K ⟨j.val, by omega⟩ x : EReal)
  kl : ∀ (j : Fin 4096) x, x2 (ix4 0 0 j x) = (K ⟨256 + j.val, by omega⟩ x : EReal)
  vc : ∀ j : Fin 256, x3 (ix4 0 0 d j) = v ⟨j.val, by omega⟩
  vl : ∀ j : Fin 4096, x4 (ix4 0 0 d j) = v ⟨256 + j.val, by omega⟩

variable {x0 x1 x2 x3 x4 Q K v R d}

/-- The tile from query column `n`, at its row `r`. -/
theorem tileAt_eq (h : Reads x0 x1 x2 x3 x4 Q K v R d) (off : Fin 4 → ℕ) (inb) (n : ℕ) (hn : n + 512 ≤ 4096)
    (hoff : off = ![0, 0, 0, n]) (r : Fin 512) (hr : R.val = n + r.val) :
    tileAt x0 x1 x2 x3 x4 off inb (ix3 0 r d) = soft (fun k => logit Q (K k)) v := by
  subst hoff
  refine tile_eq _ _ _ _ _ _ _ _ _ _ _ Q K v r d (fun x => ?_) (fun j x => ?_) (fun j x => ?_) (fun j x => ?_) (fun j x => ?_) (fun j x => ?_)
    (fun j => ?_) (fun j => ?_) (fun j => ?_) (fun j => ?_) (fun j => ?_)
  · rw [q_at x0 n hn, ← h.q x]
    exact congrArg (fun s => x0 (ix4 0 0 x s)) (Fin.ext hr.symm)
  · rw [kc_at, h.kc]
  · rw [kl_at x2 0 (by omega), h.kl]
    exact congrArg (fun k => ((K k x : ℝ) : EReal)) (Fin.ext (by dsimp only; omega))
  · rw [kl_at x2 1024 (by omega), h.kl]
    exact congrArg (fun k => ((K k x : ℝ) : EReal)) (Fin.ext (by dsimp only; omega))
  · rw [kl_at x2 2048 (by omega), h.kl]
    exact congrArg (fun k => ((K k x : ℝ) : EReal)) (Fin.ext (by dsimp only; omega))
  · rw [kl_at x2 3072 (by omega), h.kl]
    exact congrArg (fun k => ((K k x : ℝ) : EReal)) (Fin.ext (by dsimp only; omega))
  · rw [vc_at, h.vc]
  · rw [vl_at x4 0 (by omega), h.vl]
    exact congrArg v (Fin.ext (by dsimp only; omega))
  · rw [vl_at x4 1024 (by omega), h.vl]
    exact congrArg v (Fin.ext (by dsimp only; omega))
  · rw [vl_at x4 2048 (by omega), h.vl]
    exact congrArg v (Fin.ext (by dsimp only; omega))
  · rw [vl_at x4 3072 (by omega), h.vl]
    exact congrArg v (Fin.ext (by dsimp only; omega))

theorem offs : ∀ k : Fin k0_t1_loop.trips, k0_off1 k = ![0, 0, 0, 1024 * k.val] ∧ k0_off2 k = ![0, 0, 0, 1024 * k.val + 512]
    ∧ k0_off3 k = ![0, 1024 * k.val, 0] ∧ k0_off5 k = ![0, 1024 * k.val + 512, 0] := by decide +kernel

/-- Both tiles of a trip hold the softmax-weighted sum wherever they cover the row. -/
theorem pieces_eq (h : Reads x0 x1 x2 x3 x4 Q K v R d) (k : Fin k0_t1_loop.trips) :
    View.AllAt (pieces x0 x1 x2 x3 x4 k) (ix3 0 R d) (soft (fun k => logit Q (K k)) v) := by
  obtain ⟨o1, o2, o3, o5⟩ := offs k
  have hk : k.val < 4 := k.isLt
  unfold pieces
  refine View.allAt_cons_unit _ _ _ _ _ ?_ (View.allAt_cons_unit _ _ _ _ _ ?_ (View.allAt_nil _ _))
  · intro x hx
    rw [o5] at hx
    idx_vars x
    have h1 : R.val = 1024 * k.val + 512 + x1.val := hx 1
    have h2 : d.val = 0 + x2.val := hx 2
    obtain rfl : x2 = d := Fin.ext (by omega)
    obtain rfl : x0 = 0 := Subsingleton.elim _ _
    exact tileAt_eq h _ _ _ (by omega) o2 _ h1
  · intro x hx
    rw [o3] at hx
    idx_vars x
    have h1 : R.val = 1024 * k.val + x1.val := hx 1
    have h2 : d.val = 0 + x2.val := hx 2
    obtain rfl : x2 = d := Fin.ext (by omega)
    obtain rfl : x0 = 0 := Subsingleton.elim _ _
    exact tileAt_eq h _ _ _ (by omega) o1 _ h1

theorem allAt_append {s : Shape} {e : EltTy} {y : s.Idx} {w : Elt Ideal e} (L L' : List (View.Piece (Elt Ideal) s e))
    (h : View.AllAt L y w) (h' : View.AllAt L' y w) : View.AllAt (L ++ L') y w := fun p hp =>
  (List.mem_append.mp hp).elim (h p) (h' p)

/-- The result block at a row and a column. -/
theorem out9_eq (h : Reads x0 x1 x2 x3 x4 Q K v R d) :
    Run.out9 x0 x1 x2 x3 x4 (ix3 0 R d) = soft (fun k => logit Q (K k)) v :=
  View.canon_eq_of_allAt _ _ _ (Run.cover_out x0 x1 x2 x3 x4 _)
    (allAt_append _ _ (pieces_eq h _) (allAt_append _ _ (pieces_eq h _) (allAt_append _ _ (pieces_eq h _) (pieces_eq h _))))

end Whole

/-! ## The weight blocks: over the ideal floats the cast changes nothing -/

theorem cast10_eq (x : Vec Ideal S64x1024 .f32) (i : Fin 64) (j : Fin 1024) : Run.cast10 x (ix2 i j) = x (ix2 i j) := by
  unfold Run.cast10
  rw [View.canon_cons_unit_zero (by decide)]
  pointwise [k0_pay86]
  try rfl

theorem cast11_eq (x : Vec Ideal S64x2816 .f32) (i : Fin 64) (j : Fin 2816) : Run.cast11 x (ix2 i j) = x (ix2 i j) := by
  unfold Run.cast11
  rw [View.canon_cons_unit_zero (by decide)]
  pointwise [k0_pay87]
  try rfl

theorem cast12_eq (x : Vec Ideal S64x2816 .f32) (i : Fin 64) (j : Fin 2816) : Run.cast12 x (ix2 i j) = x (ix2 i j) := by
  unfold Run.cast12
  rw [View.canon_cons_unit_zero (by decide)]
  pointwise [k0_pay88]
  try rfl

theorem cast13_eq (x : Vec Ideal S176x1024 .f32) (i : Fin 176) (j : Fin 1024) : Run.cast13 x (ix2 i j) = x (ix2 i j) := by
  unfold Run.cast13
  rw [View.canon_cons_unit_zero (by decide)]
  pointwise [k0_pay89]
  try rfl

end Cert.AttnIdeal.Block

end
-- ==== Proof.AttnRefRow.lean ====
/- The attention reference's results, element by element: on real queries and keys the first holds the softmax-weighted sums
   of the value columns, the other four hold the weights. -/
module

public import proofs.«01_k».proof.Proof.Gen.AttnRefIdeal.Run
public import proofs.«01_k».proof.Proof.AttnMath
public import Idealize.ShloMosaic.Lib.Pipeline.ValueKit

@[expose] public section

set_option maxRecDepth 16384

noncomputable section

namespace Cert.AttnRefIdeal.Row

open Cert.AttnRefIdeal Cert.AttnRefIdeal.Gen Idealize.ShloMosaic Idealize.ShloMosaic.TcCoe Cert.AttnMath

/-- The context's and the latent's keys. -/
def keysR (a1 : FVec Ideal S8x256x4x192 .f32) (a2 : FVec Ideal S8x4096x4x192 .f32) : FVec Ideal S8x4352x4x192 .f32 :=
  concatenate S8x4352x4x192 1 [⟨S8x256x4x192, a1⟩, ⟨S8x4096x4x192, a2⟩] concatenates_S8x256x4x192_S8x4096x4x192_S8x4352x4x192_d1

/-- The context's and the latent's values. -/
def valsR (a3 : FVec Ideal S8x256x4x128 .f32) (a4 : FVec Ideal S8x4096x4x128 .f32) : FVec Ideal S8x4352x4x128 .f32 :=
  concatenate S8x4352x4x128 1 [⟨S8x256x4x128, a3⟩, ⟨S8x4096x4x128, a4⟩] concatenates_S8x256x4x128_S8x4096x4x128_S8x4352x4x128_d1

/-- The scaled scores. -/
def scoresR (a0 : FVec Ideal S8x4096x4x192 .f32) (K : FVec Ideal S8x4352x4x192 .f32) : FVec Ideal S8x4x4096x4352 .f32 :=
  mulf (Host.dotGeneral dot_S8x4096x4x192_S8x4352x4x192_S8x4x4096x4352_3_3_1_1_02_02 none a0 K)
    (broadcastInDim S8x4x4096x4352 ![] bcast_S_S8x4x4096x4352 (Host.divf (constant S_ .f32 0x3F800000#32) (Host.sqrt (constant S_ .f32 0x43400000#32))))

/-- The row maxima. -/
def maxR (s : FVec Ideal S8x4x4096x4352 .f32) : FVec Ideal S8x4x4096 .f32 :=
  maximumf (broadcastInDim S8x4x4096 ![] bcast_S_S8x4x4096 (constant S_ .f32 0xFF800000#32))
    (Host.reduce FloatOps.maximumf s (constant S_ .f32 0xFF800000#32) reducesTo_S8x4x4096x4352_S8x4x4096_d3 h_S_)

/-- A number per row spread over the keys. -/
def spreadR (g : FVec Ideal S8x4x4096 .f32) : FVec Ideal S8x4x4096x4352 .f32 :=
  broadcastInDim S8x4x4096x4352 ![0, 1, 2, 3] bcast_S8x4x4096x1_S8x4x4096x4352_0_1_2_3
    (broadcastInDim S8x4x4096x1 ![0, 1, 2] bcast_S8x4x4096_S8x4x4096x1_0_1_2 g)

/-- The exponentials of the scores less a number per row. -/
def expR (s : FVec Ideal S8x4x4096x4352 .f32) (g : FVec Ideal S8x4x4096 .f32) : FVec Ideal S8x4x4096x4352 .f32 :=
  Host.exp (subf s (spreadR g))

/-- The exponentials over their sums. -/
def probR (e : FVec Ideal S8x4x4096x4352 .f32) : FVec Ideal S8x4x4096x4352 .f32 :=
  Host.divf e (spreadR (Host.reduceAdd e (constant S_ .f32 0x00000000#32) reducesTo_S8x4x4096x4352_S8x4x4096_d3 h_S_))

/-- The first result from the scores and the values. -/
def outR (s : FVec Ideal S8x4x4096x4352 .f32) (V : FVec Ideal S8x4352x4x128 .f32) : FVec Ideal S8x4096x512 .bf16 :=
  truncf .bf16 (shapeCast S8x4096x512 (transpose S8x4096x4x128 [0, 3, 1, 2]
    (Host.dotGeneral dot_S8x4352x4x128_S8x4x4096x4352_S8x4x128x4096_1_3_3_2_02_01 none V (probR (expR s (maxR s))))
    transposes_S8x4x128x4096_S8x4096x4x128_0_3_1_2) shapeCasts_S8x4096x4x128_S8x4096x512) bitsLt_bf16_f32

theorem bot_eq : Ideal.ofBits .f32 4286578688#32 = (⊥ : EReal) := by simp [Ideal.ofBits, Ideal.ieee]

theorem n192_eq : Ideal.ofBits .f32 0x43400000#32 = ((192 : ℝ) : EReal) := by
  simp [Ideal.ofBits, Ideal.ieee, -EReal.coe_mul]; norm_num

/-- The reference's scale is the real `1/√192`. -/
theorem scale_eq : Ideal.div 1 (Ideal.sqrt (Ideal.ofBits .f32 0x43400000#32)) = (((Real.sqrt 192)⁻¹ : ℝ) : EReal) := by
  rw [n192_eq, Ideal.sqrt_coe, if_neg (by norm_num), Ideal.div_coe (Real.sqrt_pos.mpr (by norm_num)).ne', one_mul, one_div]

theorem scoresR_apply (a0 : FVec Ideal S8x4096x4x192 .f32) (K : FVec Ideal S8x4352x4x192 .f32) (b : Fin 8) (h : Fin 4) (r : Fin 4096) (k : Fin 4352) :
    scoresR a0 K (ix4 b h r k) = (∑ x : Fin 192, a0 (ix4 b r h x) * K (ix4 b k h x)) * (((Real.sqrt 192)⁻¹ : ℝ) : EReal) := by
  rw [← scale_eq]
  pointwise [scoresR]

/-- A maximum over part of an array's indices, started at `⊥`, is a real where the elements it is over are reals. -/
theorem reduce_real {s t u : Shape} {axes : List (Fin s.rank)} (x : FVec Ideal s .f32) (init : FVec Ideal u .f32) (hr : s.ReducesTo axes t)
    (hu : 0 < u.numel) (hi : init (Shape.Idx.first hu) = (⊥ : EReal)) (j : t.Idx)
    (hx : ∀ i, hr.drop i = j → ∃ z : ℝ, x i = (z : EReal)) (i0 : s.Idx) (h0 : hr.drop i0 = j) :
    ∃ μ : ℝ, Host.reduce (FloatOps.maximumf (F := Ideal) (φ := .f32)) x init hr hu j = (μ : EReal) := by
  rw [Host.reduce_eq_fold, hi]
  change ∃ μ : ℝ, Finset.fold (max : EReal → EReal → EReal) ⊥ x (Finset.univ.filter fun i => hr.drop i = j) = (μ : EReal)
  have hm : i0 ∈ Finset.univ.filter fun i => hr.drop i = j := Finset.mem_filter.mpr ⟨Finset.mem_univ _, h0⟩
  have h1 : Finset.fold (max : EReal → EReal → EReal) ⊥ x (Finset.univ.filter fun i => hr.drop i = j) ≠ ⊤ :=
    ne_of_lt ((Finset.fold_max_lt _).mpr ⟨bot_lt_top, fun i hi => by
      obtain ⟨z, hz⟩ := hx i (Finset.mem_filter.mp hi).2
      rw [hz]; exact EReal.coe_lt_top _⟩)
  have h2 : Finset.fold (max : EReal → EReal → EReal) ⊥ x (Finset.univ.filter fun i => hr.drop i = j) ≠ ⊥ :=
    (ne_of_lt ((Finset.lt_fold_max _).mpr (.inr ⟨i0, hm, by
      obtain ⟨z, hz⟩ := hx i0 h0
      rw [hz]; exact EReal.bot_lt_coe _⟩))).symm
  exact ⟨_, (EReal.coe_toReal h1 h2).symm⟩

/-- A row of the scores drops to its place among the maxima. -/
theorem drop_eq (b : Fin 8) (h : Fin 4) (r : Fin 4096) (k : Fin 4352) :
    reducesTo_S8x4x4096x4352_S8x4x4096_d3.drop (ix4 b h r k) = ix3 b h r := by
  funext a
  match a with
  | ⟨0, _⟩ => exact Fin.ext (Shape.ReducesTo.drop_apply_val_of_eq reducesTo_S8x4x4096x4352_S8x4x4096_d3 (ix4 b h r k) (⟨0, by decide⟩ : Fin S8x4x4096.rank) (⟨0, by decide⟩ : Fin S8x4x4096x4352.rank) (by decide) (by decide))
  | ⟨1, _⟩ => exact Fin.ext (Shape.ReducesTo.drop_apply_val_of_eq reducesTo_S8x4x4096x4352_S8x4x4096_d3 (ix4 b h r k) (⟨1, by decide⟩ : Fin S8x4x4096.rank) (⟨1, by decide⟩ : Fin S8x4x4096x4352.rank) (by decide) (by decide))
  | ⟨2, _⟩ => exact Fin.ext (Shape.ReducesTo.drop_apply_val_of_eq reducesTo_S8x4x4096x4352_S8x4x4096_d3 (ix4 b h r k) (⟨2, by decide⟩ : Fin S8x4x4096.rank) (⟨2, by decide⟩ : Fin S8x4x4096x4352.rank) (by decide) (by decide))

/-- The maximum of a row of real scores is a real. -/
theorem maxR_real (s : FVec Ideal S8x4x4096x4352 .f32) (b : Fin 8) (h : Fin 4) (r : Fin 4096) (z : Fin 4352 → ℝ)
    (hs : ∀ k, s (ix4 b h r k) = (z k : EReal)) : ∃ μ : ℝ, maxR s (ix3 b h r) = (μ : EReal) := by
  obtain ⟨μ, hμ⟩ := reduce_real s (constant S_ .f32 0xFF800000#32) reducesTo_S8x4x4096x4352_S8x4x4096_d3 h_S_ bot_eq (ix3 b h r)
    (fun i hi => by
      idx_vars i
      rw [drop_eq] at hi
      have e0 : i0 = b := congrFun hi 0
      have e1 : i1 = h := congrFun hi 1
      have e2 : i2 = r := congrFun hi 2
      subst e0 e1 e2
      exact ⟨_, hs i3⟩) (ix4 b h r 0) (drop_eq b h r 0)
  have hb : broadcastInDim S8x4x4096 ![] bcast_S_S8x4x4096 (constant (F := Ideal) S_ .f32 0xFF800000#32) (ix3 b h r) = (⊥ : EReal) := bot_eq
  unfold maxR
  rw [maximumf_apply, hμ, hb]
  exact ⟨μ, bot_sup_eq _⟩

theorem expR_apply (s : FVec Ideal S8x4x4096x4352 .f32) (g : FVec Ideal S8x4x4096 .f32) (b : Fin 8) (h : Fin 4) (r : Fin 4096) (k : Fin 4352) :
    expR s g (ix4 b h r k) = Ideal.exp (s (ix4 b h r k) - g (ix3 b h r)) := by
  pointwise [expR, spreadR]

theorem probR_apply (e : FVec Ideal S8x4x4096x4352 .f32) (b : Fin 8) (h : Fin 4) (r : Fin 4096) (k : Fin 4352) :
    probR e (ix4 b h r k) = Ideal.div (e (ix4 b h r k)) (∑ i, e (ix4 b h r i)) := by
  pointwise [probR, spreadR]

theorem outR_apply (s : FVec Ideal S8x4x4096x4352 .f32) (V : FVec Ideal S8x4352x4x128 .f32) (b : Fin 8) (r : Fin 4096) (h : Fin 4) (d : Fin 128) :
    outR s V (ix3 b r ⟨128 * h.val + d.val, by omega⟩)
      = ∑ k, V (ix4 b k h d) * probR (expR s (maxR s)) (ix4 b h r k) := by
  pointwise [outR]
  try rfl

theorem keysR_lo (a1 : FVec Ideal S8x256x4x192 .f32) (a2 : FVec Ideal S8x4096x4x192 .f32) (b : Fin 8) (j : Fin 256) (h : Fin 4) (x : Fin 192) :
    keysR a1 a2 (ix4 b ⟨j.val, by omega⟩ h x) = a1 (ix4 b j h x) := by
  pointwise [keysR]
  try rfl

theorem keysR_hi (a1 : FVec Ideal S8x256x4x192 .f32) (a2 : FVec Ideal S8x4096x4x192 .f32) (b : Fin 8) (j : Fin 4096) (h : Fin 4) (x : Fin 192) :
    keysR a1 a2 (ix4 b ⟨256 + j.val, by omega⟩ h x) = a2 (ix4 b j h x) := by
  pointwise [keysR]
  try rfl

theorem valsR_lo (a3 : FVec Ideal S8x256x4x128 .f32) (a4 : FVec Ideal S8x4096x4x128 .f32) (b : Fin 8) (j : Fin 256) (h : Fin 4) (d : Fin 128) :
    valsR a3 a4 (ix4 b ⟨j.val, by omega⟩ h d) = a3 (ix4 b j h d) := by
  pointwise [valsR]
  try rfl

theorem valsR_hi (a3 : FVec Ideal S8x256x4x128 .f32) (a4 : FVec Ideal S8x4096x4x128 .f32) (b : Fin 8) (j : Fin 4096) (h : Fin 4) (d : Fin 128) :
    valsR a3 a4 (ix4 b ⟨256 + j.val, by omega⟩ h d) = a4 (ix4 b j h d) := by
  pointwise [valsR]
  try rfl

/-- On scores that are reals the first result holds softmax-weighted sums. -/
theorem outR_soft (s : FVec Ideal S8x4x4096x4352 .f32) (V : FVec Ideal S8x4352x4x128 .f32) (b : Fin 8) (r : Fin 4096) (h : Fin 4) (d : Fin 128)
    (z : Fin 4352 → ℝ) (hs : ∀ k, s (ix4 b h r k) = (z k : EReal)) :
    outR s V (ix3 b r ⟨128 * h.val + d.val, by omega⟩) = soft z (fun k => V (ix4 b k h d)) := by
  obtain ⟨μ, hμ⟩ := maxR_real s b h r z hs
  rw [outR_apply]
  simp only [probR_apply, expR_apply, hμ]
  exact soft_ref (fun k => s (ix4 b h r k)) (fun k => V (ix4 b k h d)) z hs μ

/-- A score of real queries and keys is a real. -/
theorem score_real (Q K : Fin 192 → ℝ) :
    (∑ x : Fin 192, (Q x : EReal) * (K x : EReal)) * (((Real.sqrt 192)⁻¹ : ℝ) : EReal) = (((∑ x, Q x * K x) * (Real.sqrt 192)⁻¹ : ℝ) : EReal) := by
  rw [EReal.coe_mul, coe_sum]
  simp only [EReal.coe_mul]

end Cert.AttnRefIdeal.Row

end
-- ==== Proof.AttnValue.lean ====
/- The attention kernel's five result arrays. The first is what the reference computes, on real queries and keys: both
   hold the softmax-weighted sums of the value columns. The other four are the weight arrays. -/
module

public import proofs.«01_k».proof.Proof.AttnBlock
public import proofs.«01_k».proof.Proof.AttnRefRow

@[expose] public section

set_option maxRecDepth 16384

noncomputable section

namespace Cert.AttnIdeal.Result

open Cert.AttnIdeal Cert.AttnIdeal.Gen Cert.AttnIdeal.Run Idealize.ShloMosaic Idealize.ShloMosaic.TcCoe Cert.AttnMath Idealize.SL.Sem
open Idealize.ShloMosaic.Pipeline (Dat)

variable (m : (ℓ : Loc nD τ sig) → Buf (Elt Ideal) ℓ) (c : Dev nD)

/-- The argument arrays. -/
abbrev a0 : FVec Ideal S8x4096x4x192 .f32 := m ((c : Thread nD τ).loc main_arg0)
abbrev a1 : FVec Ideal S8x256x4x192 .f32 := m ((c : Thread nD τ).loc main_arg1)
abbrev a2 : FVec Ideal S8x4096x4x192 .f32 := m ((c : Thread nD τ).loc main_arg2)
abbrev a3 : FVec Ideal S8x256x4x128 .f32 := m ((c : Thread nD τ).loc main_arg3)
abbrev a4 : FVec Ideal S8x4096x4x128 .f32 := m ((c : Thread nD τ).loc main_arg4)

/-- All keys, context first. -/
def keys : FVec Ideal AttnRefIdeal.S8x4352x4x192 .f32 := AttnRefIdeal.Row.keysR (a1 m c) (a2 m c)

/-- All values, context first. -/
def vals : FVec Ideal AttnRefIdeal.S8x4352x4x128 .f32 := AttnRefIdeal.Row.valsR (a3 m c) (a4 m c)

/-- The first result as a function of the argument arrays. -/
def G : FVec Ideal S8x4096x512 .bf16 := AttnRefIdeal.Row.outR (AttnRefIdeal.Row.scoresR (a0 m c) (keys m c)) (vals m c)

/-- Where the windows' blocks lie at a grid point, decided over the grid. -/
theorem idx : ∀ t : Fin grid0.N,
    (win0_0.index t = ![(grid0.coords t 0).val, (grid0.coords t 1).val, 0, 0] ∧ win0_1.index t = ![(grid0.coords t 0).val, (grid0.coords t 1).val, 0, 0]
      ∧ win0_2.index t = ![(grid0.coords t 0).val, (grid0.coords t 1).val, 0, 0] ∧ win0_3.index t = ![(grid0.coords t 0).val, (grid0.coords t 1).val, 0, 0]
      ∧ win0_4.index t = ![(grid0.coords t 0).val, (grid0.coords t 1).val, 0, 0]
      ∧ win0_9.index t = ![(grid0.coords t 0).val, 0, (grid0.coords t 1).val])
    ∧ (win0_5.index t = ![t.val / 2, 0] ∧ win0_6.index t = ![t.val / 2, 0] ∧ win0_7.index t = ![t.val / 2, 0] ∧ win0_8.index t = ![t.val / 2, 0]
      ∧ win0_10.index t = ![t.val / 2, 0] ∧ win0_11.index t = ![t.val / 2, 0] ∧ win0_12.index t = ![t.val / 2, 0]
      ∧ win0_13.index t = ![t.val / 2, 0]) := by decide +kernel

variable (t : Fin cfg0.N)

/-- The batch of point `t`. -/
abbrev bat (t : Fin cfg0.N) : Fin 8 := grid0.coords t 0

/-- The head of point `t`. -/
abbrev head (t : Fin cfg0.N) : Fin 4 := grid0.coords t 1

theorem half_lt (t : Fin cfg0.N) : t.val / 2 < 16 := by
  have : t.val < 32 := t.isLt
  omega

theorem blk0 (x : Fin 192) (r : Fin 4096) :
    iblk m c 0 t (ix4 0 0 x r) = m ((c : Thread nD τ).loc main_arg0) (ix4 (bat t) r (head t) x) := by
  unfold iblk
  rw [View.read_apply, show ((cfg0.win 0).blk t).view.emb (ix4 0 0 x r) = ix4 (bat t) (head t) x r from by blk_ext [idx t] <;> rfl]
  entry_read
  pointwise
  rfl

theorem blk1 (j : Fin 256) (x : Fin 192) :
    iblk m c 1 t (ix4 0 0 j x) = m ((c : Thread nD τ).loc main_arg1) (ix4 (bat t) j (head t) x) := by
  unfold iblk
  rw [View.read_apply, show ((cfg0.win 1).blk t).view.emb (ix4 0 0 j x) = ix4 (bat t) (head t) j x from by blk_ext [idx t] <;> rfl]
  entry_read
  pointwise
  rfl

theorem blk2 (j : Fin 4096) (x : Fin 192) :
    iblk m c 2 t (ix4 0 0 j x) = m ((c : Thread nD τ).loc main_arg2) (ix4 (bat t) j (head t) x) := by
  unfold iblk
  rw [View.read_apply, show ((cfg0.win 2).blk t).view.emb (ix4 0 0 j x) = ix4 (bat t) (head t) j x from by blk_ext [idx t] <;> rfl]
  entry_read
  pointwise
  rfl

theorem blk3 (d : Fin 128) (j : Fin 256) :
    iblk m c 3 t (ix4 0 0 d j) = m ((c : Thread nD τ).loc main_arg3) (ix4 (bat t) j (head t) d) := by
  unfold iblk
  rw [View.read_apply, show ((cfg0.win 3).blk t).view.emb (ix4 0 0 d j) = ix4 (bat t) (head t) d j from by blk_ext [idx t] <;> rfl]
  entry_read
  pointwise
  rfl

theorem blk4 (d : Fin 128) (j : Fin 4096) :
    iblk m c 4 t (ix4 0 0 d j) = m ((c : Thread nD τ).loc main_arg4) (ix4 (bat t) j (head t) d) := by
  unfold iblk
  rw [View.read_apply, show ((cfg0.win 4).blk t).view.emb (ix4 0 0 d j) = ix4 (bat t) (head t) d j from by blk_ext [idx t] <;> rfl]
  entry_read
  pointwise
  rfl

theorem blk5 (i : Fin 64) (l : Fin 1024) :
    iblk m c 5 t (ix2 i l) = m ((c : Thread nD τ).loc main_arg5) (ix2 ⟨64 * (t.val / 2) + i.val, by have := half_lt t; omega⟩ l) := by
  blk_ext [iblk, V, idx t]

theorem blk6 (i : Fin 64) (l : Fin 2816) :
    iblk m c 6 t (ix2 i l) = m ((c : Thread nD τ).loc main_arg6) (ix2 ⟨64 * (t.val / 2) + i.val, by have := half_lt t; omega⟩ l) := by
  blk_ext [iblk, V, idx t]

theorem blk7 (i : Fin 64) (l : Fin 2816) :
    iblk m c 7 t (ix2 i l) = m ((c : Thread nD τ).loc main_arg7) (ix2 ⟨64 * (t.val / 2) + i.val, by have := half_lt t; omega⟩ l) := by
  blk_ext [iblk, V, idx t]

theorem blk8 (i : Fin 176) (l : Fin 1024) :
    iblk m c 8 t (ix2 i l) = m ((c : Thread nD τ).loc main_arg8) (ix2 ⟨176 * (t.val / 2) + i.val, by have := half_lt t; omega⟩ l) := by
  blk_ext [iblk, V, idx t]

/-- On real queries and keys the block of a grid point holds the reference's first result. -/
theorem out_eq (h0 : ∀ i, a0 m c i = ((a0 m c i).toReal : EReal)) (h1 : ∀ i, a1 m c i = ((a1 m c i).toReal : EReal))
    (h2 : ∀ i, a2 m c i = ((a2 m c i).toReal : EReal)) (r : Fin 4096) (d : Fin 128) :
    out9 (iblk m c 0 t) (iblk m c 1 t) (iblk m c 2 t) (iblk m c 3 t) (iblk m c 4 t) (ix3 0 r d)
      = G m c (ix3 (bat t) r ⟨128 * (head t).val + d.val, by have : (head t).val < 4 := (head t).isLt; omega⟩) := by
  have hk : ∀ (k : Fin 4352) x, keys m c (ix4 (bat t) k (head t) x) = ((keys m c (ix4 (bat t) k (head t) x)).toReal : EReal) := fun k x => by
    by_cases hlt : k.val < 256
    · have e : keys m c (ix4 (bat t) k (head t) x) = a1 m c (ix4 (bat t) ⟨k.val, hlt⟩ (head t) x) :=
        AttnRefIdeal.Row.keysR_lo (a1 m c) (a2 m c) (bat t) ⟨k.val, hlt⟩ (head t) x
      rw [e]
      exact h1 _
    · have e : keys m c (ix4 (bat t) k (head t) x) = a2 m c (ix4 (bat t) ⟨k.val - 256, by omega⟩ (head t) x) := by
        refine Eq.trans ?_ (AttnRefIdeal.Row.keysR_hi (a1 m c) (a2 m c) (bat t) ⟨k.val - 256, by omega⟩ (head t) x)
        exact congrArg (fun k => keys m c (ix4 (bat t) k (head t) x)) (Fin.ext (by dsimp only; omega))
      rw [e]
      exact h2 _
  refine (Block.out9_eq (Q := fun x => (a0 m c (ix4 (bat t) r (head t) x)).toReal)
    (K := fun k x => (keys m c (ix4 (bat t) k (head t) x)).toReal) (v := fun k => vals m c (ix4 (bat t) k (head t) d))
    ⟨fun x => ?_, fun j x => ?_, fun j x => ?_, fun j => ?_, fun j => ?_⟩).trans
      (AttnRefIdeal.Row.outR_soft _ _ (bat t) r (head t) d _ fun k => ?_).symm
  · rw [blk0]; exact h0 _
  · rw [blk1, ← hk]; exact (AttnRefIdeal.Row.keysR_lo (a1 m c) (a2 m c) (bat t) j (head t) x).symm
  · rw [blk2, ← hk]; exact (AttnRefIdeal.Row.keysR_hi (a1 m c) (a2 m c) (bat t) j (head t) x).symm
  · rw [blk3]; exact (AttnRefIdeal.Row.valsR_lo (a3 m c) (a4 m c) (bat t) j (head t) d).symm
  · rw [blk4]; exact (AttnRefIdeal.Row.valsR_hi (a3 m c) (a4 m c) (bat t) j (head t) d).symm
  · rw [AttnRefIdeal.Row.scoresR_apply]
    unfold Block.logit
    rw [← AttnRefIdeal.Row.score_real]
    refine congrArg (· * (((Real.sqrt 192)⁻¹ : ℝ) : EReal)) (Finset.sum_congr rfl fun x _ => ?_)
    rw [← hk k x]
    exact congrArg (· * keys m c (ix4 (bat t) k (head t) x)) (h0 _)

/-- The first result array after the run. -/
theorem final9 (h0 : ∀ i, a0 m c i = ((a0 m c i).toReal : EReal)) (h1 : ∀ i, a1 m c i = ((a1 m c i).toReal : EReal))
    (h2 : ∀ i, a2 m c i = ((a2 m c i).toReal : EReal)) : (dats m 0 c).arrAt 9 cfg0.N = G m c := by
  refine (dats m 0 c).arrAt_eq_of_covers 9 _ (by decide +kernel) fun t hf y => ?_
  blk_simp
  rw [after0_9]
  idx_vars y
  obtain rfl : y0 = 0 := Subsingleton.elim _ _
  rw [show ((View.whole main_v10_0).slice (win0_9.rect t)).emb (ix3 0 y1 y2)
    = ix3 (bat t) y1 ⟨128 * (head t).val + y2.val, by have : (head t).val < 4 := (head t).isLt; omega⟩ from by
      blk_ext [idx t] <;> first | rfl | exact congrArg (· + y2.val) (Nat.mul_comm _ _)]
  exact out_eq m c t h0 h1 h2 y1 y2

/-- Result array 1 after the run: weight array 5. -/
theorem final10 : (dats m 0 c).arrAt 10 cfg0.N = m ((c : Thread nD τ).loc main_arg5) := by
  refine (dats m 0 c).arrAt_eq_of_covers 10 _ (by decide +kernel) fun t hf y => ?_
  blk_simp
  rw [after0_10]
  idx_vars y
  rw [show ((View.whole main_v10_1).slice (win0_10.rect t)).emb (ix2 y0 y1) = ix2 ⟨64 * (t.val / 2) + y0.val, by have := half_lt t; omega⟩ y1 from by blk_ext [idx t] <;> rfl]
  exact (Block.cast10_eq _ y0 y1).trans (blk5 m c t y0 y1)

/-- Result array 2 after the run: weight array 6. -/
theorem final11 : (dats m 0 c).arrAt 11 cfg0.N = m ((c : Thread nD τ).loc main_arg6) := by
  refine (dats m 0 c).arrAt_eq_of_covers 11 _ (by decide +kernel) fun t hf y => ?_
  blk_simp
  rw [after0_11]
  idx_vars y
  rw [show ((View.whole main_v10_2).slice (win0_11.rect t)).emb (ix2 y0 y1) = ix2 ⟨64 * (t.val / 2) + y0.val, by have := half_lt t; omega⟩ y1 from by blk_ext [idx t] <;> rfl]
  exact (Block.cast11_eq _ y0 y1).trans (blk6 m c t y0 y1)

/-- Result array 3 after the run: weight array 7. -/
theorem final12 : (dats m 0 c).arrAt 12 cfg0.N = m ((c : Thread nD τ).loc main_arg7) := by
  refine (dats m 0 c).arrAt_eq_of_covers 12 _ (by decide +kernel) fun t hf y => ?_
  blk_simp
  rw [after0_12]
  idx_vars y
  rw [show ((View.whole main_v10_3).slice (win0_12.rect t)).emb (ix2 y0 y1) = ix2 ⟨64 * (t.val / 2) + y0.val, by have := half_lt t; omega⟩ y1 from by blk_ext [idx t] <;> rfl]
  exact (Block.cast12_eq _ y0 y1).trans (blk7 m c t y0 y1)

/-- Result array 4 after the run: weight array 8. -/
theorem final13 : (dats m 0 c).arrAt 13 cfg0.N = m ((c : Thread nD τ).loc main_arg8) := by
  refine (dats m 0 c).arrAt_eq_of_covers 13 _ (by decide +kernel) fun t hf y => ?_
  blk_simp
  rw [after0_13]
  idx_vars y
  rw [show ((View.whole main_v10_4).slice (win0_13.rect t)).emb (ix2 y0 y1) = ix2 ⟨176 * (t.val / 2) + y0.val, by have := half_lt t; omega⟩ y1 from by blk_ext [idx t] <;> rfl]
  exact (Block.cast13_eq _ y0 y1).trans (blk8 m c t y0 y1)

end Cert.AttnIdeal.Result

end
-- ==== Proof.AttnTrip.lean ====
/- What one trip of the attention kernel's loop writes, as functions of the blocks the kernel reads.
   The kernel keeps the scores of one chunk in a scratch buffer while it computes those of the next:
   two slots of scores and two slots of their column maxima. A trip finishes two tiles of 512
   queries; the first of them starts from the scores the trip before it (or the lines before the
   loop) left in slot 0. Stated at any float interpretation. -/
module

public import proofs.«01_k».proof.Proof.Gen.Attn.Frame
public import proofs.«01_k».proof.Proof.Gen.Attn.Loops

@[expose] public section

set_option maxRecDepth 16384

noncomputable section

namespace Cert.Attn.Trip

open Idealize.ShloMosaic Idealize.ShloMosaic.TcCoe Idealize.ShloMosaic.Tactic
open Cert.Attn.Gen

variable {F : FTy → Type} [FloatOps F]

/-! ## The tile of 512 queries -/

/-- The scores of a query tile, scaled by the kernel's constant, against the 256 context keys, as a
    slot of the scratch holds them. -/
def ctxScores (q : Vec F S1x1x192x512 .bf16) (kc : Vec F S1x1x256x192 .bf16) : FVec F S1x256x512 .f32 :=
  k0_pay41 q kc

/-- The column maxima of `ctxScores`. -/
def ctxMax (q : Vec F S1x1x192x512 .bf16) (kc : Vec F S1x1x256x192 .bf16) : FVec F S1x1x512 .f32 :=
  k0_pay42 q kc

/-- The scores of a query tile against 1024 of the lm keys. -/
def lmScores (q : Vec F S1x1x192x512 .bf16) (kl : Vec F S1x1x1024x192 .bf16) : FVec F S1x1024x512 .f32 :=
  k0_pay6 q kl

/-- The column maxima of `lmScores`. -/
def lmMax (q : Vec F S1x1x192x512 .bf16) (kl : Vec F S1x1x1024x192 .bf16) : FVec F S1x1x512 .f32 :=
  k0_pay7 q kl

/-- The running maximum after the context chunk. -/
def m0 (q : Vec F S1x1x192x512 .bf16) (kc : Vec F S1x1x256x192 .bf16) : FVec F S1x512 .f32 :=
  k0_pay8 (ctxMax q kc)

/-- The running maximum after one more chunk of lm keys. -/
def mNext (m : FVec F S1x512 .f32) (q : Vec F S1x1x192x512 .bf16) (kl : Vec F S1x1x1024x192 .bf16) :
    FVec F S1x512 .f32 :=
  k0_pay15 m (lmMax q kl)

/-- The running sum of the weights after the context chunk. -/
def l0 (q : Vec F S1x1x192x512 .bf16) (kc : Vec F S1x1x256x192 .bf16) : FVec F S1x512 .f32 :=
  k0_pay10 (ctxMax q kc) (ctxScores q kc)

/-- The running sum of the weights after one more chunk of lm keys. -/
def lNext (m l : FVec F S1x512 .f32) (q : Vec F S1x1x192x512 .bf16) (kl : Vec F S1x1x1024x192 .bf16) :
    FVec F S1x512 .f32 :=
  k0_pay62 m l (lmMax q kl) (lmScores q kl)

/-- The running weighted sum of the value rows after the context chunk. -/
def a0 (q : Vec F S1x1x192x512 .bf16) (kc : Vec F S1x1x256x192 .bf16) (vc : Vec F S1x1x128x256 .bf16) :
    FVec F S128x512 .f32 :=
  k0_pay11 (k0_pay9 (ctxMax q kc) (ctxScores q kc)) vc

/-- The running weighted sum of the value rows after one more chunk of lm keys. -/
def aNext (m : FVec F S1x512 .f32) (a : FVec F S128x512 .f32) (q : Vec F S1x1x192x512 .bf16)
    (kl : Vec F S1x1x1024x192 .bf16) (vl : Vec F S1x1x128x1024 .bf16) : FVec F S128x512 .f32 :=
  k0_pay63 m a (lmMax q kl) (lmScores q kl) vl

/-- The finished tile: the last chunk folded in, the weighted sum over the sum of the weights,
    transposed. -/
def fin (m l : FVec F S1x512 .f32) (a : FVec F S128x512 .f32) (q : Vec F S1x1x192x512 .bf16)
    (kl : Vec F S1x1x1024x192 .bf16) (vl : Vec F S1x1x128x1024 .bf16) : FVec F S1x512x128 .bf16 :=
  k0_pay3 (k0_pay85 m l a (lmMax q kl) (lmScores q kl) vl)

/-- One tile of the kernel's result: the online softmax over the context keys and the four chunks of
    lm keys. -/
def tile (q : Vec F S1x1x192x512 .bf16) (kc : Vec F S1x1x256x192 .bf16) (vc : Vec F S1x1x128x256 .bf16)
    (k0 k1 k2 k3 : Vec F S1x1x1024x192 .bf16) (v0 v1 v2 v3 : Vec F S1x1x128x1024 .bf16) :
    FVec F S1x512x128 .bf16 :=
  fin (mNext (mNext (mNext (m0 q kc) q k0) q k1) q k2)
    (lNext (mNext (mNext (m0 q kc) q k0) q k1) (lNext (mNext (m0 q kc) q k0) (lNext (m0 q kc) (l0 q kc) q k0) q k1) q k2)
    (aNext (mNext (mNext (m0 q kc) q k0) q k1)
      (aNext (mNext (m0 q kc) q k0) (aNext (m0 q kc) (a0 q kc vc) q k0 v0) q k1 v1) q k2 v2) q k3 v3

/-! ## Reads of the two scratch buffers -/

/-- Rectangles of the score scratch in different slots share no index. -/
theorem disjoint16 {a b : ℕ} {s s' : Fin 3 → ℕ} {inb inb'} (h : a + s 0 ≤ b ∨ b + s' 0 ≤ a) :
    Disjoint (Rect.unit (s := S2x1024x512) ![a, 0, 0] s inb).set (Rect.unit (s := S2x1024x512) ![b, 0, 0] s' inb').set :=
  Rect.unit_disjoint (s := S2x1024x512) 0 h

/-- Rectangles of the maxima scratch in different slots share no index. -/
theorem disjoint17 {a b : ℕ} {s s' : Fin 3 → ℕ} {inb inb'} (h : a + s 0 ≤ b ∨ b + s' 0 ≤ a) :
    Disjoint (Rect.unit (s := S2x8x512) ![a, 0, 0] s inb).set (Rect.unit (s := S2x8x512) ![b, 0, 0] s' inb').set :=
  Rect.unit_disjoint (s := S2x8x512) 0 h

/-- A load of the rectangle written last but one, apart from the one written last, reads what was
    written there. -/
theorem cov {s : Shape} {e : EltTy} (v : View sig .tc .vmem s e) (r' r : Rect s) (w' : r'.shape.Idx → Elt F e)
    (w : r.shape.Idx → Elt F e) (L : List (View.Piece (Elt F) s e)) (h : Disjoint r'.set r.set) :
    v.readCov (⟨r', w'⟩ :: ⟨r, w⟩ :: L) r.toLoadRect = w :=
  (View.readCov_cons_of_disjoint v ⟨r', w'⟩ _ _ h).trans (View.readCov_cons_toLoadRect v r w L)

/-- A load of the slot of the score scratch written last but one, the last write being in the other
    slot, reads what was written there. -/
theorem cov16 (v : View sig .tc .vmem S2x1024x512 .f32) {a b : ℕ} {s s' : Fin 3 → ℕ}
    {inb : ∀ x, (![a, 0, 0] : Fin 3 → ℕ) x + s x ≤ S2x1024x512.size x} {inb' : ∀ x, (![b, 0, 0] : Fin 3 → ℕ) x + s' x ≤ S2x1024x512.size x}
    (w' : (Rect.unit (s := S2x1024x512) ![a, 0, 0] s inb).shape.Idx → Elt F .f32)
    (w : (Rect.unit (s := S2x1024x512) ![b, 0, 0] s' inb').shape.Idx → Elt F .f32)
    (L : List (View.Piece (Elt F) S2x1024x512 .f32)) (h : a + s 0 ≤ b ∨ b + s' 0 ≤ a) :
    v.readCov (⟨Rect.unit (s := S2x1024x512) ![a, 0, 0] s inb, w'⟩ :: ⟨Rect.unit (s := S2x1024x512) ![b, 0, 0] s' inb', w⟩ :: L)
      (Rect.unit (s := S2x1024x512) ![b, 0, 0] s' inb').toLoadRect = w :=
  cov v _ _ w' w L (disjoint16 (inb := inb) (inb' := inb') h)

/-- A load of the slot of the maxima scratch written last but one, the last write being in the other
    slot, reads what was written there. -/
theorem cov17 (v : View sig .tc .vmem S2x8x512 .f32) {a b : ℕ} {s s' : Fin 3 → ℕ}
    {inb : ∀ x, (![a, 0, 0] : Fin 3 → ℕ) x + s x ≤ S2x8x512.size x} {inb' : ∀ x, (![b, 0, 0] : Fin 3 → ℕ) x + s' x ≤ S2x8x512.size x}
    (w' : (Rect.unit (s := S2x8x512) ![a, 0, 0] s inb).shape.Idx → Elt F .f32)
    (w : (Rect.unit (s := S2x8x512) ![b, 0, 0] s' inb').shape.Idx → Elt F .f32)
    (L : List (View.Piece (Elt F) S2x8x512 .f32)) (h : a + s 0 ≤ b ∨ b + s' 0 ≤ a) :
    v.readCov (⟨Rect.unit (s := S2x8x512) ![a, 0, 0] s inb, w'⟩ :: ⟨Rect.unit (s := S2x8x512) ![b, 0, 0] s' inb', w⟩ :: L)
      (Rect.unit (s := S2x8x512) ![b, 0, 0] s' inb').toLoadRect = w :=
  cov v _ _ w' w L (disjoint17 (inb := inb) (inb' := inb') h)

/-- A load through the rectangle written last reads what was written. -/
theorem readAt_head {sp : Space} {s : Shape} {e : EltTy} (v : View sig .tc sp s e) (f : v.ty.Contents (Elt F))
    (r : Rect s) (w : r.shape.Idx → Elt F e) (L : List (View.Piece (Elt F) s e)) :
    v.readAt (Elt F) r.toLoadRect (v.writes (Elt F) f (⟨r, w⟩ :: L)) = w :=
  funext fun j => View.read_writes_cons_emb v f r w L j

/-- The same where the last writes are given as a list that starts with it. -/
theorem readAt_head_append {sp : Space} {s : Shape} {e : EltTy} (v : View sig .tc sp s e) (f : v.ty.Contents (Elt F))
    (r : Rect s) (w : r.shape.Idx → Elt F e) (L L' P : List (View.Piece (Elt F) s e)) (h : P = ⟨r, w⟩ :: L) :
    v.readAt (Elt F) r.toLoadRect (v.writes (Elt F) f (P ++ L')) = w := by
  subst h; exact readAt_head v f r w (L ++ L')

/-! ## The blocks a trip reads -/

/-- A query tile: 512 columns of the query block from an offset. -/
abbrev qAt (x : Vec F S1x1x192x4096 .bf16) (off : Fin 4 → ℕ)
    (inb : ∀ a, off a + S1x1x192x512.size a ≤ S1x1x192x4096.size a) : Vec F S1x1x192x512 .bf16 :=
  View.ld x (Rect.unit (s := S1x1x192x4096) off S1x1x192x512.size inb)

/-- The context keys. -/
abbrev kcAt (x : Vec F S1x1x256x192 .bf16) : Vec F S1x1x256x192 .bf16 :=
  View.ld x (Rect.unit (s := S1x1x256x192) ![0, 0, 0, 0] S1x1x256x192.size inb_S1x1x256x192_S1x1x256x192_0_0_0_0)

/-- The context values. -/
abbrev vcAt (x : Vec F S1x1x128x256 .bf16) : Vec F S1x1x128x256 .bf16 :=
  View.ld x (Rect.unit (s := S1x1x128x256) ![0, 0, 0, 0] S1x1x128x256.size inb_S1x1x128x256_S1x1x128x256_0_0_0_0)

/-- A chunk of 1024 lm keys from an offset. -/
abbrev klAt (x : Vec F S1x1x4096x192 .bf16) (n : ℕ)
    (inb : ∀ a, (![0, 0, n, 0] : Fin 4 → ℕ) a + S1x1x1024x192.size a ≤ S1x1x4096x192.size a) :
    Vec F S1x1x1024x192 .bf16 :=
  View.ld x (Rect.unit (s := S1x1x4096x192) ![0, 0, n, 0] S1x1x1024x192.size inb)

/-- A chunk of 1024 lm values from an offset. -/
abbrev vlAt (x : Vec F S1x1x128x4096 .bf16) (n : ℕ)
    (inb : ∀ a, (![0, 0, 0, n] : Fin 4 → ℕ) a + S1x1x128x1024.size a ≤ S1x1x128x4096.size a) :
    Vec F S1x1x128x1024 .bf16 :=
  View.ld x (Rect.unit (s := S1x1x128x4096) ![0, 0, 0, n] S1x1x128x1024.size inb)

/-- The tile of the query columns from an offset, of the whole blocks. -/
def tileAt (x2 : Vec F S1x1x192x4096 .bf16) (x3 : Vec F S1x1x256x192 .bf16) (x4 : Vec F S1x1x4096x192 .bf16)
    (x5 : Vec F S1x1x128x256 .bf16) (x6 : Vec F S1x1x128x4096 .bf16) (off : Fin 4 → ℕ)
    (inb : ∀ a, off a + S1x1x192x512.size a ≤ S1x1x192x4096.size a) : FVec F S1x512x128 .bf16 :=
  tile (qAt x2 off inb) (kcAt x3) (vcAt x5)
    (klAt x4 0 inb_S1x1x4096x192_S1x1x1024x192_0_0_0_0) (klAt x4 1024 inb_S1x1x4096x192_S1x1x1024x192_0_0_1024_0)
    (klAt x4 2048 inb_S1x1x4096x192_S1x1x1024x192_0_0_2048_0) (klAt x4 3072 inb_S1x1x4096x192_S1x1x1024x192_0_0_3072_0)
    (vlAt x6 0 inb_S1x1x128x4096_S1x1x128x1024_0_0_0_0) (vlAt x6 1024 inb_S1x1x128x4096_S1x1x128x1024_0_0_0_1024)
    (vlAt x6 2048 inb_S1x1x128x4096_S1x1x128x1024_0_0_0_2048) (vlAt x6 3072 inb_S1x1x128x4096_S1x1x128x1024_0_0_0_3072)

/-! ## One trip -/

/-- The slot of the score scratch a trip starts from. -/
abbrev slot16 : Rect S2x1024x512 :=
  Rect.unit (s := S2x1024x512) ![0, 0, 0] S1x256x512.size inb_S2x1024x512_S1x256x512_0_0_0

/-- The slot of the maxima scratch a trip starts from. -/
abbrev slot17 : Rect S2x8x512 :=
  Rect.unit (s := S2x8x512) ![0, 0, 0] S1x1x512.size inb_S2x8x512_S1x1x512_0_0_0

/-- A trip that finds the context scores of its first tile and their maxima in slot 0 writes its two
    tiles. -/
theorem trip_out (𝒱 : Variants) (c : Dev nD) (bd : Option 𝒱.V) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (k : Fin k0_t1_loop.trips) (f11 : BufTy.Contents (Elt F) arg11.view.ty)
    (f16 : BufTy.Contents (Elt F) arg16.view.ty) (f17 : BufTy.Contents (Elt F) arg17.view.ty)
    (h16 : arg16.view.readAt (Elt F) slot16.toLoadRect f16
      = ctxScores (qAt (arg2.view.read (Elt F) X_arg2) (k0_off1 k) (k0_off1_inb k)) (kcAt (arg3.view.read (Elt F) X_arg3)))
    (h17 : arg17.view.readAt (Elt F) slot17.toLoadRect f17
      = ctxMax (qAt (arg2.view.read (Elt F) X_arg2) (k0_off1 k) (k0_off1_inb k)) (kcAt (arg3.view.read (Elt F) X_arg3))) :
    (trip_k0_t1 (F := F) 𝒱 c bd i arg2 harg2 arg3 harg3 arg4 harg4 arg5 harg5 arg6 harg6 arg7 harg7 arg8
      harg8 arg9 harg9 arg10 harg10 arg11 harg11 arg12 harg12 arg13 harg13 arg14 harg14 arg15 harg15 arg16
      harg16 arg17 harg17 X_arg2 X_arg3 X_arg4 X_arg5 X_arg6 k).1 f11 f16 f17
      = [⟨Rect.unit (s := S1x4096x128) (k0_off5 k) S1x512x128.size (k0_off5_inb k),
          tileAt (arg2.view.read (Elt F) X_arg2) (arg3.view.read (Elt F) X_arg3) (arg4.view.read (Elt F) X_arg4)
            (arg5.view.read (Elt F) X_arg5) (arg6.view.read (Elt F) X_arg6) (k0_off2 k) (k0_off2_inb k)⟩,
        ⟨Rect.unit (s := S1x4096x128) (k0_off3 k) S1x512x128.size (k0_off3_inb k),
          tileAt (arg2.view.read (Elt F) X_arg2) (arg3.view.read (Elt F) X_arg3) (arg4.view.read (Elt F) X_arg4)
            (arg5.view.read (Elt F) X_arg5) (arg6.view.read (Elt F) X_arg6) (k0_off1 k) (k0_off1_inb k)⟩] := by
  have e54 : trip_k0_t1.sl.v54 arg17 f17 = _ := h17
  have e56 : trip_k0_t1.sl.v56 arg16 f16 = _ := h16
  have e78 : trip_k0_t1.sl.v78 arg2 arg4 arg17 X_arg2 X_arg4 k
      = lmMax (qAt (arg2.view.read (Elt F) X_arg2) (k0_off1 k) (k0_off1_inb k)) (klAt (arg4.view.read (Elt F) X_arg4) 0 inb_S1x1x4096x192_S1x1x1024x192_0_0_0_0) := by
    delta trip_k0_t1.sl.v78 trip_k0_t1.sl.HW_arg17_2
    exact cov17 arg17.view _ _ _ (by decide)
  have e81 : trip_k0_t1.sl.v81 arg2 arg4 arg16 X_arg2 X_arg4 k
      = lmScores (qAt (arg2.view.read (Elt F) X_arg2) (k0_off1 k) (k0_off1_inb k)) (klAt (arg4.view.read (Elt F) X_arg4) 0 inb_S1x1x4096x192_S1x1x1024x192_0_0_0_0) := by
    delta trip_k0_t1.sl.v81 trip_k0_t1.sl.HW_arg16_2
    exact cov16 arg16.view _ _ _ (by decide)
  have e110 : trip_k0_t1.sl.v110 arg2 arg4 arg17 X_arg2 X_arg4 k
      = lmMax (qAt (arg2.view.read (Elt F) X_arg2) (k0_off1 k) (k0_off1_inb k)) (klAt (arg4.view.read (Elt F) X_arg4) 1024 inb_S1x1x4096x192_S1x1x1024x192_0_0_1024_0) := by
    delta trip_k0_t1.sl.v110 trip_k0_t1.sl.HW_arg17_3 trip_k0_t1.sl.HW_arg17_2
    exact cov17 arg17.view _ _ _ (by decide)
  have e113 : trip_k0_t1.sl.v113 arg2 arg4 arg16 X_arg2 X_arg4 k
      = lmScores (qAt (arg2.view.read (Elt F) X_arg2) (k0_off1 k) (k0_off1_inb k)) (klAt (arg4.view.read (Elt F) X_arg4) 1024 inb_S1x1x4096x192_S1x1x1024x192_0_0_1024_0) := by
    delta trip_k0_t1.sl.v113 trip_k0_t1.sl.HW_arg16_3 trip_k0_t1.sl.HW_arg16_2
    exact cov16 arg16.view _ _ _ (by decide)
  have e142 : trip_k0_t1.sl.v142 arg2 arg4 arg17 X_arg2 X_arg4 k
      = lmMax (qAt (arg2.view.read (Elt F) X_arg2) (k0_off1 k) (k0_off1_inb k)) (klAt (arg4.view.read (Elt F) X_arg4) 2048 inb_S1x1x4096x192_S1x1x1024x192_0_0_2048_0) := by
    delta trip_k0_t1.sl.v142 trip_k0_t1.sl.HW_arg17_4 trip_k0_t1.sl.HW_arg17_3
    exact cov17 arg17.view _ _ _ (by decide)
  have e145 : trip_k0_t1.sl.v145 arg2 arg4 arg16 X_arg2 X_arg4 k
      = lmScores (qAt (arg2.view.read (Elt F) X_arg2) (k0_off1 k) (k0_off1_inb k)) (klAt (arg4.view.read (Elt F) X_arg4) 2048 inb_S1x1x4096x192_S1x1x1024x192_0_0_2048_0) := by
    delta trip_k0_t1.sl.v145 trip_k0_t1.sl.HW_arg16_4 trip_k0_t1.sl.HW_arg16_3
    exact cov16 arg16.view _ _ _ (by decide)
  have e183 : trip_k0_t1.sl.v183 arg2 arg3 arg4 arg17 X_arg2 X_arg3 X_arg4 k
      = lmMax (qAt (arg2.view.read (Elt F) X_arg2) (k0_off1 k) (k0_off1_inb k)) (klAt (arg4.view.read (Elt F) X_arg4) 3072 inb_S1x1x4096x192_S1x1x1024x192_0_0_3072_0) := by
    delta trip_k0_t1.sl.v183 trip_k0_t1.sl.HW_arg17_5 trip_k0_t1.sl.HW_arg17_4
    exact cov17 arg17.view _ _ _ (by decide)
  have e186 : trip_k0_t1.sl.v186 arg2 arg3 arg4 arg16 X_arg2 X_arg3 X_arg4 k
      = lmScores (qAt (arg2.view.read (Elt F) X_arg2) (k0_off1 k) (k0_off1_inb k)) (klAt (arg4.view.read (Elt F) X_arg4) 3072 inb_S1x1x4096x192_S1x1x1024x192_0_0_3072_0) := by
    delta trip_k0_t1.sl.v186 trip_k0_t1.sl.HW_arg16_5 trip_k0_t1.sl.HW_arg16_4
    exact cov16 arg16.view _ _ _ (by decide)
  have e239 : trip_k0_t1.sl.v239 arg2 arg3 arg4 arg17 X_arg2 X_arg3 X_arg4 k
      = ctxMax (qAt (arg2.view.read (Elt F) X_arg2) (k0_off2 k) (k0_off2_inb k)) (kcAt (arg3.view.read (Elt F) X_arg3)) := by
    delta trip_k0_t1.sl.v239 trip_k0_t1.sl.HW_arg17_6 trip_k0_t1.sl.HW_arg17_5
    exact cov17 arg17.view _ _ _ (by decide)
  have e241 : trip_k0_t1.sl.v241 arg2 arg3 arg4 arg16 X_arg2 X_arg3 X_arg4 k
      = ctxScores (qAt (arg2.view.read (Elt F) X_arg2) (k0_off2 k) (k0_off2_inb k)) (kcAt (arg3.view.read (Elt F) X_arg3)) := by
    delta trip_k0_t1.sl.v241 trip_k0_t1.sl.HW_arg16_6 trip_k0_t1.sl.HW_arg16_5
    exact cov16 arg16.view _ _ _ (by decide)
  have e263 : trip_k0_t1.sl.v263 arg2 arg3 arg4 arg17 X_arg2 X_arg3 X_arg4 k
      = lmMax (qAt (arg2.view.read (Elt F) X_arg2) (k0_off2 k) (k0_off2_inb k)) (klAt (arg4.view.read (Elt F) X_arg4) 0 inb_S1x1x4096x192_S1x1x1024x192_0_0_0_0) := by
    delta trip_k0_t1.sl.v263 trip_k0_t1.sl.HW_arg17_7 trip_k0_t1.sl.HW_arg17_6
    exact cov17 arg17.view _ _ _ (by decide)
  have e266 : trip_k0_t1.sl.v266 arg2 arg3 arg4 arg16 X_arg2 X_arg3 X_arg4 k
      = lmScores (qAt (arg2.view.read (Elt F) X_arg2) (k0_off2 k) (k0_off2_inb k)) (klAt (arg4.view.read (Elt F) X_arg4) 0 inb_S1x1x4096x192_S1x1x1024x192_0_0_0_0) := by
    delta trip_k0_t1.sl.v266 trip_k0_t1.sl.HW_arg16_7 trip_k0_t1.sl.HW_arg16_6
    exact cov16 arg16.view _ _ _ (by decide)
  have e295 : trip_k0_t1.sl.v295 arg2 arg3 arg4 arg17 X_arg2 X_arg3 X_arg4 k
      = lmMax (qAt (arg2.view.read (Elt F) X_arg2) (k0_off2 k) (k0_off2_inb k)) (klAt (arg4.view.read (Elt F) X_arg4) 1024 inb_S1x1x4096x192_S1x1x1024x192_0_0_1024_0) := by
    delta trip_k0_t1.sl.v295 trip_k0_t1.sl.HW_arg17_8 trip_k0_t1.sl.HW_arg17_7
    exact cov17 arg17.view _ _ _ (by decide)
  have e298 : trip_k0_t1.sl.v298 arg2 arg3 arg4 arg16 X_arg2 X_arg3 X_arg4 k
      = lmScores (qAt (arg2.view.read (Elt F) X_arg2) (k0_off2 k) (k0_off2_inb k)) (klAt (arg4.view.read (Elt F) X_arg4) 1024 inb_S1x1x4096x192_S1x1x1024x192_0_0_1024_0) := by
    delta trip_k0_t1.sl.v298 trip_k0_t1.sl.HW_arg16_8 trip_k0_t1.sl.HW_arg16_7
    exact cov16 arg16.view _ _ _ (by decide)
  have e327 : trip_k0_t1.sl.v327 arg2 arg3 arg4 arg17 X_arg2 X_arg3 X_arg4 k
      = lmMax (qAt (arg2.view.read (Elt F) X_arg2) (k0_off2 k) (k0_off2_inb k)) (klAt (arg4.view.read (Elt F) X_arg4) 2048 inb_S1x1x4096x192_S1x1x1024x192_0_0_2048_0) := by
    delta trip_k0_t1.sl.v327 trip_k0_t1.sl.HW_arg17_9 trip_k0_t1.sl.HW_arg17_8
    exact cov17 arg17.view _ _ _ (by decide)
  have e330 : trip_k0_t1.sl.v330 arg2 arg3 arg4 arg16 X_arg2 X_arg3 X_arg4 k
      = lmScores (qAt (arg2.view.read (Elt F) X_arg2) (k0_off2 k) (k0_off2_inb k)) (klAt (arg4.view.read (Elt F) X_arg4) 2048 inb_S1x1x4096x192_S1x1x1024x192_0_0_2048_0) := by
    delta trip_k0_t1.sl.v330 trip_k0_t1.sl.HW_arg16_9 trip_k0_t1.sl.HW_arg16_8
    exact cov16 arg16.view _ _ _ (by decide)
  have e368 : trip_k0_t1.sl.v368 arg2 arg3 arg4 arg17 X_arg2 X_arg3 X_arg4 k
      = lmMax (qAt (arg2.view.read (Elt F) X_arg2) (k0_off2 k) (k0_off2_inb k)) (klAt (arg4.view.read (Elt F) X_arg4) 3072 inb_S1x1x4096x192_S1x1x1024x192_0_0_3072_0) := by
    delta trip_k0_t1.sl.v368 trip_k0_t1.sl.HW_arg17_10 trip_k0_t1.sl.HW_arg17_9
    exact cov17 arg17.view _ _ _ (by decide)
  have e371 : trip_k0_t1.sl.v371 arg2 arg3 arg4 arg16 X_arg2 X_arg3 X_arg4 k
      = lmScores (qAt (arg2.view.read (Elt F) X_arg2) (k0_off2 k) (k0_off2_inb k)) (klAt (arg4.view.read (Elt F) X_arg4) 3072 inb_S1x1x4096x192_S1x1x1024x192_0_0_3072_0) := by
    delta trip_k0_t1.sl.v371 trip_k0_t1.sl.HW_arg16_10 trip_k0_t1.sl.HW_arg16_9
    exact cov16 arg16.view _ _ _ (by decide)
  have r_1 : trip_k0_t1.sl.r_1 arg17 f17
      = m0 (qAt (arg2.view.read (Elt F) X_arg2) (k0_off1 k) (k0_off1_inb k)) (kcAt (arg3.view.read (Elt F) X_arg3)) := by
    delta trip_k0_t1.sl.r_1
    rw [e54]
    rfl
  have r_2 : trip_k0_t1.sl.r_2 arg16 arg17 f16 f17
      = k0_pay9 (ctxMax (qAt (arg2.view.read (Elt F) X_arg2) (k0_off1 k) (k0_off1_inb k)) (kcAt (arg3.view.read (Elt F) X_arg3))) (ctxScores (qAt (arg2.view.read (Elt F) X_arg2) (k0_off1 k) (k0_off1_inb k)) (kcAt (arg3.view.read (Elt F) X_arg3))) := by
    delta trip_k0_t1.sl.r_2
    rw [e54, e56]
  have r_3 : trip_k0_t1.sl.r_3 arg16 arg17 f16 f17
      = l0 (qAt (arg2.view.read (Elt F) X_arg2) (k0_off1 k) (k0_off1_inb k)) (kcAt (arg3.view.read (Elt F) X_arg3)) := by
    delta trip_k0_t1.sl.r_3
    rw [e54, e56]
    rfl
  have r_4 : trip_k0_t1.sl.r_4 arg5 arg16 arg17 X_arg5 f16 f17
      = a0 (qAt (arg2.view.read (Elt F) X_arg2) (k0_off1 k) (k0_off1_inb k)) (kcAt (arg3.view.read (Elt F) X_arg3)) (vcAt (arg5.view.read (Elt F) X_arg5)) := by
    delta trip_k0_t1.sl.r_4
    rw [r_2]
    rfl
  have r_5 : trip_k0_t1.sl.r_5 arg2 arg4 arg17 X_arg2 X_arg4 k f17
      = mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0) := by
    delta trip_k0_t1.sl.r_5
    rw [r_1, e78]
    rfl
  have r_6 : trip_k0_t1.sl.r_6 arg2 arg4 arg16 arg17 X_arg2 X_arg4 k f17
      = k0_pay17 (m0 (qAt (arg2.view.read (Elt F) X_arg2) (k0_off1 k) (k0_off1_inb k)) (kcAt (arg3.view.read (Elt F) X_arg3))) (lmMax (qAt (arg2.view.read (Elt F) X_arg2) (k0_off1 k) (k0_off1_inb k)) (klAt (arg4.view.read (Elt F) X_arg4) 0 inb_S1x1x4096x192_S1x1x1024x192_0_0_0_0)) (lmScores (qAt (arg2.view.read (Elt F) X_arg2) (k0_off1 k) (k0_off1_inb k)) (klAt (arg4.view.read (Elt F) X_arg4) 0 inb_S1x1x4096x192_S1x1x1024x192_0_0_0_0)) := by
    delta trip_k0_t1.sl.r_6
    rw [r_1, e78, e81]
  have r_7 : trip_k0_t1.sl.r_7 arg2 arg4 arg6 arg16 arg17 X_arg2 X_arg4 X_arg6 k f17
      = k0_pay18 (m0 (qAt (arg2.view.read (Elt F) X_arg2) (k0_off1 k) (k0_off1_inb k)) (kcAt (arg3.view.read (Elt F) X_arg3))) (lmMax (qAt (arg2.view.read (Elt F) X_arg2) (k0_off1 k) (k0_off1_inb k)) (klAt (arg4.view.read (Elt F) X_arg4) 0 inb_S1x1x4096x192_S1x1x1024x192_0_0_0_0)) (lmScores (qAt (arg2.view.read (Elt F) X_arg2) (k0_off1 k) (k0_off1_inb k)) (klAt (arg4.view.read (Elt F) X_arg4) 0 inb_S1x1x4096x192_S1x1x1024x192_0_0_0_0)) (vlAt (arg6.view.read (Elt F) X_arg6) 0 inb_S1x1x128x4096_S1x1x128x1024_0_0_0_0) := by
    delta trip_k0_t1.sl.r_7
    rw [r_1, e78, e81]
    rfl
  have r_8 : trip_k0_t1.sl.r_8 arg2 arg4 arg16 arg17 X_arg2 X_arg4 k f16 f17
      = lNext (m0 (qAt (arg2.view.read (Elt F) X_arg2) (k0_off1 k) (k0_off1_inb k)) (kcAt (arg3.view.read (Elt F) X_arg3))) (l0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0) := by
    delta trip_k0_t1.sl.r_8
    rw [r_1, r_3, r_5, r_6]
    rfl
  have r_9 : trip_k0_t1.sl.r_9 arg2 arg4 arg5 arg6 arg16 arg17 X_arg2 X_arg4 X_arg5 X_arg6 k f16 f17
      = aNext (m0 (qAt (arg2.view.read (Elt F) X_arg2) (k0_off1 k) (k0_off1_inb k)) (kcAt (arg3.view.read (Elt F) X_arg3))) (a0 (qAt (arg2.view.read (Elt F) X_arg2) (k0_off1 k) (k0_off1_inb k)) (kcAt (arg3.view.read (Elt F) X_arg3)) (vcAt (arg5.view.read (Elt F) X_arg5))) (qAt (arg2.view.read (Elt F) X_arg2) (k0_off1 k) (k0_off1_inb k)) (klAt (arg4.view.read (Elt F) X_arg4) 0 inb_S1x1x4096x192_S1x1x1024x192_0_0_0_0) (vlAt (arg6.view.read (Elt F) X_arg6) 0 inb_S1x1x128x4096_S1x1x128x1024_0_0_0_0) := by
    delta trip_k0_t1.sl.r_9
    rw [r_1, r_4, r_5, r_7]
    rfl
  have r_10 : trip_k0_t1.sl.r_10 arg2 arg4 arg17 X_arg2 X_arg4 k f17
      = mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0) := by
    delta trip_k0_t1.sl.r_10
    rw [r_5, e110]
    rfl
  have r_11 : trip_k0_t1.sl.r_11 arg2 arg4 arg16 arg17 X_arg2 X_arg4 k f17
      = k0_pay27 (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (lmMax (qAt (arg2.view.read (Elt F) X_arg2) (k0_off1 k) (k0_off1_inb k)) (klAt (arg4.view.read (Elt F) X_arg4) 1024 inb_S1x1x4096x192_S1x1x1024x192_0_0_1024_0)) (lmScores (qAt (arg2.view.read (Elt F) X_arg2) (k0_off1 k) (k0_off1_inb k)) (klAt (arg4.view.read (Elt F) X_arg4) 1024 inb_S1x1x4096x192_S1x1x1024x192_0_0_1024_0)) := by
    delta trip_k0_t1.sl.r_11
    rw [r_5, e110, e113]
  have r_12 : trip_k0_t1.sl.r_12 arg2 arg4 arg6 arg16 arg17 X_arg2 X_arg4 X_arg6 k f17
      = k0_pay28 (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (lmMax (qAt (arg2.view.read (Elt F) X_arg2) (k0_off1 k) (k0_off1_inb k)) (klAt (arg4.view.read (Elt F) X_arg4) 1024 inb_S1x1x4096x192_S1x1x1024x192_0_0_1024_0)) (lmScores (qAt (arg2.view.read (Elt F) X_arg2) (k0_off1 k) (k0_off1_inb k)) (klAt (arg4.view.read (Elt F) X_arg4) 1024 inb_S1x1x4096x192_S1x1x1024x192_0_0_1024_0)) (vlAt (arg6.view.read (Elt F) X_arg6) 1024 inb_S1x1x128x4096_S1x1x128x1024_0_0_0_1024) := by
    delta trip_k0_t1.sl.r_12
    rw [r_5, e110, e113]
    rfl
  have r_13 : trip_k0_t1.sl.r_13 arg2 arg4 arg17 X_arg2 X_arg4 k f17
      = k0_pay29 (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (lmMax (qAt (arg2.view.read (Elt F) X_arg2) (k0_off1 k) (k0_off1_inb k)) (klAt (arg4.view.read (Elt F) X_arg4) 1024 inb_S1x1x4096x192_S1x1x1024x192_0_0_1024_0)) := by
    delta trip_k0_t1.sl.r_13
    rw [r_5, e110]
  have r_14 : trip_k0_t1.sl.r_14 arg2 arg4 arg5 arg6 arg16 arg17 X_arg2 X_arg4 X_arg5 X_arg6 k f16 f17
      = aNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (aNext (m0 (qAt (arg2.view.read (Elt F) X_arg2) (k0_off1 k) (k0_off1_inb k)) (kcAt (arg3.view.read (Elt F) X_arg3))) (a0 (qAt (arg2.view.read (Elt F) X_arg2) (k0_off1 k) (k0_off1_inb k)) (kcAt (arg3.view.read (Elt F) X_arg3)) (vcAt (arg5.view.read (Elt F) X_arg5))) (qAt (arg2.view.read (Elt F) X_arg2) (k0_off1 k) (k0_off1_inb k)) (klAt (arg4.view.read (Elt F) X_arg4) 0 inb_S1x1x4096x192_S1x1x1024x192_0_0_0_0) (vlAt (arg6.view.read (Elt F) X_arg6) 0 inb_S1x1x128x4096_S1x1x128x1024_0_0_0_0)) (qAt (arg2.view.read (Elt F) X_arg2) (k0_off1 k) (k0_off1_inb k)) (klAt (arg4.view.read (Elt F) X_arg4) 1024 inb_S1x1x4096x192_S1x1x1024x192_0_0_1024_0) (vlAt (arg6.view.read (Elt F) X_arg6) 1024 inb_S1x1x128x4096_S1x1x128x1024_0_0_0_1024) := by
    delta trip_k0_t1.sl.r_14
    rw [r_9, r_12, r_13]
    rfl
  have r_15 : trip_k0_t1.sl.r_15 arg2 arg4 arg17 X_arg2 X_arg4 k f17
      = mNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (qAt (arg2.view.read (Elt F) X_arg2) (k0_off1 k) (k0_off1_inb k)) (klAt (arg4.view.read (Elt F) X_arg4) 2048 inb_S1x1x4096x192_S1x1x1024x192_0_0_2048_0) := by
    delta trip_k0_t1.sl.r_15
    rw [r_10, e142]
    rfl
  have r_16 : trip_k0_t1.sl.r_16 arg2 arg4 arg6 arg16 arg17 X_arg2 X_arg4 X_arg6 k f17
      = k0_pay36 (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (lmMax (qAt (arg2.view.read (Elt F) X_arg2) (k0_off1 k) (k0_off1_inb k)) (klAt (arg4.view.read (Elt F) X_arg4) 2048 inb_S1x1x4096x192_S1x1x1024x192_0_0_2048_0)) (lmScores (qAt (arg2.view.read (Elt F) X_arg2) (k0_off1 k) (k0_off1_inb k)) (klAt (arg4.view.read (Elt F) X_arg4) 2048 inb_S1x1x4096x192_S1x1x1024x192_0_0_2048_0)) (vlAt (arg6.view.read (Elt F) X_arg6) 2048 inb_S1x1x128x4096_S1x1x128x1024_0_0_0_2048) := by
    delta trip_k0_t1.sl.r_16
    rw [r_10, e142, e145]
    rfl
  have r_17 : trip_k0_t1.sl.r_17 arg2 arg4 arg17 X_arg2 X_arg4 k f17
      = k0_pay37 (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (lmMax (qAt (arg2.view.read (Elt F) X_arg2) (k0_off1 k) (k0_off1_inb k)) (klAt (arg4.view.read (Elt F) X_arg4) 2048 inb_S1x1x4096x192_S1x1x1024x192_0_0_2048_0)) := by
    delta trip_k0_t1.sl.r_17
    rw [r_10, e142]
  have r_18 : trip_k0_t1.sl.r_18 arg2 arg4 arg16 arg17 X_arg2 X_arg4 k f16 f17
      = lNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (lNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (lNext (m0 (qAt (arg2.view.read (Elt F) X_arg2) (k0_off1 k) (k0_off1_inb k)) (kcAt (arg3.view.read (Elt F) X_arg3))) (l0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (qAt (arg2.view.read (Elt F) X_arg2) (k0_off1 k) (k0_off1_inb k)) (klAt (arg4.view.read (Elt F) X_arg4) 2048 inb_S1x1x4096x192_S1x1x1024x192_0_0_2048_0) := by
    delta trip_k0_t1.sl.r_18
    rw [r_8, r_10, r_11, r_13, e142, e145]
    rfl
  have r_19 : trip_k0_t1.sl.r_19 arg2 arg4 arg5 arg6 arg16 arg17 X_arg2 X_arg4 X_arg5 X_arg6 k f16 f17
      = aNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (aNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (aNext (m0 (qAt (arg2.view.read (Elt F) X_arg2) (k0_off1 k) (k0_off1_inb k)) (kcAt (arg3.view.read (Elt F) X_arg3))) (a0 (qAt (arg2.view.read (Elt F) X_arg2) (k0_off1 k) (k0_off1_inb k)) (kcAt (arg3.view.read (Elt F) X_arg3)) (vcAt (arg5.view.read (Elt F) X_arg5))) (qAt (arg2.view.read (Elt F) X_arg2) (k0_off1 k) (k0_off1_inb k)) (klAt (arg4.view.read (Elt F) X_arg4) 0 inb_S1x1x4096x192_S1x1x1024x192_0_0_0_0) (vlAt (arg6.view.read (Elt F) X_arg6) 0 inb_S1x1x128x4096_S1x1x128x1024_0_0_0_0)) (qAt (arg2.view.read (Elt F) X_arg2) (k0_off1 k) (k0_off1_inb k)) (klAt (arg4.view.read (Elt F) X_arg4) 1024 inb_S1x1x4096x192_S1x1x1024x192_0_0_1024_0) (vlAt (arg6.view.read (Elt F) X_arg6) 1024 inb_S1x1x128x4096_S1x1x128x1024_0_0_0_1024)) (qAt (arg2.view.read (Elt F) X_arg2) (k0_off1 k) (k0_off1_inb k)) (klAt (arg4.view.read (Elt F) X_arg4) 2048 inb_S1x1x4096x192_S1x1x1024x192_0_0_2048_0) (vlAt (arg6.view.read (Elt F) X_arg6) 2048 inb_S1x1x128x4096_S1x1x128x1024_0_0_0_2048) := by
    delta trip_k0_t1.sl.r_19
    rw [r_14, r_16, r_17]
    rfl
  have r_20 : trip_k0_t1.sl.r_20 arg2 arg3 arg4 arg17 X_arg2 X_arg3 X_arg4 k f17
      = k0_pay43 (mNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (qAt (arg2.view.read (Elt F) X_arg2) (k0_off1 k) (k0_off1_inb k)) (klAt (arg4.view.read (Elt F) X_arg4) 2048 inb_S1x1x4096x192_S1x1x1024x192_0_0_2048_0)) (lmMax (qAt (arg2.view.read (Elt F) X_arg2) (k0_off1 k) (k0_off1_inb k)) (klAt (arg4.view.read (Elt F) X_arg4) 3072 inb_S1x1x4096x192_S1x1x1024x192_0_0_3072_0)) := by
    delta trip_k0_t1.sl.r_20
    rw [r_15, e183]
  have r_21 : trip_k0_t1.sl.r_21 arg2 arg3 arg4 arg16 arg17 X_arg2 X_arg3 X_arg4 k f17
      = k0_pay44 (mNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (qAt (arg2.view.read (Elt F) X_arg2) (k0_off1 k) (k0_off1_inb k)) (klAt (arg4.view.read (Elt F) X_arg4) 2048 inb_S1x1x4096x192_S1x1x1024x192_0_0_2048_0)) (lmMax (qAt (arg2.view.read (Elt F) X_arg2) (k0_off1 k) (k0_off1_inb k)) (klAt (arg4.view.read (Elt F) X_arg4) 3072 inb_S1x1x4096x192_S1x1x1024x192_0_0_3072_0)) (lmScores (qAt (arg2.view.read (Elt F) X_arg2) (k0_off1 k) (k0_off1_inb k)) (klAt (arg4.view.read (Elt F) X_arg4) 3072 inb_S1x1x4096x192_S1x1x1024x192_0_0_3072_0)) := by
    delta trip_k0_t1.sl.r_21
    rw [r_15, e183, e186]
  have r_22 : trip_k0_t1.sl.r_22 arg2 arg3 arg4 arg16 arg17 X_arg2 X_arg3 X_arg4 k f17
      = k0_pay45 (mNext (mNext (mNext (m0 (qAt (arg2.view.read (Elt F) X_arg2) (k0_off1 k) (k0_off1_inb k)) (kcAt (arg3.view.read (Elt F) X_arg3))) (qAt (arg2.view.read (Elt F) X_arg2) (k0_off1 k) (k0_off1_inb k)) (klAt (arg4.view.read (Elt F) X_arg4) 0 inb_S1x1x4096x192_S1x1x1024x192_0_0_0_0)) (qAt (arg2.view.read (Elt F) X_arg2) (k0_off1 k) (k0_off1_inb k)) (klAt (arg4.view.read (Elt F) X_arg4) 1024 inb_S1x1x4096x192_S1x1x1024x192_0_0_1024_0)) (qAt (arg2.view.read (Elt F) X_arg2) (k0_off1 k) (k0_off1_inb k)) (klAt (arg4.view.read (Elt F) X_arg4) 2048 inb_S1x1x4096x192_S1x1x1024x192_0_0_2048_0)) (lmMax (qAt (arg2.view.read (Elt F) X_arg2) (k0_off1 k) (k0_off1_inb k)) (klAt (arg4.view.read (Elt F) X_arg4) 3072 inb_S1x1x4096x192_S1x1x1024x192_0_0_3072_0)) (lmScores (qAt (arg2.view.read (Elt F) X_arg2) (k0_off1 k) (k0_off1_inb k)) (klAt (arg4.view.read (Elt F) X_arg4) 3072 inb_S1x1x4096x192_S1x1x1024x192_0_0_3072_0)) := by
    delta trip_k0_t1.sl.r_22
    rw [r_15, e183, e186]
  have r_25 : trip_k0_t1.sl.r_25 arg2 arg3 arg4 arg17 X_arg2 X_arg3 X_arg4 k
      = m0 (qAt (arg2.view.read (Elt F) X_arg2) (k0_off2 k) (k0_off2_inb k)) (kcAt (arg3.view.read (Elt F) X_arg3)) := by
    delta trip_k0_t1.sl.r_25
    rw [e239]
    rfl
  have r_26 : trip_k0_t1.sl.r_26 arg2 arg3 arg4 arg16 arg17 X_arg2 X_arg3 X_arg4 k
      = l0 (qAt (arg2.view.read (Elt F) X_arg2) (k0_off2 k) (k0_off2_inb k)) (kcAt (arg3.view.read (Elt F) X_arg3)) := by
    delta trip_k0_t1.sl.r_26
    rw [e239, e241]
    rfl
  have r_27 : trip_k0_t1.sl.r_27 arg2 arg3 arg4 arg5 arg16 arg17 X_arg2 X_arg3 X_arg4 X_arg5 k
      = a0 (qAt (arg2.view.read (Elt F) X_arg2) (k0_off2 k) (k0_off2_inb k)) (kcAt (arg3.view.read (Elt F) X_arg3)) (vcAt (arg5.view.read (Elt F) X_arg5)) := by
    delta trip_k0_t1.sl.r_27
    rw [e239, e241]
    rfl
  have r_29 : trip_k0_t1.sl.r_29 arg2 arg3 arg4 arg17 X_arg2 X_arg3 X_arg4 k
      = mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0) := by
    delta trip_k0_t1.sl.r_29
    rw [r_25, e263]
    rfl
  have r_30 : trip_k0_t1.sl.r_30 arg2 arg3 arg4 arg16 arg17 X_arg2 X_arg3 X_arg4 k
      = lNext (m0 (qAt (arg2.view.read (Elt F) X_arg2) (k0_off2 k) (k0_off2_inb k)) (kcAt (arg3.view.read (Elt F) X_arg3))) (l0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0) := by
    delta trip_k0_t1.sl.r_30
    rw [r_25, r_26, e263, e266]
    rfl
  have r_31 : trip_k0_t1.sl.r_31 arg2 arg3 arg4 arg5 arg6 arg16 arg17 X_arg2 X_arg3 X_arg4 X_arg5 X_arg6 k
      = aNext (m0 (qAt (arg2.view.read (Elt F) X_arg2) (k0_off2 k) (k0_off2_inb k)) (kcAt (arg3.view.read (Elt F) X_arg3))) (a0 (qAt (arg2.view.read (Elt F) X_arg2) (k0_off2 k) (k0_off2_inb k)) (kcAt (arg3.view.read (Elt F) X_arg3)) (vcAt (arg5.view.read (Elt F) X_arg5))) (qAt (arg2.view.read (Elt F) X_arg2) (k0_off2 k) (k0_off2_inb k)) (klAt (arg4.view.read (Elt F) X_arg4) 0 inb_S1x1x4096x192_S1x1x1024x192_0_0_0_0) (vlAt (arg6.view.read (Elt F) X_arg6) 0 inb_S1x1x128x4096_S1x1x128x1024_0_0_0_0) := by
    delta trip_k0_t1.sl.r_31
    rw [r_25, r_27, e263, e266]
    rfl
  have r_33 : trip_k0_t1.sl.r_33 arg2 arg3 arg4 arg17 X_arg2 X_arg3 X_arg4 k
      = mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0) := by
    delta trip_k0_t1.sl.r_33
    rw [r_29, e295]
    rfl
  have r_34 : trip_k0_t1.sl.r_34 arg2 arg3 arg4 arg16 arg17 X_arg2 X_arg3 X_arg4 k
      = lNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (lNext (m0 (qAt (arg2.view.read (Elt F) X_arg2) (k0_off2 k) (k0_off2_inb k)) (kcAt (arg3.view.read (Elt F) X_arg3))) (l0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0) := by
    delta trip_k0_t1.sl.r_34
    rw [r_29, r_30, e295, e298]
    rfl
  have r_35 : trip_k0_t1.sl.r_35 arg2 arg3 arg4 arg5 arg6 arg16 arg17 X_arg2 X_arg3 X_arg4 X_arg5 X_arg6 k
      = aNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (aNext (m0 (qAt (arg2.view.read (Elt F) X_arg2) (k0_off2 k) (k0_off2_inb k)) (kcAt (arg3.view.read (Elt F) X_arg3))) (a0 (qAt (arg2.view.read (Elt F) X_arg2) (k0_off2 k) (k0_off2_inb k)) (kcAt (arg3.view.read (Elt F) X_arg3)) (vcAt (arg5.view.read (Elt F) X_arg5))) (qAt (arg2.view.read (Elt F) X_arg2) (k0_off2 k) (k0_off2_inb k)) (klAt (arg4.view.read (Elt F) X_arg4) 0 inb_S1x1x4096x192_S1x1x1024x192_0_0_0_0) (vlAt (arg6.view.read (Elt F) X_arg6) 0 inb_S1x1x128x4096_S1x1x128x1024_0_0_0_0)) (qAt (arg2.view.read (Elt F) X_arg2) (k0_off2 k) (k0_off2_inb k)) (klAt (arg4.view.read (Elt F) X_arg4) 1024 inb_S1x1x4096x192_S1x1x1024x192_0_0_1024_0) (vlAt (arg6.view.read (Elt F) X_arg6) 1024 inb_S1x1x128x4096_S1x1x128x1024_0_0_0_1024) := by
    delta trip_k0_t1.sl.r_35
    rw [r_29, r_31, e295, e298]
    rfl
  have r_37 : trip_k0_t1.sl.r_37 arg2 arg3 arg4 arg17 X_arg2 X_arg3 X_arg4 k
      = mNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (qAt (arg2.view.read (Elt F) X_arg2) (k0_off2 k) (k0_off2_inb k)) (klAt (arg4.view.read (Elt F) X_arg4) 2048 inb_S1x1x4096x192_S1x1x1024x192_0_0_2048_0) := by
    delta trip_k0_t1.sl.r_37
    rw [r_33, e327]
    rfl
  have r_38 : trip_k0_t1.sl.r_38 arg2 arg3 arg4 arg16 arg17 X_arg2 X_arg3 X_arg4 k
      = lNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (lNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (lNext (m0 (qAt (arg2.view.read (Elt F) X_arg2) (k0_off2 k) (k0_off2_inb k)) (kcAt (arg3.view.read (Elt F) X_arg3))) (l0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (qAt (arg2.view.read (Elt F) X_arg2) (k0_off2 k) (k0_off2_inb k)) (klAt (arg4.view.read (Elt F) X_arg4) 2048 inb_S1x1x4096x192_S1x1x1024x192_0_0_2048_0) := by
    delta trip_k0_t1.sl.r_38
    rw [r_33, r_34, e327, e330]
    rfl
  have r_39 : trip_k0_t1.sl.r_39 arg2 arg3 arg4 arg5 arg6 arg16 arg17 X_arg2 X_arg3 X_arg4 X_arg5 X_arg6 k
      = aNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (aNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (aNext (m0 (qAt (arg2.view.read (Elt F) X_arg2) (k0_off2 k) (k0_off2_inb k)) (kcAt (arg3.view.read (Elt F) X_arg3))) (a0 (qAt (arg2.view.read (Elt F) X_arg2) (k0_off2 k) (k0_off2_inb k)) (kcAt (arg3.view.read (Elt F) X_arg3)) (vcAt (arg5.view.read (Elt F) X_arg5))) (qAt (arg2.view.read (Elt F) X_arg2) (k0_off2 k) (k0_off2_inb k)) (klAt (arg4.view.read (Elt F) X_arg4) 0 inb_S1x1x4096x192_S1x1x1024x192_0_0_0_0) (vlAt (arg6.view.read (Elt F) X_arg6) 0 inb_S1x1x128x4096_S1x1x128x1024_0_0_0_0)) (qAt (arg2.view.read (Elt F) X_arg2) (k0_off2 k) (k0_off2_inb k)) (klAt (arg4.view.read (Elt F) X_arg4) 1024 inb_S1x1x4096x192_S1x1x1024x192_0_0_1024_0) (vlAt (arg6.view.read (Elt F) X_arg6) 1024 inb_S1x1x128x4096_S1x1x128x1024_0_0_0_1024)) (qAt (arg2.view.read (Elt F) X_arg2) (k0_off2 k) (k0_off2_inb k)) (klAt (arg4.view.read (Elt F) X_arg4) 2048 inb_S1x1x4096x192_S1x1x1024x192_0_0_2048_0) (vlAt (arg6.view.read (Elt F) X_arg6) 2048 inb_S1x1x128x4096_S1x1x128x1024_0_0_0_2048) := by
    delta trip_k0_t1.sl.r_39
    rw [r_33, r_35, e327, e330]
    rfl
  have r_41 : trip_k0_t1.sl.r_41 arg2 arg3 arg4 arg5 arg6 arg16 arg17 X_arg2 X_arg3 X_arg4 X_arg5 X_arg6 k
      = k0_pay85 (mNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (qAt (arg2.view.read (Elt F) X_arg2) (k0_off2 k) (k0_off2_inb k)) (klAt (arg4.view.read (Elt F) X_arg4) 2048 inb_S1x1x4096x192_S1x1x1024x192_0_0_2048_0)) (lNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (lNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (lNext (m0 (qAt (arg2.view.read (Elt F) X_arg2) (k0_off2 k) (k0_off2_inb k)) (kcAt (arg3.view.read (Elt F) X_arg3))) (l0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (qAt (arg2.view.read (Elt F) X_arg2) (k0_off2 k) (k0_off2_inb k)) (klAt (arg4.view.read (Elt F) X_arg4) 2048 inb_S1x1x4096x192_S1x1x1024x192_0_0_2048_0)) (aNext (mNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (qAt (arg2.view.read (Elt F) X_arg2) (k0_off2 k) (k0_off2_inb k)) (klAt (arg4.view.read (Elt F) X_arg4) 1024 inb_S1x1x4096x192_S1x1x1024x192_0_0_1024_0)) (aNext (mNext (m0 (qAt (arg2.view.read (Elt F) X_arg2) (k0_off2 k) (k0_off2_inb k)) (kcAt (arg3.view.read (Elt F) X_arg3))) (qAt (arg2.view.read (Elt F) X_arg2) (k0_off2 k) (k0_off2_inb k)) (klAt (arg4.view.read (Elt F) X_arg4) 0 inb_S1x1x4096x192_S1x1x1024x192_0_0_0_0)) (aNext (m0 (qAt (arg2.view.read (Elt F) X_arg2) (k0_off2 k) (k0_off2_inb k)) (kcAt (arg3.view.read (Elt F) X_arg3))) (a0 (qAt (arg2.view.read (Elt F) X_arg2) (k0_off2 k) (k0_off2_inb k)) (kcAt (arg3.view.read (Elt F) X_arg3)) (vcAt (arg5.view.read (Elt F) X_arg5))) (qAt (arg2.view.read (Elt F) X_arg2) (k0_off2 k) (k0_off2_inb k)) (klAt (arg4.view.read (Elt F) X_arg4) 0 inb_S1x1x4096x192_S1x1x1024x192_0_0_0_0) (vlAt (arg6.view.read (Elt F) X_arg6) 0 inb_S1x1x128x4096_S1x1x128x1024_0_0_0_0)) (qAt (arg2.view.read (Elt F) X_arg2) (k0_off2 k) (k0_off2_inb k)) (klAt (arg4.view.read (Elt F) X_arg4) 1024 inb_S1x1x4096x192_S1x1x1024x192_0_0_1024_0) (vlAt (arg6.view.read (Elt F) X_arg6) 1024 inb_S1x1x128x4096_S1x1x128x1024_0_0_0_1024)) (qAt (arg2.view.read (Elt F) X_arg2) (k0_off2 k) (k0_off2_inb k)) (klAt (arg4.view.read (Elt F) X_arg4) 2048 inb_S1x1x4096x192_S1x1x1024x192_0_0_2048_0) (vlAt (arg6.view.read (Elt F) X_arg6) 2048 inb_S1x1x128x4096_S1x1x128x1024_0_0_0_2048)) (lmMax (qAt (arg2.view.read (Elt F) X_arg2) (k0_off2 k) (k0_off2_inb k)) (klAt (arg4.view.read (Elt F) X_arg4) 3072 inb_S1x1x4096x192_S1x1x1024x192_0_0_3072_0)) (lmScores (qAt (arg2.view.read (Elt F) X_arg2) (k0_off2 k) (k0_off2_inb k)) (klAt (arg4.view.read (Elt F) X_arg4) 3072 inb_S1x1x4096x192_S1x1x1024x192_0_0_3072_0)) (vlAt (arg6.view.read (Elt F) X_arg6) 3072 inb_S1x1x128x4096_S1x1x128x1024_0_0_0_3072) := by
    delta trip_k0_t1.sl.r_41
    rw [r_37, r_38, r_39, e368, e371]
    rfl
  unfold trip_k0_t1
  dsimp only
  rw [r_15, r_18, r_19, r_20, r_21, r_22, r_41]
  rfl

/-- A trip leaves the context scores of the tile after its two in slot 0 of the score scratch. -/
theorem trip_slot16 (𝒱 : Variants) (c : Dev nD) (bd : Option 𝒱.V) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (k : Fin k0_t1_loop.trips) (f11 : BufTy.Contents (Elt F) arg11.view.ty)
    (f16 : BufTy.Contents (Elt F) arg16.view.ty) (f17 : BufTy.Contents (Elt F) arg17.view.ty) :
    ∃ L, (trip_k0_t1 (F := F) 𝒱 c bd i arg2 harg2 arg3 harg3 arg4 harg4 arg5 harg5 arg6 harg6 arg7 harg7 arg8
      harg8 arg9 harg9 arg10 harg10 arg11 harg11 arg12 harg12 arg13 harg13 arg14 harg14 arg15 harg15 arg16
      harg16 arg17 harg17 X_arg2 X_arg3 X_arg4 X_arg5 X_arg6 k).2.1 f11 f16 f17
      = ⟨slot16, ctxScores (qAt (arg2.view.read (Elt F) X_arg2) (k0_off4 k) (k0_off4_inb k)) (kcAt (arg3.view.read (Elt F) X_arg3))⟩ :: L := by
  unfold trip_k0_t1
  exact ⟨_, rfl⟩

/-- A trip leaves their column maxima in slot 0 of the maxima scratch. -/
theorem trip_slot17 (𝒱 : Variants) (c : Dev nD) (bd : Option 𝒱.V) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (k : Fin k0_t1_loop.trips) (f11 : BufTy.Contents (Elt F) arg11.view.ty)
    (f16 : BufTy.Contents (Elt F) arg16.view.ty) (f17 : BufTy.Contents (Elt F) arg17.view.ty) :
    ∃ L, (trip_k0_t1 (F := F) 𝒱 c bd i arg2 harg2 arg3 harg3 arg4 harg4 arg5 harg5 arg6 harg6 arg7 harg7 arg8
      harg8 arg9 harg9 arg10 harg10 arg11 harg11 arg12 harg12 arg13 harg13 arg14 harg14 arg15 harg15 arg16
      harg16 arg17 harg17 X_arg2 X_arg3 X_arg4 X_arg5 X_arg6 k).2.2.1 f11 f16 f17
      = ⟨slot17, ctxMax (qAt (arg2.view.read (Elt F) X_arg2) (k0_off4 k) (k0_off4_inb k)) (kcAt (arg3.view.read (Elt F) X_arg3))⟩ :: L := by
  unfold trip_k0_t1
  exact ⟨_, rfl⟩

/-! ## The loop -/

/-- A query tile depends on the offset alone. -/
theorem qAt_congr (x : Vec F S1x1x192x4096 .bf16) {off off' : Fin 4 → ℕ} {inb inb'} (h : off = off') :
    qAt x off inb = qAt x off' inb' := by
  subst h; rfl

/-- The two tiles a trip writes into the result block, the later one first. -/
def pieces (x2 : Vec F S1x1x192x4096 .bf16) (x3 : Vec F S1x1x256x192 .bf16) (x4 : Vec F S1x1x4096x192 .bf16)
    (x5 : Vec F S1x1x128x256 .bf16) (x6 : Vec F S1x1x128x4096 .bf16) (k : Fin k0_t1_loop.trips) :
    List (View.Piece (Elt F) S1x4096x128 .bf16) :=
  [⟨Rect.unit (s := S1x4096x128) (k0_off5 k) S1x512x128.size (k0_off5_inb k),
      tileAt x2 x3 x4 x5 x6 (k0_off2 k) (k0_off2_inb k)⟩,
    ⟨Rect.unit (s := S1x4096x128) (k0_off3 k) S1x512x128.size (k0_off3_inb k),
      tileAt x2 x3 x4 x5 x6 (k0_off1 k) (k0_off1_inb k)⟩]

/-- The eight tiles of the result block, last first. -/
def outPieces (x2 : Vec F S1x1x192x4096 .bf16) (x3 : Vec F S1x1x256x192 .bf16) (x4 : Vec F S1x1x4096x192 .bf16)
    (x5 : Vec F S1x1x128x256 .bf16) (x6 : Vec F S1x1x128x4096 .bf16) : List (View.Piece (Elt F) S1x4096x128 .bf16) :=
  pieces x2 x3 x4 x5 x6 ⟨3, by decide⟩ ++ (pieces x2 x3 x4 x5 x6 ⟨2, by decide⟩
    ++ (pieces x2 x3 x4 x5 x6 ⟨1, by decide⟩ ++ pieces x2 x3 x4 x5 x6 ⟨0, by decide⟩))

/-- One trip of the loop: from slot 0 as the trip needs it, its two tiles go in front of the earlier
    ones and slot 0 is as the next trip needs it. -/
theorem loop_step (𝒱 : Variants) (c : Dev nD) (bd : Option 𝒱.V) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (G_arg11 : BufTy.Contents (Elt F) arg11.view.ty) (G_arg16 : BufTy.Contents (Elt F) arg16.view.ty)
    (G_arg17 : BufTy.Contents (Elt F) arg17.view.ty) (k : Fin k0_t1_loop.trips)
    (L1 : List (View.Piece (Elt F) S1x4096x128 .bf16))
    (h : (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).1 = L1
      ∧ arg16.view.readAt (Elt F) slot16.toLoadRect (arg16.view.writes (Elt F) G_arg16 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.1)
        = ctxScores (qAt (arg2.view.read (Elt F) X_arg2) (k0_off1 k) (k0_off1_inb k)) (kcAt (arg3.view.read (Elt F) X_arg3))
      ∧ arg17.view.readAt (Elt F) slot17.toLoadRect (arg17.view.writes (Elt F) G_arg17 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.2)
        = ctxMax (qAt (arg2.view.read (Elt F) X_arg2) (k0_off1 k) (k0_off1_inb k)) (kcAt (arg3.view.read (Elt F) X_arg3))) :
    (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 (k.val + 1)).1
        = pieces (arg2.view.read (Elt F) X_arg2) (arg3.view.read (Elt F) X_arg3) (arg4.view.read (Elt F) X_arg4)
            (arg5.view.read (Elt F) X_arg5) (arg6.view.read (Elt F) X_arg6) k ++ L1
      ∧ arg16.view.readAt (Elt F) slot16.toLoadRect (arg16.view.writes (Elt F) G_arg16 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 (k.val + 1)).2.1)
        = ctxScores (qAt (arg2.view.read (Elt F) X_arg2) (k0_off4 k) (k0_off4_inb k)) (kcAt (arg3.view.read (Elt F) X_arg3))
      ∧ arg17.view.readAt (Elt F) slot17.toLoadRect (arg17.view.writes (Elt F) G_arg17 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 (k.val + 1)).2.2)
        = ctxMax (qAt (arg2.view.read (Elt F) X_arg2) (k0_off4 k) (k0_off4_inb k)) (kcAt (arg3.view.read (Elt F) X_arg3)) := by
  obtain ⟨h1, h16, h17⟩ := h
  rw [pb_k0_t1_succ]
  refine ⟨?_, ?_, ?_⟩
  · have e := trip_out
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 k
      (arg11.view.writes (Elt F) G_arg11 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).1) _ _ h16 h17
    exact congr (congrArg _ e) h1
  · obtain ⟨L, e⟩ := trip_slot16
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 k
      (arg11.view.writes (Elt F) G_arg11 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).1)
      (arg16.view.writes (Elt F) G_arg16 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.1)
      (arg17.view.writes (Elt F) G_arg17 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.2)
    exact readAt_head_append arg16.view _ slot16 _ L _ _ e
  · obtain ⟨L, e⟩ := trip_slot17
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 k
      (arg11.view.writes (Elt F) G_arg11 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).1)
      (arg16.view.writes (Elt F) G_arg16 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.1)
      (arg17.view.writes (Elt F) G_arg17 (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k.val).2.2)
    exact readAt_head_append arg17.view _ slot17 _ L _ _ e

/-- The loop writes the eight tiles of the result block. -/
theorem loop_out (𝒱 : Variants) (c : Dev nD) (bd : Option 𝒱.V) (i : grid0.Coords)
    (arg2 : Memref sig .tc .vmem S1x1x192x4096 .bf16) (harg2 : arg2.IsWhole)
    (arg3 : Memref sig .tc .vmem S1x1x256x192 .bf16) (harg3 : arg3.IsWhole)
    (arg4 : Memref sig .tc .vmem S1x1x4096x192 .bf16) (harg4 : arg4.IsWhole)
    (arg5 : Memref sig .tc .vmem S1x1x128x256 .bf16) (harg5 : arg5.IsWhole)
    (arg6 : Memref sig .tc .vmem S1x1x128x4096 .bf16) (harg6 : arg6.IsWhole)
    (arg7 : Memref sig .tc .vmem S64x1024 .f32) (harg7 : arg7.IsWhole)
    (arg8 : Memref sig .tc .vmem S64x2816 .f32) (harg8 : arg8.IsWhole)
    (arg9 : Memref sig .tc .vmem S64x2816 .f32) (harg9 : arg9.IsWhole)
    (arg10 : Memref sig .tc .vmem S176x1024 .f32) (harg10 : arg10.IsWhole)
    (arg11 : Memref sig .tc .vmem S1x4096x128 .bf16) (harg11 : arg11.IsWhole)
    (arg12 : Memref sig .tc .vmem S64x1024 .bf16) (harg12 : arg12.IsWhole)
    (arg13 : Memref sig .tc .vmem S64x2816 .bf16) (harg13 : arg13.IsWhole)
    (arg14 : Memref sig .tc .vmem S64x2816 .bf16) (harg14 : arg14.IsWhole)
    (arg15 : Memref sig .tc .vmem S176x1024 .bf16) (harg15 : arg15.IsWhole)
    (arg16 : Memref sig .tc .vmem S2x1024x512 .f32) (harg16 : arg16.IsWhole)
    (arg17 : Memref sig .tc .vmem S2x8x512 .f32) (harg17 : arg17.IsWhole)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (G_arg11 : BufTy.Contents (Elt F) arg11.view.ty) (G_arg16 : BufTy.Contents (Elt F) arg16.view.ty)
    (G_arg17 : BufTy.Contents (Elt F) arg17.view.ty)
    (h16 : arg16.view.readAt (Elt F) slot16.toLoadRect G_arg16
      = ctxScores (qAt (arg2.view.read (Elt F) X_arg2) ![0, 0, 0, 0] inb_S1x1x192x4096_S1x1x192x512_0_0_0_0) (kcAt (arg3.view.read (Elt F) X_arg3)))
    (h17 : arg17.view.readAt (Elt F) slot17.toLoadRect G_arg17
      = ctxMax (qAt (arg2.view.read (Elt F) X_arg2) ![0, 0, 0, 0] inb_S1x1x192x4096_S1x1x192x512_0_0_0_0) (kcAt (arg3.view.read (Elt F) X_arg3))) :
    (pb_k0_t1 (F := F) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 X_arg2 X_arg3 X_arg4 X_arg5 X_arg6 G_arg11 G_arg16 G_arg17 k0_t1_loop.trips).1
      = outPieces (arg2.view.read (Elt F) X_arg2) (arg3.view.read (Elt F) X_arg3) (arg4.view.read (Elt F) X_arg4)
          (arg5.view.read (Elt F) X_arg5) (arg6.view.read (Elt F) X_arg6) := by
  have hq0 := qAt_congr (arg2.view.read (Elt F) X_arg2) (inb := inb_S1x1x192x4096_S1x1x192x512_0_0_0_0)
    (inb' := k0_off1_inb ⟨0, by decide⟩) (show ![0, 0, 0, 0] = k0_off1 ⟨0, by decide⟩ by decide +kernel)
  have hq1 := qAt_congr (arg2.view.read (Elt F) X_arg2) (inb := k0_off4_inb ⟨0, by decide⟩)
    (inb' := k0_off1_inb ⟨1, by decide⟩) (show k0_off4 ⟨0, by decide⟩ = k0_off1 ⟨1, by decide⟩ by decide +kernel)
  have hq2 := qAt_congr (arg2.view.read (Elt F) X_arg2) (inb := k0_off4_inb ⟨1, by decide⟩)
    (inb' := k0_off1_inb ⟨2, by decide⟩) (show k0_off4 ⟨1, by decide⟩ = k0_off1 ⟨2, by decide⟩ by decide +kernel)
  have hq3 := qAt_congr (arg2.view.read (Elt F) X_arg2) (inb := k0_off4_inb ⟨2, by decide⟩)
    (inb' := k0_off1_inb ⟨3, by decide⟩) (show k0_off4 ⟨2, by decide⟩ = k0_off1 ⟨3, by decide⟩ by decide +kernel)
  have s1 := loop_step
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 G_arg11 G_arg16 G_arg17 ⟨0, by decide⟩ [] ⟨rfl, by rw [← hq0]; exact h16, by rw [← hq0]; exact h17⟩
  rw [hq1] at s1
  have s2 := loop_step
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 G_arg11 G_arg16 G_arg17 ⟨1, by decide⟩ _ s1
  rw [hq2] at s2
  have s3 := loop_step
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 G_arg11 G_arg16 G_arg17 ⟨2, by decide⟩ _ s2
  rw [hq3] at s3
  have s4 := loop_step
      𝒱 c bd i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 X_arg2
      X_arg3 X_arg4 X_arg5 X_arg6 G_arg11 G_arg16 G_arg17 ⟨3, by decide⟩ _ s3
  have ht : k0_t1_loop.trips = 3 + 1 := by decide
  rw [ht]
  refine s4.1.trans ?_
  rw [List.append_nil]
  rfl

end Cert.Attn.Trip

end
-- ==== Proof.AttnRefFrame.lean ====
/- The frame of the attention reference over the ideal floats. -/
module

public import proofs.«01_k».proof.Defs
public import proofs.«01_k».proof.Proof.Gen.AttnRefIdeal.Run
public import proofs.«01_k».proof.Proof.Gen.Pre_finite_qk
public import Idealize.ShloMosaic.Lib.Claim

@[expose] public section

set_option maxRecDepth 16384

noncomputable section

namespace Cert.AttnRefFrame

open Idealize.ShloMosaic Idealize.SL.Sem Idealize.ShloMosaic.Tactic

/-- The reference over the ideal floats runs, leaves its arguments unchanged and its counters at zero. -/
theorem frame_ideal : Cert.quiescent_AttnRefIdeal (hAttnRefIdeal := Cert.AttnRefIdeal.Gen.facts) := fun m ρ _ =>
  (θ_run Cert.AttnRefIdeal.defs _ _).mono (fun r h => ⟨fun c => (h c).2.2.2.2.2,
      Idealize.ShloMosaic.sem_eq_zero_of_no_sems (by decide) r.2⟩)
    (Cert.AttnRefIdeal.Value.run (F := Ideal) m ρ)

/-- The same under the precondition that the queries and keys are finite. -/
theorem frame_ideal_pre : Cert.quiescent_AttnRefIdeal_pre_finite_qk (hAttnRefIdeal := Cert.AttnRefIdeal.Gen.facts)
    (hPre_finite_qk := Cert.Pre_finite_qk.Gen.facts) := fun m ρ _ =>
  (θ_run Cert.AttnRefIdeal.defs _ _).mono (fun r h => ⟨fun c => (h c).2.2.2.2.2,
      Idealize.ShloMosaic.sem_eq_zero_of_no_sems (by decide) r.2⟩)
    (Cert.AttnRefIdeal.Value.run (F := Ideal) m ρ)

end Cert.AttnRefFrame

end
-- ==== Proof.AttnClaim.lean ====
/- The claims about the attention call: the frames, the named scale, and that kernel and reference return the same five
   arrays over the ideal floats when queries and keys are finite. -/
module

public import proofs.«01_k».proof.Defs
public import proofs.«01_k».proof.Proof.AttnValue
public import proofs.«01_k».proof.Proof.AttnRun
public import proofs.«01_k».proof.Proof.AttnRefFrame
public import Idealize.ShloMosaic.Rules

@[expose] public section

set_option maxRecDepth 16384

noncomputable section

namespace Cert.AttnClaim

open Idealize.ShloMosaic Idealize.SL.Sem Idealize.ShloMosaic.Tactic

/-- The kernel over the machine's floats runs, leaves its arguments unchanged and its counters at zero. -/
theorem frame_kernel : Cert.quiescent_Attn (hAttn := Cert.Attn.Gen.facts) :=
  fun m ρ _ => Cert.Attn.Run.frame m ρ

/-- The kernel over the ideal floats runs, leaves its arguments unchanged and its counters at zero. -/
theorem frame_kernel_ideal : Cert.quiescent_AttnIdeal (hAttnIdeal := Cert.AttnIdeal.Gen.facts) :=
  fun m ρ _ => Cert.AttnIdeal.Run.frame m ρ

/-- The same under the precondition that queries and keys are finite. -/
theorem frame_kernel_ideal_pre : Cert.quiescent_AttnIdeal_pre_finite_qk (hAttnIdeal := Cert.AttnIdeal.Gen.facts)
    (hPre_finite_qk := Cert.Pre_finite_qk.Gen.facts) :=
  fun m ρ _ => Cert.AttnIdeal.Run.frame m ρ

/-- The kernel's scale is the printed constant's real value, `1/(log 2 · √192)`. -/
theorem scale : Cert.preserves_Attn_AttnIdeal :=
  IdealRules.named_const.statement Cert.AttnIdeal.κ "q_scale" .f32 0x3DD53B95#32
    (((Real.log 2)⁻¹ * (Real.sqrt 192)⁻¹ : ℝ) : EReal) rfl

/-- A number whose absolute value compares below `+∞` is a real. -/
theorem real_of_olt (x : EReal) (h : Ideal.cmp .olt (max x (-x)) (Ideal.ofBits .f32 0x7F800000#32) = 1#1) : x = (x.toReal : EReal) := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  rw [max_lt_iff] at hlt
  refine (EReal.coe_toReal hlt.1.ne fun hb => ?_).symm
  rw [hb] at hlt
  exact absurd hlt.2 (by simp)

set_option maxHeartbeats 4000000 in
/-- Kernel and reference, started on the same arguments with finite queries and keys, return the same five arrays over
    the ideal floats. -/
theorem value : Cert.algebraic_AttnIdeal_AttnRefIdeal_pre_finite_qk (hAttnIdeal := Cert.AttnIdeal.Gen.facts)
    (hAttnRefIdeal := Cert.AttnRefIdeal.Gen.facts) (hPre_finite_qk := Cert.Pre_finite_qk.Gen.facts) := by
  intro m g m' g' hpre hagree
  have h0 : ∀ c i, Cert.AttnIdeal.Result.a0 m c i = ((Cert.AttnIdeal.Result.a0 m c i).toReal : EReal) :=
    fun c i => real_of_olt _ (congrFun (hpre c).1 i)
  have h1 : ∀ c i, Cert.AttnIdeal.Result.a1 m c i = ((Cert.AttnIdeal.Result.a1 m c i).toReal : EReal) :=
    fun c i => real_of_olt _ (congrFun (hpre c).2.1 i)
  have h2 : ∀ c i, Cert.AttnIdeal.Result.a2 m c i = ((Cert.AttnIdeal.Result.a2 m c i).toReal : EReal) :=
    fun c i => real_of_olt _ (congrFun (hpre c).2.2 i)
  refine ⟨fun c => Cert.AttnIdeal.Result.G m c, fun c => m ((c.tc : Thread Cert.AttnIdeal.nD Cert.AttnIdeal.τ).loc Cert.AttnIdeal.main_arg5),
    fun c => m ((c.tc : Thread Cert.AttnIdeal.nD Cert.AttnIdeal.τ).loc Cert.AttnIdeal.main_arg6),
    fun c => m ((c.tc : Thread Cert.AttnIdeal.nD Cert.AttnIdeal.τ).loc Cert.AttnIdeal.main_arg7),
    fun c => m ((c.tc : Thread Cert.AttnIdeal.nD Cert.AttnIdeal.τ).loc Cert.AttnIdeal.main_arg8), ?_, ?_⟩
  · clear hagree hpre
    run_from (Cert.AttnIdeal.Run.run_main (F := Ideal) m g)
    · exact Cert.AttnIdeal.Result.final9 m c (h0 c) (h1 c) (h2 c)
    · exact Cert.AttnIdeal.Result.final10 m c
    · exact Cert.AttnIdeal.Result.final11 m c
    · exact Cert.AttnIdeal.Result.final12 m c
    · exact Cert.AttnIdeal.Result.final13 m c
  · refine (θ_run Cert.AttnRefIdeal.defs _ _).mono (fun r h c => ?_) (Cert.AttnRefIdeal.Value.run (F := Ideal) m' g')
    obtain ⟨r0, r1, r2, r3, r4, hargs⟩ := h c
    obtain ⟨e0, e1, e2, e3, e4, e5, e6, e7, e8⟩ := hagree c
    refine ⟨r0.trans ?_, r1.trans e5, r2.trans e6, r3.trans e7, r4.trans e8, hargs⟩
    rw [e0, e1, e2, e3, e4]
    rfl

end Cert.AttnClaim

end
-- ==== Proof.FfnMath.lean ====
/- The feed-forward call's mathematics, one row at a time, over the extended reals: the output projection with its gated
   residual, the normalised and modulated row, the gated linear unit, the second gated residual and the final
   normalisation. Both the kernel's block and the reference's array are shown to hold `row`. -/
module

public import Idealize.ShloMosaic.Lib.Pointwise

@[expose] public section

noncomputable section

namespace Cert.FfnMath

open Idealize.ShloMosaic

/-- The residual row after the output projection: `x + g · (om W₁ + oh W₂)`, where `W₁` is the upper and `W₂` the lower
    half of `W`. -/
def mid (x g : Fin 1024 → EReal) (om oh : Fin 512 → EReal) (W : Fin 1024 → Fin 1024 → EReal) (l : Fin 1024) : EReal :=
  x l + g l * (∑ k : Fin 512, om k * W ⟨k.val, by omega⟩ l + ∑ k : Fin 512, oh k * W ⟨512 + k.val, by omega⟩ l)

/-- A row divided by the root of its mean square. -/
def unit (v : Fin 1024 → EReal) (l : Fin 1024) : EReal :=
  v l * Ideal.rsqrt (Ideal.div (∑ k, v k * v k) (Ideal.ofBits .f32 0x44800000#32) + Ideal.ofBits .f32 0x358637BD#32)

/-- The normalised row with its gain, scale and shift. -/
def hid (v gain scale shift : Fin 1024 → EReal) (l : Fin 1024) : EReal :=
  unit v l * (gain l * (1 + scale l)) + shift l

/-- The gated activation: `silu (h Wg) · (h Wu)`. -/
def act (h : Fin 1024 → EReal) (Wg Wu : Fin 1024 → Fin 2816 → EReal) (f : Fin 2816) : EReal :=
  (∑ k, h k * Wg k f) * Ideal.logistic (∑ k, h k * Wg k f) * ∑ k, h k * Wu k f

/-- The residual row after the feed-forward part. -/
def late (v g : Fin 1024 → EReal) (a : Fin 2816 → EReal) (Wd : Fin 2816 → Fin 1024 → EReal) (l : Fin 1024) : EReal :=
  v l + g l * ∑ f, a f * Wd f l

/-- One row of the result. `p i` is the row's `i`-th modulation vector: `p 2` the first gate, `p 3` the shift, `p 4` the
    scale, `p 5` the second gate. -/
def row (x : Fin 1024 → EReal) (om oh : Fin 512 → EReal) (p : Fin 6 → Fin 1024 → EReal) (gain : Fin 1024 → EReal)
    (W : Fin 1024 → Fin 1024 → EReal) (Wg Wu : Fin 1024 → Fin 2816 → EReal) (Wd : Fin 2816 → Fin 1024 → EReal)
    (gfin : Fin 1024 → EReal) (l : Fin 1024) : EReal :=
  unit (late (mid x (p 2) om oh W) (p 5) (act (hid (mid x (p 2) om oh W) gain (p 4) (p 3)) Wg Wu) Wd) l * gfin l

end Cert.FfnMath

end
-- ==== Proof.FfnBlock.lean ====
/- What the feed-forward kernel leaves in its output block, element by element: row `r` of the block is `FfnMath.row` of
   row `r` of the input blocks. -/
module

public import proofs.«01_k».proof.Proof.Gen.FfnIdeal.Frame
public import proofs.«01_k».proof.Proof.FfnMath
public import Idealize.ShloMosaic.Lib.Pipeline.ValueKit

@[expose] public section

set_option maxRecDepth 16384

noncomputable section

namespace Cert.FfnIdeal.Block

open Cert.FfnIdeal Cert.FfnIdeal.Gen Idealize.ShloMosaic Cert.FfnMath

variable (x0 : Vec Ideal S1x512x1024 .f32) (x1 : Vec Ideal S1x512x512 .bf16) (x2 : Vec Ideal S1x512x512 .bf16)
  (x3 : Vec Ideal S1x8x1024 .f32) (x4 : Vec Ideal S1x1024 .f32) (x5 : Vec Ideal S1024x1024 .bf16)
  (x6 : Vec Ideal S1024x2816 .bf16) (x7 : Vec Ideal S1024x2816 .bf16) (x8 : Vec Ideal S2816x1024 .bf16)
  (x9 : Vec Ideal S1x1024 .f32)

/-- Row `r` of the residual after the output projection, read off the blocks. -/
def midB (r : Fin 512) : Fin 1024 → EReal :=
  mid (fun l => x0 (ix3 0 r l)) (fun l => x3 (ix3 0 2 l)) (fun k => x1 (ix3 0 r k)) (fun k => x2 (ix3 0 r k))
    (fun k l => x5 (ix2 k l))

/-- Row `r` of the modulated hidden vector, read off the blocks. -/
def hidB (r : Fin 512) : Fin 1024 → EReal :=
  hid (midB x0 x1 x2 x3 x5 r) (fun l => x4 (ix2 0 l)) (fun l => x3 (ix3 0 4 l)) (fun l => x3 (ix3 0 3 l))

/-- Row `r` of the activations, read off the blocks. -/
def actB (r : Fin 512) : Fin 2816 → EReal :=
  act (hidB x0 x1 x2 x3 x4 x5 r) (fun k f => x6 (ix2 k f)) (fun k f => x7 (ix2 k f))

theorem pay3_eq (r : Fin 512) (l : Fin 1024) :
    k0_pay3 (View.ld x0 r0_0) (View.ld x1 r0_1) (View.ld x5 r0_2) (View.ld x2 r0_1) (View.ld x5 r0_3) (View.ld x3 r0_4) (ix2 r l)
      = midB x0 x1 x2 x3 x5 r l := by
  pointwise [k0_pay3, midB, mid]
  try rfl

theorem pay5_eq (r : Fin 512) :
    k0_pay5 (View.ld x0 r0_0) (View.ld x1 r0_1) (View.ld x5 r0_2) (View.ld x2 r0_1) (View.ld x5 r0_3) (View.ld x3 r0_4) (ix2 r 0)
      = Ideal.div (∑ k, midB x0 x1 x2 x3 x5 r k * midB x0 x1 x2 x3 x5 r k) (Ideal.ofBits .f32 0x44800000#32) := by
  pointwise [k0_pay5]
  simp only [pay3_eq]

theorem pay27_eq (r : Fin 512) (l : Fin 1024) :
    k0_pay27 x0 x1 x2 x3 x4 x5 x6 x7 x8 x9 (ix2 r l) = hidB x0 x1 x2 x3 x4 x5 r l := by
  unfold k0_pay27 k0_pay23 k0_pay24 k0_pay25 k0_pay26
  pointwise [k0_pay7, k0_pay4, k0_pay6, hidB, hid, unit]
  simp only [pay3_eq, pay5_eq]

/-! Each chunk of 256 activations, read at its offset among the 2816. -/

theorem chunk0_eq (r : Fin 512) (j : Fin 256) :
    k0_pay8 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) (View.ld x6 r0_8) (View.ld x7 r0_8) (ix2 r j)
      = actB x0 x1 x2 x3 x4 x5 x6 x7 r ⟨0 + j.val, by omega⟩ := by
  have e : k0_pay7 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) = k0_pay27 x0 x1 x2 x3 x4 x5 x6 x7 x8 x9 := rfl
  pointwise [k0_pay8, e, pay27_eq, actB, act]

theorem chunk1_eq (r : Fin 512) (j : Fin 256) :
    k0_pay9 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) (View.ld x6 r0_9) (View.ld x7 r0_9) (ix2 r j)
      = actB x0 x1 x2 x3 x4 x5 x6 x7 r ⟨256 + j.val, by omega⟩ := by
  have e : k0_pay7 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) = k0_pay27 x0 x1 x2 x3 x4 x5 x6 x7 x8 x9 := rfl
  pointwise [k0_pay9, e, pay27_eq, actB, act]

theorem chunk2_eq (r : Fin 512) (j : Fin 256) :
    k0_pay12 (k0_pay10 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) (View.ld x7 r0_10)) (k0_pay11 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) (View.ld x6 r0_10)) (ix2 r j)
      = actB x0 x1 x2 x3 x4 x5 x6 x7 r ⟨512 + j.val, by omega⟩ := by
  have e : k0_pay7 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) = k0_pay27 x0 x1 x2 x3 x4 x5 x6 x7 x8 x9 := rfl
  pointwise [k0_pay12, k0_pay10, k0_pay11, e, pay27_eq, actB, act]

theorem chunk3_eq (r : Fin 512) (j : Fin 256) :
    k0_pay13 (k0_pay27 x0 x1 x2 x3 x4 x5 x6 x7 x8 x9) (View.ld x6 r0_11) (View.ld x7 r0_11) (ix2 r j)
      = actB x0 x1 x2 x3 x4 x5 x6 x7 r ⟨768 + j.val, by omega⟩ := by
  pointwise [k0_pay13, pay27_eq, actB, act]

theorem chunk4_eq (r : Fin 512) (j : Fin 256) :
    k0_pay14 (k0_pay27 x0 x1 x2 x3 x4 x5 x6 x7 x8 x9) (View.ld x6 r0_12) (View.ld x7 r0_12) (ix2 r j)
      = actB x0 x1 x2 x3 x4 x5 x6 x7 r ⟨1024 + j.val, by omega⟩ := by
  pointwise [k0_pay14, pay27_eq, actB, act]

theorem chunk5_eq (r : Fin 512) (j : Fin 256) :
    k0_pay15 (k0_pay27 x0 x1 x2 x3 x4 x5 x6 x7 x8 x9) (View.ld x6 r0_13) (View.ld x7 r0_13) (ix2 r j)
      = actB x0 x1 x2 x3 x4 x5 x6 x7 r ⟨1280 + j.val, by omega⟩ := by
  pointwise [k0_pay15, pay27_eq, actB, act]

theorem chunk6_eq (r : Fin 512) (j : Fin 256) :
    k0_pay18 (k0_pay27 x0 x1 x2 x3 x4 x5 x6 x7 x8 x9) (k0_pay16 (k0_pay27 x0 x1 x2 x3 x4 x5 x6 x7 x8 x9) (View.ld x6 r0_14)) (k0_pay17 (View.ld x7 r0_14)) (ix2 r j)
      = actB x0 x1 x2 x3 x4 x5 x6 x7 r ⟨1536 + j.val, by omega⟩ := by
  pointwise [k0_pay18, k0_pay16, k0_pay17, pay27_eq, actB, act]

theorem chunk7_eq (r : Fin 512) (j : Fin 256) :
    k0_pay19 (k0_pay27 x0 x1 x2 x3 x4 x5 x6 x7 x8 x9) (View.ld x6 r0_15) (View.ld x7 r0_15) (ix2 r j)
      = actB x0 x1 x2 x3 x4 x5 x6 x7 r ⟨1792 + j.val, by omega⟩ := by
  pointwise [k0_pay19, pay27_eq, actB, act]

theorem chunk8_eq (r : Fin 512) (j : Fin 256) :
    k0_pay20 (k0_pay27 x0 x1 x2 x3 x4 x5 x6 x7 x8 x9) (View.ld x6 r0_16) (View.ld x7 r0_16) (ix2 r j)
      = actB x0 x1 x2 x3 x4 x5 x6 x7 r ⟨2048 + j.val, by omega⟩ := by
  pointwise [k0_pay20, pay27_eq, actB, act]

theorem chunk9_eq (r : Fin 512) (j : Fin 256) :
    k0_pay21 (k0_pay27 x0 x1 x2 x3 x4 x5 x6 x7 x8 x9) (View.ld x6 r0_17) (View.ld x7 r0_17) (ix2 r j)
      = actB x0 x1 x2 x3 x4 x5 x6 x7 r ⟨2304 + j.val, by omega⟩ := by
  pointwise [k0_pay21, pay27_eq, actB, act]

/-- A conditional both of whose branches are `v` is `v`. -/
theorem dite_const {p : Prop} [Decidable p] {v : EReal} {a : p → EReal} {b : ¬p → EReal} (ha : ∀ h, a h = v)
    (hb : ∀ h, b h = v) : dite p a b = v := by
  by_cases h : p
  · rw [dif_pos h, ha]
  · rw [dif_neg h, hb]

/-- Eleven chunks side by side, read at an index: where each chunk holds its part of a row `G`, the whole holds `G`. -/
theorem cat_eq (h : FVec Ideal S512x1024 .bf16) (v0 v1 v2 v3 v4 v5 v6 v7 v8 v9 : FVec Ideal S512x256 .bf16) (g : FVec Ideal S512x256 .f32)
    (w : Vec Ideal S1024x256 .bf16) (r : Fin 512) (G : Fin 2816 → EReal)
    (h0 : ∀ j : Fin 256, v0 (ix2 r j) = G ⟨0 + j.val, by omega⟩)
    (h1 : ∀ j : Fin 256, v1 (ix2 r j) = G ⟨256 + j.val, by omega⟩)
    (h2 : ∀ j : Fin 256, v2 (ix2 r j) = G ⟨512 + j.val, by omega⟩)
    (h3 : ∀ j : Fin 256, v3 (ix2 r j) = G ⟨768 + j.val, by omega⟩)
    (h4 : ∀ j : Fin 256, v4 (ix2 r j) = G ⟨1024 + j.val, by omega⟩)
    (h5 : ∀ j : Fin 256, v5 (ix2 r j) = G ⟨1280 + j.val, by omega⟩)
    (h6 : ∀ j : Fin 256, v6 (ix2 r j) = G ⟨1536 + j.val, by omega⟩)
    (h7 : ∀ j : Fin 256, v7 (ix2 r j) = G ⟨1792 + j.val, by omega⟩)
    (h8 : ∀ j : Fin 256, v8 (ix2 r j) = G ⟨2048 + j.val, by omega⟩)
    (h9 : ∀ j : Fin 256, v9 (ix2 r j) = G ⟨2304 + j.val, by omega⟩)
    (h10 : ∀ j : Fin 256, g (ix2 r j) * Ideal.logistic (g (ix2 r j)) * (∑ k, h (ix2 r k) * w (ix2 k j)) = G ⟨2560 + j.val, by omega⟩)
    (f : Fin 2816) : k0_pay1 h v0 v1 v2 v3 v4 v5 v6 v7 v8 v9 g w (ix2 r f) = G f := by
  pointwise [k0_pay1]
  simp only [h0, h1, h2, h3, h4, h5, h6, h7, h8, h9, h10]
  have hf := f.isLt
  refine dite_const (fun _ => congrArg G (Fin.ext (by dsimp only; omega))) fun _ => ?_
  refine dite_const (fun _ => congrArg G (Fin.ext (by dsimp only; omega))) fun _ => ?_
  refine dite_const (fun _ => congrArg G (Fin.ext (by dsimp only; omega))) fun _ => ?_
  refine dite_const (fun _ => congrArg G (Fin.ext (by dsimp only; omega))) fun _ => ?_
  refine dite_const (fun _ => congrArg G (Fin.ext (by dsimp only; omega))) fun _ => ?_
  refine dite_const (fun _ => congrArg G (Fin.ext (by dsimp only; omega))) fun _ => ?_
  refine dite_const (fun _ => congrArg G (Fin.ext (by dsimp only; omega))) fun _ => ?_
  refine dite_const (fun _ => congrArg G (Fin.ext (by dsimp only; omega))) fun _ => ?_
  refine dite_const (fun _ => congrArg G (Fin.ext (by dsimp only; omega))) fun _ => ?_
  refine dite_const (fun _ => congrArg G (Fin.ext (by dsimp only; omega))) fun _ => ?_
  exact congrArg G (Fin.ext (by dsimp only; omega))

/-- The eleven chunks side by side are the row of activations. -/
theorem pay1_eq (r : Fin 512) (f : Fin 2816) :
    k0_pay1 (k0_pay27 x0 x1 x2 x3 x4 x5 x6 x7 x8 x9) (k0_pay8 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) (View.ld x6 r0_8) (View.ld x7 r0_8)) (k0_pay9 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) (View.ld x6 r0_9) (View.ld x7 r0_9)) (k0_pay12 (k0_pay10 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) (View.ld x7 r0_10)) (k0_pay11 (k0_pay23 x0 x1 x2 x3 x4 x5 x6 x7 x8 x9) (k0_pay24 x0 x1 x2 x3 x4 x5 x6 x7 x8 x9) (k0_pay25 x0 x1 x2 x3 x4 x5 x6 x7 x8 x9) (k0_pay26 x0 x1 x2 x3 x4 x5 x6 x7 x8 x9) (View.ld x3 r0_7) (View.ld x6 r0_10))) (k0_pay13 (k0_pay27 x0 x1 x2 x3 x4 x5 x6 x7 x8 x9) (View.ld x6 r0_11) (View.ld x7 r0_11)) (k0_pay14 (k0_pay27 x0 x1 x2 x3 x4 x5 x6 x7 x8 x9) (View.ld x6 r0_12) (View.ld x7 r0_12)) (k0_pay15 (k0_pay27 x0 x1 x2 x3 x4 x5 x6 x7 x8 x9) (View.ld x6 r0_13) (View.ld x7 r0_13)) (k0_pay18 (k0_pay27 x0 x1 x2 x3 x4 x5 x6 x7 x8 x9) (k0_pay16 (k0_pay27 x0 x1 x2 x3 x4 x5 x6 x7 x8 x9) (View.ld x6 r0_14)) (k0_pay17 (View.ld x7 r0_14))) (k0_pay19 (k0_pay27 x0 x1 x2 x3 x4 x5 x6 x7 x8 x9) (View.ld x6 r0_15) (View.ld x7 r0_15)) (k0_pay20 (k0_pay27 x0 x1 x2 x3 x4 x5 x6 x7 x8 x9) (View.ld x6 r0_16) (View.ld x7 r0_16)) (k0_pay21 (k0_pay27 x0 x1 x2 x3 x4 x5 x6 x7 x8 x9) (View.ld x6 r0_17) (View.ld x7 r0_17)) (k0_pay22 (k0_pay27 x0 x1 x2 x3 x4 x5 x6 x7 x8 x9) (View.ld x6 r0_18)) (View.ld x7 r0_18) (ix2 r f)
      = actB x0 x1 x2 x3 x4 x5 x6 x7 r f := by
  refine cat_eq _ _ _ _ _ _ _ _ _ _ _ _ _ r _ (chunk0_eq x0 x1 x2 x3 x4 x5 x6 x7 x8 x9 r) (chunk1_eq x0 x1 x2 x3 x4 x5 x6 x7 x8 x9 r) (chunk2_eq x0 x1 x2 x3 x4 x5 x6 x7 x8 x9 r) (chunk3_eq x0 x1 x2 x3 x4 x5 x6 x7 x8 x9 r) (chunk4_eq x0 x1 x2 x3 x4 x5 x6 x7 x8 x9 r) (chunk5_eq x0 x1 x2 x3 x4 x5 x6 x7 x8 x9 r) (chunk6_eq x0 x1 x2 x3 x4 x5 x6 x7 x8 x9 r) (chunk7_eq x0 x1 x2 x3 x4 x5 x6 x7 x8 x9 r) (chunk8_eq x0 x1 x2 x3 x4 x5 x6 x7 x8 x9 r) (chunk9_eq x0 x1 x2 x3 x4 x5 x6 x7 x8 x9 r) (fun j => ?_) f
  pointwise [k0_pay22, pay27_eq, actB, act]

/-- THE BLOCK: what a grid point leaves in the output block is `FfnMath.row` of the input blocks, row by row. -/
theorem out_eq (r : Fin 512) (l : Fin 1024) :
    out0_10 x0 x1 x2 x3 x4 x5 x6 x7 x8 x9 (ix3 0 r l)
      = row (fun l => x0 (ix3 0 r l)) (fun k => x1 (ix3 0 r k)) (fun k => x2 (ix3 0 r k))
          (fun i l => x3 (ix3 0 ⟨i.val, by omega⟩ l)) (fun l => x4 (ix2 0 l)) (fun k l => x5 (ix2 k l))
          (fun k f => x6 (ix2 k f)) (fun k f => x7 (ix2 k f)) (fun f l => x8 (ix2 f l)) (fun l => x9 (ix2 0 l)) l := by
  have hz : (![0, 0, 0] : Fin 3 → Nat) = fun _ => 0 := funext fun a => by fin_cases a <;> rfl
  unfold out0_10
  rw [View.canon_unit_zero hz]
  pointwise [k0_pay2]
  simp only [pay1_eq]
  unfold k0_pay23
  simp only [pay3_eq]
  rfl

end Cert.FfnIdeal.Block
-- ==== Proof.FfnValue.lean ====
/- The feed-forward kernel's result array: index `(b, r, l)` holds `FfnMath.row` of the arguments' rows, and so equals the
   reference's term. -/
module

public import proofs.«01_k».proof.Proof.Gen.FfnIdeal.Value
public import proofs.«01_k».proof.Proof.FfnBlock

@[expose] public section

set_option maxRecDepth 16384

noncomputable section

namespace Cert.FfnIdeal.Result

open Cert.FfnIdeal Cert.FfnIdeal.Gen Idealize.ShloMosaic Idealize.ShloMosaic.TcCoe Cert.FfnMath Idealize.SL.Sem
open Idealize.ShloMosaic.Pipeline (Dat)

variable (m : (ℓ : Loc nD τ sig) → Buf (Elt Ideal) ℓ) (c : Dev nD)

/-- The result as a function of the argument arrays. -/
def G : FVec Ideal S8x4096x1024 .f32 := fun i =>
  row (fun l => m ((c : Thread nD τ).loc main_arg0) (ix3 (i 0) (i 1) l)) (fun k => m ((c : Thread nD τ).loc main_arg1) (ix3 (i 0) (i 1) k))
    (fun k => m ((c : Thread nD τ).loc main_arg2) (ix3 (i 0) (i 1) k))
    (fun q l => m ((c : Thread nD τ).loc main_arg3) (ix2 (i 0) ⟨1024 * q.val + l.val, by omega⟩))
    (fun l => m ((c : Thread nD τ).loc main_arg4) (ix2 0 l)) (fun k l => m ((c : Thread nD τ).loc main_arg5) (ix3 0 k l))
    (fun k f => m ((c : Thread nD τ).loc main_arg6) (ix3 0 k f)) (fun k f => m ((c : Thread nD τ).loc main_arg7) (ix3 0 k f))
    (fun f l => m ((c : Thread nD τ).loc main_arg8) (ix3 0 f l)) (fun l => m ((c : Thread nD τ).loc main_arg9) (ix1 l)) (i 2)

/-- Where the windows' blocks lie at a grid point, decided over the grid. -/
theorem idx : ∀ t : Fin grid0.N,
    (win0_0.index t = ![(grid0.coords t 0).val, (grid0.coords t 1).val, 0] ∧ win0_1.index t = ![(grid0.coords t 0).val, (grid0.coords t 1).val, 0]
      ∧ win0_2.index t = ![(grid0.coords t 0).val, (grid0.coords t 1).val, 0] ∧ win0_3.index t = ![(grid0.coords t 0).val, 0, 0]
      ∧ win0_10.index t = ![(grid0.coords t 0).val, (grid0.coords t 1).val, 0])
    ∧ (win0_4.index t = ![0, 0] ∧ win0_5.index t = ![0, 0] ∧ win0_6.index t = ![0, 0] ∧ win0_7.index t = ![0, 0]
      ∧ win0_8.index t = ![0, 0] ∧ win0_9.index t = ![0, 0]) := by decide +kernel

variable (t : Fin cfg0.N)

/-- The array's row that row `r` of a block at point `t` is. -/
abbrev at1 (t : Fin cfg0.N) (r : Fin 512) : Fin 4096 :=
  ⟨512 * (grid0.coords t 1).val + r.val, by have : (grid0.coords t 1).val < 8 := (grid0.coords t 1).isLt; omega⟩

/-- The batch of point `t`. -/
abbrev at0 (t : Fin cfg0.N) : Fin 8 := grid0.coords t 0

theorem blk0 (r : Fin 512) (l : Fin 1024) :
    iblk m c 0 t (ix3 0 r l) = m ((c : Thread nD τ).loc main_arg0) (ix3 (at0 t) (at1 t r) l) := by
  blk_ext [iblk, V, idx t]
  rfl

theorem blk1 (r : Fin 512) (k : Fin 512) :
    iblk m c 1 t (ix3 0 r k) = m ((c : Thread nD τ).loc main_arg1) (ix3 (at0 t) (at1 t r) k) := by
  unfold iblk
  rw [View.read_apply, show ((cfg0.win 1).blk t).view.emb (ix3 0 r k) = ix3 (at0 t) (at1 t r) k from by blk_ext [idx t]; rfl]
  entry_read
  pointwise
  rfl

theorem blk2 (r : Fin 512) (k : Fin 512) :
    iblk m c 2 t (ix3 0 r k) = m ((c : Thread nD τ).loc main_arg2) (ix3 (at0 t) (at1 t r) k) := by
  unfold iblk
  rw [View.read_apply, show ((cfg0.win 2).blk t).view.emb (ix3 0 r k) = ix3 (at0 t) (at1 t r) k from by blk_ext [idx t]; rfl]
  entry_read
  pointwise
  rfl

theorem blk3 (q : Fin 6) (l : Fin 1024) :
    iblk m c 3 t (ix3 0 ⟨q.val, by omega⟩ l)
      = m ((c : Thread nD τ).loc main_arg3) (ix2 (at0 t) ⟨1024 * q.val + l.val, by omega⟩) := by
  unfold iblk
  rw [View.read_apply, show ((cfg0.win 3).blk t).view.emb (ix3 0 (⟨q.val, by omega⟩ : Fin 8) l) = ix3 (at0 t) ⟨q.val, by omega⟩ l from by blk_ext [idx t]; rfl]
  entry_read
  pointwise
  refine congrArg (m ((c : Thread nD τ).loc main_arg3)) ?_
  blk_ext

theorem blk5 (k : Fin 1024) (l : Fin 1024) :
    iblk m c 5 t (ix2 k l) = m ((c : Thread nD τ).loc main_arg5) (ix3 0 k l) := by
  unfold iblk
  rw [View.read_apply, show ((cfg0.win 5).blk t).view.emb (ix2 k l) = ix2 k l from by blk_ext [idx t]]
  entry_read
  pointwise
  rfl

theorem blk6 (k : Fin 1024) (l : Fin 2816) :
    iblk m c 6 t (ix2 k l) = m ((c : Thread nD τ).loc main_arg6) (ix3 0 k l) := by
  unfold iblk
  rw [View.read_apply, show ((cfg0.win 6).blk t).view.emb (ix2 k l) = ix2 k l from by blk_ext [idx t]]
  entry_read
  pointwise
  rfl

theorem blk7 (k : Fin 1024) (l : Fin 2816) :
    iblk m c 7 t (ix2 k l) = m ((c : Thread nD τ).loc main_arg7) (ix3 0 k l) := by
  unfold iblk
  rw [View.read_apply, show ((cfg0.win 7).blk t).view.emb (ix2 k l) = ix2 k l from by blk_ext [idx t]]
  entry_read
  pointwise
  rfl

theorem blk8 (k : Fin 2816) (l : Fin 1024) :
    iblk m c 8 t (ix2 k l) = m ((c : Thread nD τ).loc main_arg8) (ix3 0 k l) := by
  unfold iblk
  rw [View.read_apply, show ((cfg0.win 8).blk t).view.emb (ix2 k l) = ix2 k l from by blk_ext [idx t]]
  entry_read
  pointwise
  rfl

theorem blk4 (l : Fin 1024) :
    iblk m c 4 t (ix2 0 l) = m ((c : Thread nD τ).loc main_arg4) (ix2 0 l) := by
  unfold iblk
  rw [View.read_apply, show ((cfg0.win 4).blk t).view.emb (ix2 0 l) = ix2 0 l from by blk_ext [idx t]]
  entry_read
  pointwise
  rfl

theorem blk9 (l : Fin 1024) :
    iblk m c 9 t (ix2 0 l) = m ((c : Thread nD τ).loc main_arg9) (ix1 l) := by
  unfold iblk
  rw [View.read_apply, show ((cfg0.win 9).blk t).view.emb (ix2 0 l) = ix2 0 l from by blk_ext [idx t]]
  entry_read
  pointwise
  rfl

/-- The result array after the run is `G`: every grid point's block holds `G` there, and the blocks fill the array. -/
theorem final : (dats m 0 c).arrAt 10 cfg0.N = G m c := by
  refine (dats m 0 c).arrAt_eq_of_covers 10 _ (by decide +kernel) fun t hf y => ?_
  blk_simp
  rw [after0_10]
  idx_vars y
  obtain rfl : y0 = 0 := Subsingleton.elim _ _
  rw [show ((View.whole main_v16).slice (win0_10.rect t)).emb (ix3 0 y1 y2) = ix3 (at0 t) (at1 t y1) y2 from by blk_ext [idx t]; rfl]
  refine (Block.out_eq _ _ _ _ _ _ _ _ _ _ y1 y2).trans ?_
  simp only [blk0, blk1, blk2, blk3, blk4, blk5, blk6, blk7, blk8, blk9]
  rfl

end Cert.FfnIdeal.Result
-- ==== Proof.FfnRefRow.lean ====
/- The feed-forward reference's result, element by element: its composed term is `FfnMath.row` of the arguments' rows. -/
module

public import proofs.«01_k».proof.Proof.Gen.FfnRefIdeal.Run
public import proofs.«01_k».proof.Proof.FfnMath
public import Idealize.ShloMosaic.Lib.Pipeline.ValueKit

@[expose] public section

set_option maxRecDepth 16384

noncomputable section

namespace Cert.FfnRefIdeal.Row

open Cert.FfnRefIdeal Cert.FfnRefIdeal.Gen Idealize.ShloMosaic Idealize.ShloMosaic.TcCoe Cert.FfnMath

/-- The `i`-th modulation vector, spread over the sequence. -/
def modR (off : Fin 3 → Nat) (h : S8x1x6144.Slices off S8x1x1024) (a3 : FVec Ideal S8x6144 .f32) : FVec Ideal S8x1x1024 .f32 :=
  extractStridedSlice S8x1x1024 off (broadcastInDim S8x1x6144 ![0, 2] bcast_S8x6144_S8x1x6144_0_2 a3) h

/-- A vector per batch spread over the sequence. -/
def spread (g : FVec Ideal S8x1x1024 .f32) : FVec Ideal S8x4096x1024 .f32 :=
  broadcastInDim S8x4096x1024 ![0, 1, 2] bcast_S8x1x1024_S8x4096x1024_0_1_2 g

/-- The residual after the output projection. -/
def midR (a0 : FVec Ideal S8x4096x1024 .f32) (a1 a2 : FVec Ideal S8x4096x512 .f32) (a5 : FVec Ideal S1x1024x1024 .f32)
    (g : FVec Ideal S8x1x1024 .f32) : FVec Ideal S8x4096x1024 .f32 :=
  addf a0 (mulf (spread g) (Host.dotGeneral dot_S8x4096x1024_S1024x1024_S8x4096x1024_2_0_01_1_n_n none
    (concatenate S8x4096x1024 2 [⟨S8x4096x512, a1⟩, ⟨S8x4096x512, a2⟩] concatenates_S8x4096x512_S8x4096x512_S8x4096x1024_d2)
    (shapeCast S1024x1024 a5 shapeCasts_S1x1024x1024_S1024x1024)))

/-- Every row divided by the root of its mean square. -/
def unitR (v : FVec Ideal S8x4096x1024 .f32) : FVec Ideal S8x4096x1024 .f32 :=
  mulf v (broadcastInDim S8x4096x1024 ![0, 1, 2] bcast_S8x4096x1_S8x4096x1024_0_1_2 (Host.rsqrt (addf
    (Host.divf (broadcastInDim S8x4096x1 ![0, 1] bcast_S8x4096_S8x4096x1_0_1
        (Host.reduceAdd (mulf v v) (constant S_ .f32 0x00000000#32) reducesTo_S8x4096x1024_S8x4096_d2 h_S_))
      (broadcastInDim S8x4096x1 ![] bcast_S_S8x4096x1 (constant S_ .f32 0x44800000#32)))
    (broadcastInDim S8x4096x1 ![] bcast_S_S8x4096x1 (constant S_ .f32 0x358637BD#32)))))

/-- A gain spread over batch and sequence. -/
def gainR (g : FVec Ideal S1024 .f32) : FVec Ideal S8x4096x1024 .f32 :=
  broadcastInDim S8x4096x1024 ![0, 1, 2] bcast_S1x1x1024_S8x4096x1024_0_1_2 (broadcastInDim S1x1x1024 ![2] bcast_S1024_S1x1x1024_2 g)

/-- The normalised and modulated array. -/
def hidR (v : FVec Ideal S8x4096x1024 .f32) (a4 : FVec Ideal S1x1024 .f32) (sc sh : FVec Ideal S8x1x1024 .f32) : FVec Ideal S8x4096x1024 .f32 :=
  addf (mulf (mulf (unitR v) (gainR (shapeCast S1024 a4 shapeCasts_S1x1024_S1024)))
    (spread (addf (broadcastInDim S8x1x1024 ![] bcast_S_S8x1x1024 (constant S_ .f32 0x3F800000#32)) sc))) (spread sh)

/-- The gated activations. -/
def actR (h : FVec Ideal S8x4096x1024 .f32) (a6 a7 : FVec Ideal S1x1024x2816 .f32) : FVec Ideal S8x4096x2816 .f32 :=
  let g := Host.dotGeneral dot_S8x4096x1024_S1024x2816_S8x4096x2816_2_0_01_1_n_n none h (shapeCast S1024x2816 a6 shapeCasts_S1x1024x2816_S1024x2816)
  mulf (mulf g (Host.divf (broadcastInDim S8x4096x2816 ![] bcast_S_S8x4096x2816 (constant S_ .f32 0x3F800000#32))
      (addf (broadcastInDim S8x4096x2816 ![] bcast_S_S8x4096x2816 (constant S_ .f32 0x3F800000#32)) (Host.exp (Host.negf g)))))
    (Host.dotGeneral dot_S8x4096x1024_S1024x2816_S8x4096x2816_2_0_01_1_n_n none h (shapeCast S1024x2816 a7 shapeCasts_S1x1024x2816_S1024x2816))

/-- The residual after the feed-forward part. -/
def lateR (v : FVec Ideal S8x4096x1024 .f32) (g : FVec Ideal S8x1x1024 .f32) (a : FVec Ideal S8x4096x2816 .f32) (a8 : FVec Ideal S1x2816x1024 .f32) :
    FVec Ideal S8x4096x1024 .f32 :=
  addf v (mulf (spread g) (Host.dotGeneral dot_S8x4096x2816_S2816x1024_S8x4096x1024_2_0_01_1_n_n none a
    (shapeCast S2816x1024 a8 shapeCasts_S1x2816x1024_S2816x1024)))

/-- The whole result, stage by stage. -/
def outR (a0 : FVec Ideal S8x4096x1024 .f32) (a1 a2 : FVec Ideal S8x4096x512 .f32) (a3 : FVec Ideal S8x6144 .f32) (a4 : FVec Ideal S1x1024 .f32)
    (a5 : FVec Ideal S1x1024x1024 .f32) (a6 a7 : FVec Ideal S1x1024x2816 .f32) (a8 : FVec Ideal S1x2816x1024 .f32) (a9 : FVec Ideal S1024 .f32) :
    FVec Ideal S8x4096x1024 .f32 :=
  let v := midR a0 a1 a2 a5 (modR _ slices_S8x1x6144_S8x1x1024_0_0_2048 a3)
  let h := hidR v a4 (modR _ slices_S8x1x6144_S8x1x1024_0_0_4096 a3) (modR _ slices_S8x1x6144_S8x1x1024_0_0_3072 a3)
  mulf (unitR (lateR v (modR _ slices_S8x1x6144_S8x1x1024_0_0_5120 a3) (actR h a6 a7) a8)) (gainR a9)

set_option maxHeartbeats 4000000 in
/-- The reference's composed term is the stages' composition. -/
theorem res_eq (m : (ℓ : Loc nD τ sig) → Buf (Elt Ideal) ℓ) (c : Dev nD) :
    Cert.FfnRefIdeal.Value.res_out0 m c
      = outR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  unfold Cert.FfnRefIdeal.Value.res_out0 Cert.FfnRefIdeal.Value.res_main_v56
  rfl

theorem midR_apply (a0 : FVec Ideal S8x4096x1024 .f32) (a1 a2 : FVec Ideal S8x4096x512 .f32) (a5 : FVec Ideal S1x1024x1024 .f32)
    (g : FVec Ideal S8x1x1024 .f32) (b : Fin 8) (r : Fin 4096) (l : Fin 1024) :
    midR a0 a1 a2 a5 g (ix3 b r l)
      = mid (fun l => a0 (ix3 b r l)) (fun l => g (ix3 b 0 l)) (fun k => a1 (ix3 b r k)) (fun k => a2 (ix3 b r k))
          (fun k l => a5 (ix3 0 k l)) l := by
  pointwise [midR, spread, mid]

theorem unitR_apply (v : FVec Ideal S8x4096x1024 .f32) (b : Fin 8) (r : Fin 4096) (l : Fin 1024) :
    unitR v (ix3 b r l) = unit (fun l => v (ix3 b r l)) l := by
  pointwise [unitR, unit]

theorem hidR_apply (v : FVec Ideal S8x4096x1024 .f32) (a4 : FVec Ideal S1x1024 .f32) (sc sh : FVec Ideal S8x1x1024 .f32)
    (b : Fin 8) (r : Fin 4096) (l : Fin 1024) :
    hidR v a4 sc sh (ix3 b r l)
      = hid (fun l => v (ix3 b r l)) (fun l => a4 (ix2 0 l)) (fun l => sc (ix3 b 0 l)) (fun l => sh (ix3 b 0 l)) l := by
  pointwise [hidR, hid, spread, gainR]
  rw [unitR_apply, mul_assoc]

theorem actR_apply (h : FVec Ideal S8x4096x1024 .f32) (a6 a7 : FVec Ideal S1x1024x2816 .f32) (b : Fin 8) (r : Fin 4096) (f : Fin 2816) :
    actR h a6 a7 (ix3 b r f) = act (fun l => h (ix3 b r l)) (fun k f => a6 (ix3 0 k f)) (fun k f => a7 (ix3 0 k f)) f := by
  pointwise [actR, act]
  rfl

theorem lateR_apply (v : FVec Ideal S8x4096x1024 .f32) (g : FVec Ideal S8x1x1024 .f32) (a : FVec Ideal S8x4096x2816 .f32) (a8 : FVec Ideal S1x2816x1024 .f32)
    (b : Fin 8) (r : Fin 4096) (l : Fin 1024) :
    lateR v g a a8 (ix3 b r l)
      = late (fun l => v (ix3 b r l)) (fun l => g (ix3 b 0 l)) (fun f => a (ix3 b r f)) (fun f l => a8 (ix3 0 f l)) l := by
  pointwise [lateR, late, spread]

theorem outR_apply (a0 : FVec Ideal S8x4096x1024 .f32) (a1 a2 : FVec Ideal S8x4096x512 .f32) (a3 : FVec Ideal S8x6144 .f32) (a4 : FVec Ideal S1x1024 .f32)
    (a5 : FVec Ideal S1x1024x1024 .f32) (a6 a7 : FVec Ideal S1x1024x2816 .f32) (a8 : FVec Ideal S1x2816x1024 .f32) (a9 : FVec Ideal S1024 .f32)
    (b : Fin 8) (r : Fin 4096) (l : Fin 1024) :
    outR a0 a1 a2 a3 a4 a5 a6 a7 a8 a9 (ix3 b r l)
      = row (fun l => a0 (ix3 b r l)) (fun k => a1 (ix3 b r k)) (fun k => a2 (ix3 b r k))
          (fun i l => a3 (ix2 b ⟨1024 * i.val + l.val, by omega⟩)) (fun l => a4 (ix2 0 l)) (fun k l => a5 (ix3 0 k l))
          (fun k f => a6 (ix3 0 k f)) (fun k f => a7 (ix3 0 k f)) (fun f l => a8 (ix3 0 f l)) (fun l => a9 (ix1 l)) l := by
  unfold outR
  pointwise [gainR]
  simp only [unitR_apply, lateR_apply, actR_apply, hidR_apply, midR_apply]
  pointwise [modR]
  rfl

end Cert.FfnRefIdeal.Row
-- ==== Proof.FfnClaim.lean ====
/- The claims about the output projection and feed-forward call: the three frames, and that kernel and reference return
   the same array over the ideal floats. -/
module

public import proofs.«01_k».proof.Defs
public import proofs.«01_k».proof.Proof.FfnValue
public import proofs.«01_k».proof.Proof.FfnRefRow
public import proofs.«01_k».proof.Proof.Gen.Ffn.Frame
public import Idealize.ShloMosaic.Lib.Claim

@[expose] public section

set_option maxRecDepth 16384

noncomputable section

namespace Cert.FfnClaim

open Idealize.ShloMosaic Idealize.SL.Sem Idealize.ShloMosaic.Tactic

/-- The kernel over the machine's floats runs, leaves its arguments unchanged and its counters at zero. -/
theorem frame_kernel : Cert.quiescent_Ffn (hFfn := Cert.Ffn.Gen.facts) :=
  fun m ρ _ => Cert.Ffn.Gen.frame m ρ

/-- The kernel over the ideal floats runs, leaves its arguments unchanged and its counters at zero. -/
theorem frame_kernel_ideal : Cert.quiescent_FfnIdeal (hFfnIdeal := Cert.FfnIdeal.Gen.facts) :=
  fun m ρ _ => Cert.FfnIdeal.Gen.frame m ρ

/-- The reference over the ideal floats runs, leaves its arguments unchanged and its counters at zero. -/
theorem frame_ref : Cert.quiescent_FfnRefIdeal (hFfnRefIdeal := Cert.FfnRefIdeal.Gen.facts) := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- Kernel and reference, started on the same arguments, return the same array over the ideal floats. -/
theorem value : Cert.algebraic_FfnIdeal_FfnRefIdeal (hFfnIdeal := Cert.FfnIdeal.Gen.facts)
    (hFfnRefIdeal := Cert.FfnRefIdeal.Gen.facts) := by
  intro m g m' g' _ hagree
  refine ⟨fun c => Cert.FfnIdeal.Result.G m c, ?_, ?_⟩
  · run_from (Cert.FfnIdeal.Gen.run_main (F := Ideal) m g)
    exact Cert.FfnIdeal.Result.final m c
  · refine (θ_run Cert.FfnRefIdeal.defs _ _).mono (fun r h c => ⟨(h c).1.trans ?_, (h c).2⟩)
      (Cert.FfnRefIdeal.Value.run (F := Ideal) m' g')
    refine (Cert.FfnRefIdeal.Row.res_eq m' c).trans ?_
    obtain ⟨h0, h1, h2, h3, h4, h5, h6, h7, h8, h9⟩ := hagree c
    rw [h0, h1, h2, h3, h4, h5, h6, h7, h8, h9]
    funext y
    idx_vars y
    exact Cert.FfnRefIdeal.Row.outR_apply _ _ _ _ _ _ _ _ _ _ y0 y1 y2

end Cert.FfnClaim

end
-- ==== Proof.ProjIdealRun.lean ====
/- The run of the body of the input projections' kernel, with a larger budget than the generated text has. -/
module

public import proofs.«01_k».proof.Proof.Gen.ProjIdeal.Frame.Runs

@[expose] public section

-- membership in a rectangle of production extents (`View.cover_of_tiled`): the elaborator's structural look
-- recurses once per coordinate of the long axes
set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) :
    Σ' (L14 : List (View.Piece (Elt F) S1x4x192x1024 .bf16)), Σ' (L15 : List (View.Piece (Elt F) S1x4x1024x192 .bf16)), Σ' (L16 : List (View.Piece (Elt F) S1x4x128x1024 .bf16)), Σ' (L17 : List (View.Piece (Elt F) S1x4x1024x128 .bf16)), Σ' (L18 : List (View.Piece (Elt F) S1x4x1024x128 .bf16)), Σ' (L19 : List (View.Piece (Elt F) S1x4x1024x128 .bf16)), Σ' (L20 : List (View.Piece (Elt F) S1x4x1024x128 .bf16)), Σ' (L21 : List (View.Piece (Elt F) S1x4x1024x128 .f32)), Σ' (L22 : List (View.Piece (Elt F) S1x4x1024x128 .bf16)), { L23 : List (View.Piece (Elt F) S1x4x1024x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.ProjIdeal.Gen

end
-- ==== Proof.ProjIdealFrame.lean ====
/- The frame of the input projections' call, off the run of its body: what each output holds per grid point, the
   obligation of the body, the run of the program and that it leaves its arguments unchanged. -/
module

public import proofs.«01_k».proof.Proof.ProjIdealRun
public import Idealize.ShloMosaic.Lib.Claim

@[expose] public section

-- membership in a rectangle of production extents (`View.cover_of_tiled`): the elaborator's structural look
-- recurses once per coordinate of the long axes
set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 14 are of SEVERAL sizes (8 stores of `S1x1x128x1024`, `S1x1x64x1024`): cut into blocks of `![1, 1, 64, 1024]` they tile its block (checked by the kernel's evaluation: Lib/Ring.lean `Piece.tiledBy`), so they cover it. -/
theorem cover0_A_14 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) (y : S1x4x192x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).1 ![1, 1, 64, 1024] (by sl_kernel_rfl) y

/-- What the run leaves in output 14's staging buffer: its pieces read back over junk. -/
def out0_A_14 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) : Vec F S1x4x192x1024 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).1)

/-- The run's pieces for output 15 are of SEVERAL sizes (8 stores of `S1x1x1024x128`, `S1x1x1024x64`): cut into blocks of `![1, 1, 1024, 64]` they tile its block (checked by the kernel's evaluation: Lib/Ring.lean `Piece.tiledBy`), so they cover it. -/
theorem cover0_A_15 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) (y : S1x4x1024x192.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.1 ![1, 1, 1024, 64] (by sl_kernel_rfl) y

/-- What the run leaves in output 15's staging buffer: its pieces read back over junk. -/
def out0_A_15 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) : Vec F S1x4x1024x192 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.1)

/-- The run's pieces for output 16 tile its block (4 stores of `S1x1x128x1024`, checked by the kernel's evaluation: Lib/Ring.lean `Piece.tiledL`, linear in the pieces, through a loop's `@[irreducible]` trip theorem too), so they cover it. -/
theorem cover0_A_16 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) (y : S1x4x128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.1 S1x1x128x1024.size (by sl_kernel_rfl) y

/-- What the run leaves in output 16's staging buffer: its pieces read back over junk. -/
def out0_A_16 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) : Vec F S1x4x128x1024 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.1)

/-- The run's pieces for output 17 tile its block (4 stores of `S1x1x1024x128`, checked by the kernel's evaluation: Lib/Ring.lean `Piece.tiledL`, linear in the pieces, through a loop's `@[irreducible]` trip theorem too), so they cover it. -/
theorem cover0_A_17 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) (y : S1x4x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.1 S1x1x1024x128.size (by sl_kernel_rfl) y

/-- What the run leaves in output 17's staging buffer: its pieces read back over junk. -/
def out0_A_17 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) : Vec F S1x4x1024x128 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.1)

/-- The run's pieces for output 18 tile its block (4 stores of `S1x1x1024x128`, checked by the kernel's evaluation: Lib/Ring.lean `Piece.tiledL`, linear in the pieces, through a loop's `@[irreducible]` trip theorem too), so they cover it. -/
theorem cover0_A_18 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) (y : S1x4x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.1 S1x1x1024x128.size (by sl_kernel_rfl) y

/-- What the run leaves in output 18's staging buffer: its pieces read back over junk. -/
def out0_A_18 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) : Vec F S1x4x1024x128 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.1)

/-- The run's pieces for output 19 tile its block (4 stores of `S1x1x1024x128`, checked by the kernel's evaluation: Lib/Ring.lean `Piece.tiledL`, linear in the pieces, through a loop's `@[irreducible]` trip theorem too), so they cover it. -/
theorem cover0_A_19 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) (y : S1x4x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.1 S1x1x1024x128.size (by sl_kernel_rfl) y

/-- What the run leaves in output 19's staging buffer: its pieces read back over junk. -/
def out0_A_19 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) : Vec F S1x4x1024x128 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.1)

/-- The run's pieces for output 20 tile its block (4 stores of `S1x1x1024x128`, checked by the kernel's evaluation: Lib/Ring.lean `Piece.tiledL`, linear in the pieces, through a loop's `@[irreducible]` trip theorem too), so they cover it. -/
theorem cover0_A_20 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) (y : S1x4x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.1 S1x1x1024x128.size (by sl_kernel_rfl) y

/-- What the run leaves in output 20's staging buffer: its pieces read back over junk. -/
def out0_A_20 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) : Vec F S1x4x1024x128 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.1)

/-- The run's pieces for output 21 tile its block (4 stores of `S1x1x1024x128`, checked by the kernel's evaluation: Lib/Ring.lean `Piece.tiledL`, linear in the pieces, through a loop's `@[irreducible]` trip theorem too), so they cover it. -/
theorem cover0_A_21 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) (y : S1x4x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.2.1 S1x1x1024x128.size (by sl_kernel_rfl) y

/-- What the run leaves in output 21's staging buffer: its pieces read back over junk. -/
def out0_A_21 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) : Vec F S1x4x1024x128 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.2.1)

/-- The run's pieces for output 22 tile its block (4 stores of `S1x1x1024x128`, checked by the kernel's evaluation: Lib/Ring.lean `Piece.tiledL`, linear in the pieces, through a loop's `@[irreducible]` trip theorem too), so they cover it. -/
theorem cover0_A_22 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) (y : S1x4x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.2.2.1 S1x1x1024x128.size (by sl_kernel_rfl) y

/-- What the run leaves in output 22's staging buffer: its pieces read back over junk. -/
def out0_A_22 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) : Vec F S1x4x1024x128 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.2.2.1)

/-- The run's pieces for output 23 tile its block (4 stores of `S1x1x1024x128`, checked by the kernel's evaluation: Lib/Ring.lean `Piece.tiledL`, linear in the pieces, through a loop's `@[irreducible]` trip theorem too), so they cover it. -/
theorem cover0_A_23 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) (y : S1x4x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.2.2.2.1 S1x1x1024x128.size (by sl_kernel_rfl) y

/-- What the run leaves in output 23's staging buffer: its pieces read back over junk. -/
def out0_A_23 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x2560 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1024x64 .f32) (harg12 : arg12.IsWhole) (arg13 : Memref sig .tc .vmem S1024x64 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S1x4x192x1024 .bf16) (harg16 : arg16.IsWhole) (arg17 : Memref sig .tc .vmem S1x4x1024x192 .bf16) (harg17 : arg17.IsWhole) (arg18 : Memref sig .tc .vmem S1x4x128x1024 .bf16) (harg18 : arg18.IsWhole) (arg19 : Memref sig .tc .vmem S1x4x1024x128 .bf16) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1x4x1024x128 .f32) (harg23 : arg23.IsWhole) (arg24 : Memref sig .tc .vmem S1x4x1024x128 .bf16) (harg24 : arg24.IsWhole) (arg25 : Memref sig .tc .vmem S1x4x1024x128 .f32) (harg25 : arg25.IsWhole)
    (x0 : Vec F S1x1024x1024 .f32) (x1 : Vec F S1x8x1024 .f32) (x2 : Vec F S1x1024 .f32) (x3 : Vec F S1024x512 .bf16) (x4 : Vec F S1024x2560 .bf16) (x5 : Vec F S1024x128 .bf16) (x6 : Vec F S1x256 .f32) (x7 : Vec F S256x1024 .bf16) (x8 : Vec F S1x256 .f32) (x9 : Vec F S256x1024 .bf16) (x10 : Vec F S1024x64 .f32) (x11 : Vec F S1024x64 .f32) (x12 : Vec F S2x512 .f32) (x13 : Vec F S2x512 .f32) : Vec F S1x4x1024x128 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13).2.2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x4x192x1024 .bf16 × Vec F S1x4x1024x192 .bf16 × Vec F S1x4x128x1024 .bf16 × Vec F S1x4x1024x128 .bf16 × Vec F S1x4x1024x128 .bf16 × Vec F S1x4x1024x128 .bf16 × Vec F S1x4x1024x128 .bf16 × Vec F S1x4x1024x128 .f32 × Vec F S1x4x1024x128 .bf16 × Vec F S1x4x1024x128 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2.1
    | ⟨19, _⟩ => (outsAt0 m c t).2.2.2.2.2.1
    | ⟨20, _⟩ => (outsAt0 m c t).2.2.2.2.2.2.1
    | ⟨21, _⟩ => (outsAt0 m c t).2.2.2.2.2.2.2.1
    | ⟨22, _⟩ => (outsAt0 m c t).2.2.2.2.2.2.2.2.1
    | ⟨23, _⟩ => (outsAt0 m c t).2.2.2.2.2.2.2.2.2
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2.1 := by dsimp only [dats]
theorem after0_19 (c : Dev nD) (t : Fin cfg0.N) : (dats m 0 c).after 19 t = (outsAt0 m c t).2.2.2.2.2.1 := by dsimp only [dats]
theorem after0_20 (c : Dev nD) (t : Fin cfg0.N) : (dats m 0 c).after 20 t = (outsAt0 m c t).2.2.2.2.2.2.1 := by dsimp only [dats]
theorem after0_21 (c : Dev nD) (t : Fin cfg0.N) : (dats m 0 c).after 21 t = (outsAt0 m c t).2.2.2.2.2.2.2.1 := by dsimp only [dats]
theorem after0_22 (c : Dev nD) (t : Fin cfg0.N) : (dats m 0 c).after 22 t = (outsAt0 m c t).2.2.2.2.2.2.2.2.1 := by dsimp only [dats]
theorem after0_23 (c : Dev nD) (t : Fin cfg0.N) : (dats m 0 c).after 23 t = (outsAt0 m c t).2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  unfold outsAt0
  unfold out0_A_14 out0_A_15 out0_A_16 out0_A_17 out0_A_18 out0_A_19 out0_A_20 out0_A_21 out0_A_22 out0_A_23; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_ProjIdeal`'s statement (Defs.lean) at any `F` — Proof.lean cites it at `Bits`:
    `theorem Cert.Proof.claim : Cert.Claim := ⟨Cert.ProjIdeal.Gen.facts, fun m ρ _ => Cert.ProjIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.ProjIdeal.Gen

end
-- ==== Proof.ProjMath.lean ====
/- The input projections' mathematics, one row at a time, over the extended reals: the normalised and modulated row, its
   products with the columns of the input weights, the two normalised latent vectors with the products that follow them, the
   rotary turn of the positional part, and the forget gate. Both the kernel's blocks and the reference's arrays are shown
   to hold these. -/
module

public import Idealize.ShloMosaic.Lib.Pointwise
public import proofs.«01_k».proof.Proof.FfnMath

@[expose] public section

noncomputable section

namespace Cert.ProjMath

open Idealize.ShloMosaic

/-- The row's product with column `j` of the input weights. -/
def col {n : Nat} (h : Fin 1024 → EReal) (W : Fin 1024 → Fin n → EReal) (j : Fin n) : EReal := ∑ k, h k * W k j

/-- A latent vector divided by the root of its mean square. -/
def unit (v : Fin 256 → EReal) (l : Fin 256) : EReal :=
  v l * Ideal.rsqrt (Ideal.div (∑ k, v k * v k) (Ideal.ofBits .f32 0x43800000#32) + Ideal.ofBits .f32 0x358637BD#32)

/-- The normalised latent vector with its gain, through the second product. -/
def lat {n : Nat} (v gain : Fin 256 → EReal) (W : Fin 256 → Fin n → EReal) (j : Fin n) : EReal :=
  ∑ k, unit v k * gain k * W k j

/-- The rotary turn of the 64 positional components: two axes of 32, each turned as pairs 16 apart. -/
def rope (v : Fin 64 → EReal) (c s : Fin 32 → EReal) (e : Fin 64) : EReal :=
  if h : e.val < 16 then v e * c ⟨e.val, by omega⟩ - v ⟨e.val + 16, by omega⟩ * s ⟨e.val, by omega⟩
  else if h : e.val < 32 then v e * c ⟨e.val - 16, by omega⟩ + v ⟨e.val - 16, by omega⟩ * s ⟨e.val - 16, by omega⟩
  else if h : e.val < 48 then v e * c ⟨e.val - 16, by omega⟩ - v ⟨e.val + 16, by omega⟩ * s ⟨e.val - 16, by omega⟩
  else v e * c ⟨e.val - 32, by omega⟩ + v ⟨e.val - 16, by omega⟩ * s ⟨e.val - 32, by omega⟩

/-- The turn, with its cases nested by axis. -/
theorem rope_nest (v : Fin 64 → EReal) (c s : Fin 32 → EReal) (e : Fin 64) :
    (if h1 : e.val < 32 then
      if h2 : e.val < 16 then v e * c ⟨e.val, by omega⟩ - v ⟨16 + e.val, by omega⟩ * s ⟨e.val, by omega⟩
      else v ⟨16 + (e.val - 16), by omega⟩ * c ⟨e.val - 16, by omega⟩ + v ⟨e.val - 16, by omega⟩ * s ⟨e.val - 16, by omega⟩
    else
      if h2 : e.val - 32 < 16 then
        v ⟨32 + (e.val - 32), by omega⟩ * c ⟨16 + (e.val - 32), by omega⟩
          - v ⟨32 + (16 + (e.val - 32)), by omega⟩ * s ⟨16 + (e.val - 32), by omega⟩
      else v ⟨32 + (16 + (e.val - 32 - 16)), by omega⟩ * c ⟨16 + (e.val - 32 - 16), by omega⟩
          + v ⟨32 + (e.val - 32 - 16), by omega⟩ * s ⟨16 + (e.val - 32 - 16), by omega⟩) = rope v c s e := by
  have he := e.isLt
  have hv : ∀ (n : Nat) (h : n < 64) (n' : Nat) (h' : n' < 64), n = n' → v ⟨n, h⟩ = v ⟨n', h'⟩ := by
    rintro n h n' h' rfl; rfl
  have hc : ∀ (f : Fin 32 → EReal) (n : Nat) (h : n < 32) (n' : Nat) (h' : n' < 32), n = n' → f ⟨n, h⟩ = f ⟨n', h'⟩ := by
    rintro f n h n' h' rfl; rfl
  have hve : v e = v ⟨e.val, e.isLt⟩ := rfl
  unfold rope
  rw [hve]
  split_ifs <;> first
    | omega
    | exact congrArg₂ (· - ·) (congrArg₂ (· * ·) (hv _ _ _ _ (by omega)) (hc c _ _ _ _ (by omega)))
        (congrArg₂ (· * ·) (hv _ _ _ _ (by omega)) (hc s _ _ _ _ (by omega)))
    | exact congrArg₂ (· + ·) (congrArg₂ (· * ·) (hv _ _ _ _ (by omega)) (hc c _ _ _ _ (by omega)))
        (congrArg₂ (· * ·) (hv _ _ _ _ (by omega)) (hc s _ _ _ _ (by omega)))

/-- The positional component that component `e` is paired with by the turn. -/
def turn (e : Fin 64) : Fin 64 := ⟨if e.val % 32 < 16 then e.val + 16 else e.val - 16, by split <;> omega⟩

/-- The angle that component `e` is turned by. -/
def ang (e : Fin 64) : Fin 32 := ⟨e.val / 32 * 16 + e.val % 16, by omega⟩

/-- The sine of the turn, with the sign of the component's place in its pair. -/
def sgn (s : Fin 32 → EReal) (e : Fin 64) : EReal := if e.val % 32 < 16 then -s (ang e) else s (ang e)

/-- The turn as one product with the cosines and one of the paired components with the signed sines. -/
theorem rope_turn (v : Fin 64 → EReal) (c s : Fin 32 → EReal) (e : Fin 64) :
    v e * c (ang e) + v (turn e) * sgn s e = rope v c s e := by
  have he := e.isLt
  have hv : ∀ (n : Nat) (h : n < 64), (turn e).val = n → v (turn e) = v ⟨n, h⟩ := by
    rintro n h rfl; rfl
  have hf : ∀ (f : Fin 32 → EReal) (n : Nat) (h : n < 32), (ang e).val = n → f (ang e) = f ⟨n, h⟩ := by
    rintro f n h rfl; rfl
  unfold rope sgn
  split_ifs <;> first
    | omega
    | (rw [mul_neg, ← sub_eq_add_neg]
       exact congrArg₂ (· - ·) (congrArg (v e * ·) (hf c _ _ (by dsimp only [ang]; omega)))
         (congrArg₂ (· * ·) (hv _ _ (by dsimp only [turn]; split_ifs <;> omega)) (hf s _ _ (by dsimp only [ang]; omega))))
    | exact congrArg₂ (· + ·) (congrArg (v e * ·) (hf c _ _ (by dsimp only [ang]; omega)))
        (congrArg₂ (· * ·) (hv _ _ (by dsimp only [turn]; split_ifs <;> omega)) (hf s _ _ (by dsimp only [ang]; omega)))

/-- The greatest of two, from any start. -/
theorem fold_two (a : EReal) (f : Fin 2 → EReal) : Finset.fold max a f Finset.univ = max (f 0) (max (f 1) a) := by
  rw [show (Finset.univ : Finset (Fin 2)) = {0, 1} from rfl, Finset.fold_insert (by decide), Finset.fold_singleton]

/-- The start of a greatest. -/
theorem bot_eq : Ideal.ofBits .f32 4286578688#32 = (⊥ : EReal) := by simp [Ideal.ofBits, Ideal.ieee]

/-- A lower bound of the forget gate: the first of the softmax of two numbers. -/
def low (a b : EReal) : EReal :=
  Ideal.div (Ideal.exp (a - max a b)) (Ideal.exp (a - max a b) + Ideal.exp (b - max a b))

/-- One minus the forget gate. -/
def gate (lb g : EReal) : EReal :=
  Ideal.ofBits .f32 0x3F800000#32 - (lb + (Ideal.ofBits .f32 0x3F800000#32 - lb) * Ideal.logistic g)

/-- One row's products with all columns of the input weights: from the row of the residual, the gain, the batch's
    modulation vectors and the weights. -/
def cols (x g : Fin 1024 → EReal) (mod : Fin 6144 → EReal) (W : Fin 1024 → Fin 3136 → EReal) : Fin 3136 → EReal :=
  col (FfnMath.hid x g (fun l => mod ⟨1024 + l.val, by omega⟩) (fun l => mod ⟨l.val, by omega⟩)) W

/-- A row's query of head `h`, from the row's columns. -/
def query (w : Fin 3136 → EReal) (g : Fin 256 → EReal) (U : Fin 256 → Fin 768 → EReal) (c s : Fin 32 → EReal) (h : Fin 4) (d : Fin 192) : EReal :=
  if hd : d.val < 128 then lat (fun l => w ⟨l.val, by omega⟩) g U ⟨h.val * 192 + d.val, by omega⟩
  else rope (fun e => lat (fun l => w ⟨l.val, by omega⟩) g U ⟨h.val * 192 + (128 + e.val), by omega⟩) c s ⟨d.val - 128, by omega⟩

/-- A row's key of head `h`. -/
def key (w : Fin 3136 → EReal) (g : Fin 256 → EReal) (U : Fin 256 → Fin 1024 → EReal) (c s : Fin 32 → EReal) (h : Fin 4) (d : Fin 192) : EReal :=
  if hd : d.val < 128 then lat (fun l => w ⟨256 + l.val, by omega⟩) g U ⟨h.val * 256 + d.val, by omega⟩
  else rope (fun e => w ⟨512 + e.val, by omega⟩) c s ⟨d.val - 128, by omega⟩

/-- A row's value of head `h`. -/
def value (w : Fin 3136 → EReal) (g : Fin 256 → EReal) (U : Fin 256 → Fin 1024 → EReal) (h : Fin 4) (d : Fin 128) : EReal :=
  lat (fun l => w ⟨256 + l.val, by omega⟩) g U ⟨h.val * 256 + (128 + d.val), by omega⟩

end Cert.ProjMath

end
-- ==== Proof.ProjArr.lean ====
/- The weights and the rotary tables that the host code lays out for the input projections' kernel, as terms of the program's
   arguments, read element by element. -/
module

public import proofs.«01_k».proof.Proof.Gen.ProjIdeal.Frame.Runs
public import proofs.«01_k».proof.Proof.ProjMath
public import Idealize.ShloMosaic.Lib.Pipeline.ValueKit
public import Idealize.ShloMosaic.Lib.Pipeline.Value

@[expose] public section

set_option maxRecDepth 16384

noncomputable section

namespace Cert.ProjIdeal.Result

open Cert.ProjIdeal Cert.ProjIdeal.Gen Idealize.ShloMosaic Idealize.ShloMosaic.TcCoe Cert.ProjMath Idealize.SL.Sem

/-- The rotary columns of the input weights, then the same columns in the order of the turn. -/
def keyW (W : Vec Ideal S1x1024x3136 .f32) : Vec Ideal S1024x128 .bf16 :=
  let a : FVec Ideal S1024x64 .f32 := extractStridedSlice S1024x64 ![0, 512] (shapeCast S1024x3136 W shapeCasts_S1x1024x3136_S1024x3136) slices_S1024x3136_S1024x64_0_512
  truncf (φ := .f32) .bf16 (concatenate S1024x128 1 [⟨S1024x64, a⟩, ⟨S1024x16, extractStridedSlice S1024x16 ![0, 16] a slices_S1024x64_S1024x16_0_16⟩,
    ⟨S1024x16, extractStridedSlice S1024x16 ![0, 0] a slices_S1024x64_S1024x16_0_0⟩, ⟨S1024x16, extractStridedSlice S1024x16 ![0, 48] a slices_S1024x64_S1024x16_0_48⟩,
    ⟨S1024x16, extractStridedSlice S1024x16 ![0, 32] a slices_S1024x64_S1024x16_0_32⟩] concatenates_S1024x64_S1024x16_S1024x16_S1024x16_S1024x16_S1024x128_d1) bitsLt_bf16_f32

theorem keyW_left (W : Vec Ideal S1x1024x3136 .f32) (k : Fin 1024) (e : Fin 64) :
    keyW W (ix2 k ⟨e.val, by omega⟩) = W (ix3 0 k ⟨512 + e.val, by omega⟩) := by
  unfold keyW
  pointwise

theorem keyW_right (W : Vec Ideal S1x1024x3136 .f32) (k : Fin 1024) (e : Fin 64) :
    keyW W (ix2 k ⟨64 + e.val, by omega⟩) = W (ix3 0 k ⟨512 + (turn e).val, by omega⟩) := by
  have he := e.isLt
  have hW : ∀ (n : Nat) (h : n < 3136), n = 512 + (turn e).val → W (ix3 0 k ⟨n, h⟩) = W (ix3 0 k ⟨512 + (turn e).val, by omega⟩) := by
    rintro n h rfl; rfl
  unfold keyW
  pointwise
  split_ifs <;> first
    | omega
    | exact hW _ _ (by dsimp only [turn]; split_ifs <;> omega)

/-- The cosines of the 64 positional components. -/
def cosT (C : Vec Ideal S4096x32 .f32) : Vec Ideal S4096x64 .f32 :=
  let a : FVec Ideal S4096x16 .f32 := extractStridedSlice S4096x16 ![0, 0] C slices_S4096x32_S4096x16_0_0
  let b : FVec Ideal S4096x16 .f32 := extractStridedSlice S4096x16 ![0, 16] C slices_S4096x32_S4096x16_0_16
  concatenate S4096x64 1 [⟨S4096x16, a⟩, ⟨S4096x16, a⟩, ⟨S4096x16, b⟩, ⟨S4096x16, b⟩] concatenates_S4096x16_S4096x16_S4096x16_S4096x16_S4096x64_d1

theorem cosT_apply (C : Vec Ideal S4096x32 .f32) (r : Fin 4096) (e : Fin 64) :
    cosT C (ix2 r e) = C (ix2 r (ang e)) := by
  have he := e.isLt
  have hC : ∀ (n : Nat) (h : n < 32), n = (ang e).val → C (ix2 r ⟨n, h⟩) = C (ix2 r (ang e)) := by
    rintro n h rfl; rfl
  unfold cosT
  pointwise
  split_ifs <;> first
    | omega
    | exact hC _ _ (by dsimp only [ang]; omega)

/-- The signed sines of the 64 positional components. -/
def sinT (C : Vec Ideal S4096x32 .f32) : Vec Ideal S4096x64 .f32 :=
  let a : FVec Ideal S4096x16 .f32 := extractStridedSlice S4096x16 ![0, 0] C slices_S4096x32_S4096x16_0_0
  let b : FVec Ideal S4096x16 .f32 := extractStridedSlice S4096x16 ![0, 16] C slices_S4096x32_S4096x16_0_16
  concatenate S4096x64 1 [⟨S4096x16, negf a⟩, ⟨S4096x16, a⟩, ⟨S4096x16, negf b⟩, ⟨S4096x16, b⟩] concatenates_S4096x16_S4096x16_S4096x16_S4096x16_S4096x64_d1

theorem sinT_apply (C : Vec Ideal S4096x32 .f32) (r : Fin 4096) (e : Fin 64) :
    sinT C (ix2 r e) = sgn (fun n => C (ix2 r n)) e := by
  have he := e.isLt
  have hC : ∀ (n : Nat) (h : n < 32), n = (ang e).val → C (ix2 r ⟨n, h⟩) = C (ix2 r (ang e)) := by
    rintro n h rfl; rfl
  have hN : ∀ (n : Nat) (h : n < 32), n = (ang e).val → -C (ix2 r ⟨n, h⟩) = -C (ix2 r (ang e)) := by
    rintro n h rfl; rfl
  unfold sgn
  by_cases h : e.val % 32 < 16
  · rw [if_pos h]
    unfold sinT
    pointwise
    split_ifs <;> first
      | omega
      | exact hN _ _ (by dsimp only [ang]; omega)
  · rw [if_neg h]
    unfold sinT
    pointwise
    split_ifs <;> first
      | omega
      | exact hC _ _ (by dsimp only [ang]; omega)

/-- The keys' and values' weights, all heads' keys first. -/
def kvW (U : Vec Ideal S1x256x1024 .f32) : Vec Ideal S256x1024 .bf16 :=
  let a : FVec Ideal S256x4x256 .f32 := shapeCast S256x4x256 (shapeCast S256x1024 U shapeCasts_S1x256x1024_S256x1024) shapeCasts_S256x1024_S256x4x256
  truncf (φ := .f32) .bf16 (concatenate S256x1024 1 [⟨S256x512, shapeCast S256x512 (extractStridedSlice S256x4x128 ![0, 0, 0] a slices_S256x4x256_S256x4x128_0_0_0) shapeCasts_S256x4x128_S256x512⟩,
    ⟨S256x512, shapeCast S256x512 (extractStridedSlice S256x4x128 ![0, 0, 128] a slices_S256x4x256_S256x4x128_0_0_128) shapeCasts_S256x4x128_S256x512⟩] concatenates_S256x512_S256x512_S256x1024_d1) bitsLt_bf16_f32

theorem kvW_left (U : Vec Ideal S1x256x1024 .f32) (k : Fin 256) (h : Fin 4) (d : Fin 128) :
    kvW U (ix2 k ⟨h.val * 128 + d.val, by omega⟩) = U (ix3 0 k ⟨h.val * 256 + d.val, by omega⟩) := by
  have hU : ∀ (n : Nat) (hn : n < 1024), n = h.val * 256 + d.val → U (ix3 0 k ⟨n, hn⟩) = U (ix3 0 k ⟨h.val * 256 + d.val, by omega⟩) := by
    rintro n hn rfl; rfl
  unfold kvW
  pointwise
  rw [dif_pos (by omega)]

theorem kvW_right (U : Vec Ideal S1x256x1024 .f32) (k : Fin 256) (h : Fin 4) (d : Fin 128) :
    kvW U (ix2 k ⟨512 + (h.val * 128 + d.val), by omega⟩) = U (ix3 0 k ⟨h.val * 256 + (128 + d.val), by omega⟩) := by
  have hU : ∀ (n : Nat) (hn : n < 1024), n = h.val * 256 + (128 + d.val) → U (ix3 0 k ⟨n, hn⟩) = U (ix3 0 k ⟨h.val * 256 + (128 + d.val), by omega⟩) := by
    rintro n hn rfl; rfl
  unfold kvW
  pointwise

/-- A stack of vectors with its last axis reordered by the table of the turn. -/
def swapped (a : FVec Ideal S256x4x64 .f32) : FVec Ideal S256x4x64 .f32 :=
  let i : IVec S64 32 := fun i => lit0 (S64.rowMajor i)
  Host.gather gather_S256x4x64_S64x1_S256x4x64_01_2_n_n_2_1_25641 a
    (broadcastInDim S64x1 ![0] bcast_S64_S64x1_0 (select (constantI S64 1 0#1) (addi i (broadcastInDim S64 ![] bcast_S_S64 (constantI S_ 32 64#32))) i))

/-- The table is the turn. -/
theorem table : ∀ e : Fin 64, min ((lit0 e).toInt.toNat) 63 = (turn e).val := by decide

/-- The table read in its order. -/
theorem table_ix : ∀ e : Fin 64, lit0 (S64.rowMajor (ix1 e)) = lit0 e := by decide +kernel

theorem swapped_apply (a : FVec Ideal S256x4x64 .f32) (k : Fin 256) (h : Fin 4) (e : Fin 64) :
    swapped a (ix3 k h e) = a (ix3 k h (turn e)) := by
  unfold swapped Host.gather
  refine congrArg a (funext fun b => Fin.ext ?_)
  set d := gather_S256x4x64_S64x1_S256x4x64_01_2_n_n_2_1_25641 with hd
  match b with
  | ⟨0, _⟩ =>
    show d.start (ix3 k h e) _ 0 + d.batchCoord (ix3 k h e) 0 + d.offCoord (ix3 k h e) 0 = k.val
    rw [d.batchCoord_eq_zero _ _ List.not_mem_nil]
    unfold GatherDims.start
    rw [dif_neg (by decide)]
    show 0 + 0 + k.val = k.val
    omega
  | ⟨1, _⟩ =>
    show d.start (ix3 k h e) _ 1 + d.batchCoord (ix3 k h e) 1 + d.offCoord (ix3 k h e) 1 = h.val
    rw [d.batchCoord_eq_zero _ _ List.not_mem_nil]
    unfold GatherDims.start
    rw [dif_neg (by decide)]
    show 0 + 0 + h.val = h.val
    omega
  | ⟨2, _⟩ =>
    show d.start (ix3 k h e) _ 2 + d.batchCoord (ix3 k h e) 2 + d.offCoord (ix3 k h e) 2 = (turn e).val
    rw [d.batchCoord_eq_zero _ _ List.not_mem_nil, d.offCoord_eq_zero _ _ (fun h => ((d.mem_sKept _).mp h).1 (List.mem_singleton.mpr rfl))]
    unfold GatherDims.start
    rw [dif_pos (by decide)]
    simp only [Nat.add_zero]
    rw [← table e]
    have hsi : d.siIdx (ix3 k h e) ⟨List.idxOf (2 : Fin 3) d.startIndexMap, by decide⟩ = ix2 e 0 := by
      funext b; refine Fin.ext ?_
      match b with
      | ⟨0, _⟩ => rfl
      | ⟨1, _⟩ => rfl
    rw [hsi]
    refine congrArg (fun w : BitVec 32 => min w.toInt.toNat 63) ?_
    pointwise
    exact table_ix e

/-- The queries' weights: all heads' first parts, the positional parts, and these in the order of the turn. -/
def qW (U : Vec Ideal S1x256x768 .f32) : Vec Ideal S256x1024 .bf16 :=
  let a : FVec Ideal S256x4x192 .f32 := shapeCast S256x4x192 (shapeCast S256x768 U shapeCasts_S1x256x768_S256x768) shapeCasts_S256x768_S256x4x192
  let b : FVec Ideal S256x4x64 .f32 := extractStridedSlice S256x4x64 ![0, 0, 128] a slices_S256x4x192_S256x4x64_0_0_128
  truncf (φ := .f32) .bf16 (concatenate S256x1024 1 [⟨S256x512, shapeCast S256x512 (extractStridedSlice S256x4x128 ![0, 0, 0] a slices_S256x4x192_S256x4x128_0_0_0) shapeCasts_S256x4x128_S256x512⟩,
    ⟨S256x256, shapeCast S256x256 b shapeCasts_S256x4x64_S256x256⟩, ⟨S256x256, shapeCast S256x256 (swapped b) shapeCasts_S256x4x64_S256x256⟩] concatenates_S256x512_S256x256_S256x256_S256x1024_d1) bitsLt_bf16_f32

theorem qW_nope (U : Vec Ideal S1x256x768 .f32) (k : Fin 256) (h : Fin 4) (d : Fin 128) :
    qW U (ix2 k ⟨h.val * 128 + d.val, by omega⟩) = U (ix3 0 k ⟨h.val * 192 + d.val, by omega⟩) := by
  have hU : ∀ (n : Nat) (hn : n < 768), n = h.val * 192 + d.val → U (ix3 0 k ⟨n, hn⟩) = U (ix3 0 k ⟨h.val * 192 + d.val, by omega⟩) := by
    rintro n hn rfl; rfl
  unfold qW
  pointwise
  split_ifs <;> first
    | omega
    | exact hU _ _ (by omega)

theorem qW_rope (U : Vec Ideal S1x256x768 .f32) (k : Fin 256) (h : Fin 4) (e : Fin 64) :
    qW U (ix2 k ⟨512 + (h.val * 64 + e.val), by omega⟩) = U (ix3 0 k ⟨h.val * 192 + (128 + e.val), by omega⟩) := by
  have hU : ∀ (n : Nat) (hn : n < 768), n = h.val * 192 + (128 + e.val) → U (ix3 0 k ⟨n, hn⟩) = U (ix3 0 k ⟨h.val * 192 + (128 + e.val), by omega⟩) := by
    rintro n hn rfl; rfl
  unfold qW
  pointwise
  split_ifs <;> first
    | omega
    | exact hU _ _ (by omega)

theorem qW_turn (U : Vec Ideal S1x256x768 .f32) (k : Fin 256) (h : Fin 4) (e : Fin 64) :
    qW U (ix2 k ⟨768 + (h.val * 64 + e.val), by omega⟩) = U (ix3 0 k ⟨h.val * 192 + (128 + (turn e).val), by omega⟩) := by
  have hU : ∀ (n : Nat) (hn : n < 768), n = h.val * 192 + (128 + (turn e).val) → U (ix3 0 k ⟨n, hn⟩) = U (ix3 0 k ⟨h.val * 192 + (128 + (turn e).val), by omega⟩) := by
    rintro n hn rfl; rfl
  unfold qW
  pointwise [swapped_apply]
  have ht : ∀ h', (⟨(768 + (h.val * 64 + e.val) - 512 - 256) % 64, h'⟩ : Fin 64) = e := fun _ => Fin.ext (by dsimp only; omega)
  rw [dif_neg (by omega), dif_neg (by omega)]
  refine hU _ _ ?_
  rw [ht]
  omega

variable (m : (ℓ : Loc nD τ sig) → Buf (Elt Ideal) ℓ) (c : Dev nD)

theorem V14 : V m c main_v14 = keyW (m ((c : Thread nD τ).loc main_arg3)) := by rfl

theorem V36 : V m c main_v36 = kvW (m ((c : Thread nD τ).loc main_arg7)) := by rfl

theorem V41 : V m c main_v41 = cosT (m ((c : Thread nD τ).loc main_arg8)) := by rfl

theorem V44 : V m c main_v44 = sinT (m ((c : Thread nD τ).loc main_arg9)) := by rfl

theorem V29 : V m c main_v29 = qW (m ((c : Thread nD τ).loc main_arg5)) := by rfl

end Cert.ProjIdeal.Result
-- ==== Proof.ProjHost.lean ====
/- What the input projections' kernel finds in its blocks at a grid point: the program's arguments, cut, reordered and
   joined by the host code before the call. -/
module

public import proofs.«01_k».proof.Proof.ProjArr
public import Idealize.ShloMosaic.Lib.Pipeline.ValueKit
public import Idealize.ShloMosaic.Lib.Pipeline.Value

@[expose] public section

set_option maxRecDepth 16384

noncomputable section

namespace Cert.ProjIdeal.Result

open Cert.ProjIdeal Cert.ProjIdeal.Gen Idealize.ShloMosaic Idealize.ShloMosaic.TcCoe Cert.ProjMath Idealize.SL.Sem
open Idealize.ShloMosaic.Pipeline (Dat)

variable (m : (ℓ : Loc nD τ sig) → Buf (Elt Ideal) ℓ) (c : Dev nD)

/-- Where the windows' blocks lie at a grid point, decided over the grid. -/
theorem idx : ∀ t : Fin grid0.N,
    (win0_0.index t = ![(grid0.coords t 0).val, (grid0.coords t 1).val, 0] ∧ win0_1.index t = ![(grid0.coords t 0).val, 0, 0]
      ∧ win0_10.index t = ![(grid0.coords t 1).val, 0] ∧ win0_11.index t = ![(grid0.coords t 1).val, 0])
    ∧ (win0_2.index t = ![0, 0] ∧ win0_3.index t = ![0, 0] ∧ win0_4.index t = ![0, 0] ∧ win0_5.index t = ![0, 0]
      ∧ win0_6.index t = ![0, 0] ∧ win0_7.index t = ![0, 0] ∧ win0_8.index t = ![0, 0] ∧ win0_9.index t = ![0, 0]
      ∧ win0_12.index t = ![0, 0] ∧ win0_13.index t = ![0, 0])
    ∧ (win0_14.index t = ![(grid0.coords t 0).val, 0, 0, (grid0.coords t 1).val] ∧ win0_15.index t = ![(grid0.coords t 0).val, 0, (grid0.coords t 1).val, 0]
      ∧ win0_16.index t = ![(grid0.coords t 0).val, 0, 0, (grid0.coords t 1).val] ∧ win0_17.index t = ![(grid0.coords t 0).val, 0, (grid0.coords t 1).val, 0]
      ∧ win0_18.index t = ![(grid0.coords t 0).val, 0, (grid0.coords t 1).val, 0] ∧ win0_19.index t = ![(grid0.coords t 0).val, 0, (grid0.coords t 1).val, 0]
      ∧ win0_20.index t = ![(grid0.coords t 0).val, 0, (grid0.coords t 1).val, 0] ∧ win0_22.index t = ![(grid0.coords t 0).val, 0, (grid0.coords t 1).val, 0]) := by
  decide +kernel

variable (t : Fin cfg0.N)

/-- The array's row that row `r` of a block at point `t` is. -/
abbrev at1 (t : Fin cfg0.N) (r : Fin 1024) : Fin 4096 :=
  ⟨1024 * (grid0.coords t 1).val + r.val, by have : (grid0.coords t 1).val < 4 := (grid0.coords t 1).isLt; omega⟩

/-- The batch of point `t`. -/
abbrev at0 (t : Fin cfg0.N) : Fin 8 := grid0.coords t 0

theorem blk0 (r : Fin 1024) (l : Fin 1024) :
    iblk m c 0 t (ix3 0 r l) = m ((c : Thread nD τ).loc main_arg0) (ix3 (at0 t) (at1 t r) l) := by
  blk_ext [iblk, V, idx t]
  rfl

theorem blk1 (q : Fin 6) (l : Fin 1024) :
    iblk m c 1 t (ix3 0 ⟨q.val, by omega⟩ l)
      = m ((c : Thread nD τ).loc main_arg1) (ix2 (at0 t) ⟨1024 * q.val + l.val, by omega⟩) := by
  unfold iblk
  rw [View.read_apply, show ((cfg0.win 1).blk t).view.emb (ix3 0 (⟨q.val, by omega⟩ : Fin 8) l) = ix3 (at0 t) ⟨q.val, by omega⟩ l from by blk_ext [idx t]; rfl]
  entry_read
  pointwise
  refine congrArg (m ((c : Thread nD τ).loc main_arg1)) ?_
  blk_ext

theorem blk2 (l : Fin 1024) :
    iblk m c 2 t (ix2 0 l) = m ((c : Thread nD τ).loc main_arg2) (ix2 0 l) := by
  unfold iblk
  rw [View.read_apply, show ((cfg0.win 2).blk t).view.emb (ix2 0 l) = ix2 0 l from by blk_ext [idx t]]
  entry_read
  pointwise
  rfl

theorem blk3 (k : Fin 1024) (j : Fin 512) :
    iblk m c 3 t (ix2 k j) = m ((c : Thread nD τ).loc main_arg3) (ix3 0 k ⟨j.val, by omega⟩) := by
  unfold iblk
  rw [View.read_apply, show ((cfg0.win 3).blk t).view.emb (ix2 k j) = ix2 k j from by blk_ext [idx t]]
  entry_read
  pointwise
  rfl

theorem blk4 (k : Fin 1024) (j : Fin 2560) :
    iblk m c 4 t (ix2 k j) = m ((c : Thread nD τ).loc main_arg3) (ix3 0 k ⟨576 + j.val, by omega⟩) := by
  unfold iblk
  rw [View.read_apply, show ((cfg0.win 4).blk t).view.emb (ix2 k j) = ix2 k j from by blk_ext [idx t]]
  entry_read
  pointwise
  rfl

theorem blk5 (k : Fin 1024) (j : Fin 128) :
    iblk m c 5 t (ix2 k j) = keyW (m ((c : Thread nD τ).loc main_arg3)) (ix2 k j) := by
  unfold iblk
  rw [View.read_apply, show ((cfg0.win 5).blk t).view.emb (ix2 k j) = ix2 k j from by blk_ext [idx t]]
  exact congrFun (V14 m c) (ix2 k j)

theorem blk6 (l : Fin 256) :
    iblk m c 6 t (ix2 0 l) = m ((c : Thread nD τ).loc main_arg4) (ix2 0 l) := by
  unfold iblk
  rw [View.read_apply, show ((cfg0.win 6).blk t).view.emb (ix2 0 l) = ix2 0 l from by blk_ext [idx t]]
  entry_read
  pointwise
  rfl

theorem blk7 (k : Fin 256) (j : Fin 1024) :
    iblk m c 7 t (ix2 k j) = qW (m ((c : Thread nD τ).loc main_arg5)) (ix2 k j) := by
  unfold iblk
  rw [View.read_apply, show ((cfg0.win 7).blk t).view.emb (ix2 k j) = ix2 k j from by blk_ext [idx t]]
  exact congrFun (V29 m c) (ix2 k j)

theorem blk8 (l : Fin 256) :
    iblk m c 8 t (ix2 0 l) = m ((c : Thread nD τ).loc main_arg6) (ix2 0 l) := by
  unfold iblk
  rw [View.read_apply, show ((cfg0.win 8).blk t).view.emb (ix2 0 l) = ix2 0 l from by blk_ext [idx t]]
  entry_read
  pointwise
  rfl

theorem blk9 (k : Fin 256) (j : Fin 1024) :
    iblk m c 9 t (ix2 k j) = kvW (m ((c : Thread nD τ).loc main_arg7)) (ix2 k j) := by
  unfold iblk
  rw [View.read_apply, show ((cfg0.win 9).blk t).view.emb (ix2 k j) = ix2 k j from by blk_ext [idx t]]
  exact congrFun (V36 m c) (ix2 k j)

theorem blk10 (r : Fin 1024) (e : Fin 64) :
    iblk m c 10 t (ix2 r e) = cosT (m ((c : Thread nD τ).loc main_arg8)) (ix2 (at1 t r) e) := by
  unfold iblk
  rw [View.read_apply, show ((cfg0.win 10).blk t).view.emb (ix2 r e) = ix2 (at1 t r) e from by blk_ext [idx t]]
  exact congrFun (V41 m c) (ix2 (at1 t r) e)

theorem blk11 (r : Fin 1024) (e : Fin 64) :
    iblk m c 11 t (ix2 r e) = sinT (m ((c : Thread nD τ).loc main_arg9)) (ix2 (at1 t r) e) := by
  unfold iblk
  rw [View.read_apply, show ((cfg0.win 11).blk t).view.emb (ix2 r e) = ix2 (at1 t r) e from by blk_ext [idx t]]
  exact congrFun (V44 m c) (ix2 (at1 t r) e)

theorem blk12 (q : Fin 2) (j : Fin 512) :
    iblk m c 12 t (ix2 q j) = m ((c : Thread nD τ).loc main_arg10) (ix2 q j) := by
  blk_ext [iblk, V, idx t]

theorem blk13 (q : Fin 2) (j : Fin 512) :
    iblk m c 13 t (ix2 q j) = m ((c : Thread nD τ).loc main_arg11) (ix2 q j) := by
  blk_ext [iblk, V, idx t]

end Cert.ProjIdeal.Result
-- ==== Proof.ProjBlock.lean ====
/- What the input projections' kernel leaves in its output blocks, element by element: the stored pieces of each block, and
   the value of each piece in terms of the loaded blocks. -/
module

public import proofs.«01_k».proof.Proof.Gen.ProjIdeal.Frame.Runs
public import proofs.«01_k».proof.Proof.ProjMath
public import Idealize.ShloMosaic.Lib.Pipeline.ValueKit

@[expose] public section

set_option maxRecDepth 16384

noncomputable section

namespace Cert.ProjIdeal.Block

open Cert.ProjIdeal Cert.ProjIdeal.Gen Idealize.ShloMosaic Cert.ProjMath

/-! ## Pieces of one head read at an index of the block -/

theorem tile_row (k : Fin 4) (o n : ℕ) (w : (⟨4, ![1, 1, n, 1024]⟩ : Shape).Idx → Elt Ideal .bf16) (G : ℕ → Fin 1024 → EReal) (D : ℕ)
    (hw : ∀ (e : Fin n) r, w (ix4 0 0 e r) = G (o + e.val) r) (h : Fin 4) (d : Fin D) (r : Fin 1024) (v : EReal)
    (hv : h = k → v = G d.val r) :
    View.TileAt (S := (⟨4, ![1, 4, D, 1024]⟩ : Shape)) (Val := Elt Ideal) (e := .bf16) (ix4 0 h d r) ![0, k.val, o, 0] ![1, 1, n, 1024] w v := by
  intro x hx
  obtain ⟨x1, x2, x3, rfl⟩ : ∃ (x1 : Fin 1) (x2 : Fin n) (x3 : Fin 1024), x = ix4 0 x1 x2 x3 :=
    ⟨x 1, x 2, x 3, funext fun a => match a with
      | 0 => Subsingleton.elim (α := Fin 1) _ _ | 1 => rfl | 2 => rfl | 3 => rfl⟩
  have h1 : h.val = k.val + x1.val := hx 1
  have h2 : d.val = o + x2.val := hx 2
  have h3 : r.val = 0 + x3.val := hx 3
  obtain rfl : x1 = 0 := Subsingleton.elim _ _
  obtain rfl : x3 = r := Fin.ext (by omega)
  rw [hv (Fin.ext (by simpa using h1)), h2]
  exact hw x2 x3

theorem tile_col (k : Fin 4) (o n : ℕ) (w : (⟨4, ![1, 1, 1024, n]⟩ : Shape).Idx → Elt Ideal .bf16) (G : ℕ → Fin 1024 → EReal) (D : ℕ)
    (hw : ∀ r (e : Fin n), w (ix4 0 0 r e) = G (o + e.val) r) (h : Fin 4) (d : Fin D) (r : Fin 1024) (v : EReal)
    (hv : h = k → v = G d.val r) :
    View.TileAt (S := (⟨4, ![1, 4, 1024, D]⟩ : Shape)) (Val := Elt Ideal) (e := .bf16) (ix4 0 h r d) ![0, k.val, 0, o] ![1, 1, 1024, n] w v := by
  intro x hx
  obtain ⟨x1, x2, x3, rfl⟩ : ∃ (x1 : Fin 1) (x2 : Fin 1024) (x3 : Fin n), x = ix4 0 x1 x2 x3 :=
    ⟨x 1, x 2, x 3, funext fun a => match a with
      | 0 => Subsingleton.elim (α := Fin 1) _ _ | 1 => rfl | 2 => rfl | 3 => rfl⟩
  have h1 : h.val = k.val + x1.val := hx 1
  have h2 : r.val = 0 + x2.val := hx 2
  have h3 : d.val = o + x3.val := hx 3
  obtain rfl : x1 = 0 := Subsingleton.elim _ _
  obtain rfl : x2 = r := Fin.ext (by omega)
  rw [hv (Fin.ext (by simpa using h1)), h3]
  exact hw x2 x3

/-- The four heads of a block with 128 components in its last axis. -/
def four (p0 p1 p2 p3 : Vec Ideal S1x1x1024x128 .bf16) : List (View.Piece (Elt Ideal) S1x4x1024x128 .bf16) :=
  [⟨Rect.unit ![0, 3, 0, 0] ![1, 1, 1024, 128] inb_S1x4x1024x128_S1x1x1024x128_0_3_0_0, p3⟩,
   ⟨Rect.unit ![0, 2, 0, 0] ![1, 1, 1024, 128] inb_S1x4x1024x128_S1x1x1024x128_0_2_0_0, p2⟩,
   ⟨Rect.unit ![0, 1, 0, 0] ![1, 1, 1024, 128] inb_S1x4x1024x128_S1x1x1024x128_0_1_0_0, p1⟩,
   ⟨Rect.unit ![0, 0, 0, 0] ![1, 1, 1024, 128] inb_S1x4x1024x128_S1x1x1024x128_0_0_0_0, p0⟩]

theorem four_at (p0 p1 p2 p3 : Vec Ideal S1x1x1024x128 .bf16) (A : FVec Ideal S1024x512 .f32)
    (h0 : ∀ r (d : Fin 128), p0 (ix4 0 0 r d) = A (ix2 r ⟨d.val, by omega⟩))
    (h1 : ∀ r (d : Fin 128), p1 (ix4 0 0 r d) = A (ix2 r ⟨128 + d.val, by omega⟩))
    (h2 : ∀ r (d : Fin 128), p2 (ix4 0 0 r d) = A (ix2 r ⟨256 + d.val, by omega⟩))
    (h3 : ∀ r (d : Fin 128), p3 (ix4 0 0 r d) = A (ix2 r ⟨384 + d.val, by omega⟩)) (h : Fin 4) (r : Fin 1024) (d : Fin 128) :
    View.canon (four p0 p1 p2 p3) (ix4 0 h r d) = A (ix2 r ⟨h.val * 128 + d.val, by omega⟩) := by
  have hA : ∀ (o : ℕ) (p : Vec Ideal S1x1x1024x128 .bf16) (ho : o + 128 ≤ 512) (hp : ∀ r (d : Fin 128), p (ix4 0 0 r d) = A (ix2 r ⟨o + d.val, by omega⟩)) r (d : Fin 128),
      p (ix4 0 0 r d) = if hn : o + d.val < 512 then A (ix2 r ⟨o + d.val, hn⟩) else 0 := by
    intro o p ho hp r d
    rw [dif_pos (by omega)]
    exact hp r d
  refine View.canon_eq_of_allAt _ _ _ (View.cover_of_tiledL (four p0 p1 p2 p3) S1x1x1024x128.size (by sl_kernel_rfl) _)
    (View.allAt_cons_unit _ _ _ _ _ (tile_col 3 0 128 p3 (fun n r => if hn : 384 + n < 512 then A (ix2 r ⟨384 + n, hn⟩) else 0) 128 ?_ h d r _ ?_)
    (View.allAt_cons_unit _ _ _ _ _ (tile_col 2 0 128 p2 (fun n r => if hn : 256 + n < 512 then A (ix2 r ⟨256 + n, hn⟩) else 0) 128 ?_ h d r _ ?_)
    (View.allAt_cons_unit _ _ _ _ _ (tile_col 1 0 128 p1 (fun n r => if hn : 128 + n < 512 then A (ix2 r ⟨128 + n, hn⟩) else 0) 128 ?_ h d r _ ?_)
    (View.allAt_cons_unit _ _ _ _ _ (tile_col 0 0 128 p0 (fun n r => if hn : 0 + n < 512 then A (ix2 r ⟨0 + n, hn⟩) else 0) 128 ?_ h d r _ ?_) (View.allAt_nil _ _)))))
  · intro r e; simp only [Nat.zero_add]; exact hA 384 p3 (by omega) h3 r e
  · rintro rfl; rw [dif_pos (by omega)]; rfl
  · intro r e; simp only [Nat.zero_add]; exact hA 256 p2 (by omega) h2 r e
  · rintro rfl; rw [dif_pos (by omega)]; rfl
  · intro r e; simp only [Nat.zero_add]; exact hA 128 p1 (by omega) h1 r e
  · rintro rfl; rw [dif_pos (by omega)]; rfl
  · intro r e
    have he : 0 + (0 + e.val) < 512 := by omega
    rw [dif_pos he, h0 r e]
    exact congrArg (fun n => A (ix2 r n)) (Fin.ext (by dsimp only; omega))
  · rintro rfl; rw [dif_pos (by omega)]; rfl

/-- The four heads of the values' block. -/
def fourT (p0 p1 p2 p3 : Vec Ideal S1x1x128x1024 .bf16) : List (View.Piece (Elt Ideal) S1x4x128x1024 .bf16) :=
  [⟨Rect.unit ![0, 3, 0, 0] ![1, 1, 128, 1024] inb_S1x4x128x1024_S1x1x128x1024_0_3_0_0, p3⟩,
   ⟨Rect.unit ![0, 2, 0, 0] ![1, 1, 128, 1024] inb_S1x4x128x1024_S1x1x128x1024_0_2_0_0, p2⟩,
   ⟨Rect.unit ![0, 1, 0, 0] ![1, 1, 128, 1024] inb_S1x4x128x1024_S1x1x128x1024_0_1_0_0, p1⟩,
   ⟨Rect.unit ![0, 0, 0, 0] ![1, 1, 128, 1024] inb_S1x4x128x1024_S1x1x128x1024_0_0_0_0, p0⟩]

theorem fourT_at (p0 p1 p2 p3 : Vec Ideal S1x1x128x1024 .bf16) (G : Fin 4 → ℕ → Fin 1024 → EReal)
    (h0 : ∀ (d : Fin 128) r, p0 (ix4 0 0 d r) = G 0 d.val r) (h1 : ∀ (d : Fin 128) r, p1 (ix4 0 0 d r) = G 1 d.val r)
    (h2 : ∀ (d : Fin 128) r, p2 (ix4 0 0 d r) = G 2 d.val r) (h3 : ∀ (d : Fin 128) r, p3 (ix4 0 0 d r) = G 3 d.val r)
    (h : Fin 4) (d : Fin 128) (r : Fin 1024) : View.canon (fourT p0 p1 p2 p3) (ix4 0 h d r) = G h d.val r := by
  refine View.canon_eq_of_allAt _ _ _ (View.cover_of_tiledL (fourT p0 p1 p2 p3) S1x1x128x1024.size (by sl_kernel_rfl) _)
    (View.allAt_cons_unit _ _ _ _ _ (tile_row 3 0 128 p3 (G 3) 128 ?_ h d r _ (by rintro rfl; rfl))
    (View.allAt_cons_unit _ _ _ _ _ (tile_row 2 0 128 p2 (G 2) 128 ?_ h d r _ (by rintro rfl; rfl))
    (View.allAt_cons_unit _ _ _ _ _ (tile_row 1 0 128 p1 (G 1) 128 ?_ h d r _ (by rintro rfl; rfl))
    (View.allAt_cons_unit _ _ _ _ _ (tile_row 0 0 128 p0 (G 0) 128 ?_ h d r _ (by rintro rfl; rfl)) (View.allAt_nil _ _)))))
  all_goals intro e r; simp only [Nat.zero_add]
  · exact h3 e r
  · exact h2 e r
  · exact h1 e r
  · exact h0 e r

/-- The four heads of the queries' block, each of two pieces. -/
def eightT (p0 : Vec Ideal S1x1x128x1024 .bf16) (q0 : Vec Ideal S1x1x64x1024 .bf16) (p1 : Vec Ideal S1x1x128x1024 .bf16) (q1 : Vec Ideal S1x1x64x1024 .bf16)
    (p2 : Vec Ideal S1x1x128x1024 .bf16) (q2 : Vec Ideal S1x1x64x1024 .bf16) (p3 : Vec Ideal S1x1x128x1024 .bf16) (q3 : Vec Ideal S1x1x64x1024 .bf16) :
    List (View.Piece (Elt Ideal) S1x4x192x1024 .bf16) :=
  [⟨Rect.unit ![0, 3, 128, 0] ![1, 1, 64, 1024] inb_S1x4x192x1024_S1x1x64x1024_0_3_128_0, q3⟩,
   ⟨Rect.unit ![0, 3, 0, 0] ![1, 1, 128, 1024] inb_S1x4x192x1024_S1x1x128x1024_0_3_0_0, p3⟩,
   ⟨Rect.unit ![0, 2, 128, 0] ![1, 1, 64, 1024] inb_S1x4x192x1024_S1x1x64x1024_0_2_128_0, q2⟩,
   ⟨Rect.unit ![0, 2, 0, 0] ![1, 1, 128, 1024] inb_S1x4x192x1024_S1x1x128x1024_0_2_0_0, p2⟩,
   ⟨Rect.unit ![0, 1, 128, 0] ![1, 1, 64, 1024] inb_S1x4x192x1024_S1x1x64x1024_0_1_128_0, q1⟩,
   ⟨Rect.unit ![0, 1, 0, 0] ![1, 1, 128, 1024] inb_S1x4x192x1024_S1x1x128x1024_0_1_0_0, p1⟩,
   ⟨Rect.unit ![0, 0, 128, 0] ![1, 1, 64, 1024] inb_S1x4x192x1024_S1x1x64x1024_0_0_128_0, q0⟩,
   ⟨Rect.unit ![0, 0, 0, 0] ![1, 1, 128, 1024] inb_S1x4x192x1024_S1x1x128x1024_0_0_0_0, p0⟩]

theorem eightT_at (p0 p1 p2 p3 : Vec Ideal S1x1x128x1024 .bf16) (q0 q1 q2 q3 : Vec Ideal S1x1x64x1024 .bf16) (G : Fin 4 → ℕ → Fin 1024 → EReal)
    (h0 : ∀ (d : Fin 128) r, p0 (ix4 0 0 d r) = G 0 d.val r) (h1 : ∀ (d : Fin 128) r, p1 (ix4 0 0 d r) = G 1 d.val r)
    (h2 : ∀ (d : Fin 128) r, p2 (ix4 0 0 d r) = G 2 d.val r) (h3 : ∀ (d : Fin 128) r, p3 (ix4 0 0 d r) = G 3 d.val r)
    (g0 : ∀ (e : Fin 64) r, q0 (ix4 0 0 e r) = G 0 (128 + e.val) r) (g1 : ∀ (e : Fin 64) r, q1 (ix4 0 0 e r) = G 1 (128 + e.val) r)
    (g2 : ∀ (e : Fin 64) r, q2 (ix4 0 0 e r) = G 2 (128 + e.val) r) (g3 : ∀ (e : Fin 64) r, q3 (ix4 0 0 e r) = G 3 (128 + e.val) r)
    (h : Fin 4) (d : Fin 192) (r : Fin 1024) : View.canon (eightT p0 q0 p1 q1 p2 q2 p3 q3) (ix4 0 h d r) = G h d.val r := by
  have hz : ∀ (p : Vec Ideal S1x1x128x1024 .bf16) k, (∀ (d : Fin 128) r, p (ix4 0 0 d r) = G k d.val r) →
      ∀ (d : Fin 128) r, p (ix4 0 0 d r) = G k (0 + d.val) r := fun p k hp d r => by rw [Nat.zero_add]; exact hp d r
  exact View.canon_eq_of_allAt _ _ _ (View.cover_of_tiledBy (eightT p0 q0 p1 q1 p2 q2 p3 q3) ![1, 1, 64, 1024] (by sl_kernel_rfl) _)
    (View.allAt_cons_unit _ _ _ _ _ (tile_row 3 128 64 q3 (G 3) 192 g3 h d r _ (by rintro rfl; rfl))
    (View.allAt_cons_unit _ _ _ _ _ (tile_row 3 0 128 p3 (G 3) 192 (hz _ _ h3) h d r _ (by rintro rfl; rfl))
    (View.allAt_cons_unit _ _ _ _ _ (tile_row 2 128 64 q2 (G 2) 192 g2 h d r _ (by rintro rfl; rfl))
    (View.allAt_cons_unit _ _ _ _ _ (tile_row 2 0 128 p2 (G 2) 192 (hz _ _ h2) h d r _ (by rintro rfl; rfl))
    (View.allAt_cons_unit _ _ _ _ _ (tile_row 1 128 64 q1 (G 1) 192 g1 h d r _ (by rintro rfl; rfl))
    (View.allAt_cons_unit _ _ _ _ _ (tile_row 1 0 128 p1 (G 1) 192 (hz _ _ h1) h d r _ (by rintro rfl; rfl))
    (View.allAt_cons_unit _ _ _ _ _ (tile_row 0 128 64 q0 (G 0) 192 g0 h d r _ (by rintro rfl; rfl))
    (View.allAt_cons_unit _ _ _ _ _ (tile_row 0 0 128 p0 (G 0) 192 (hz _ _ h0) h d r _ (by rintro rfl; rfl)) (View.allAt_nil _ _)))))))))

/-- The four heads of the keys' block, each of two pieces. -/
def eight (p0 : Vec Ideal S1x1x1024x128 .bf16) (q0 : Vec Ideal S1x1x1024x64 .bf16) (p1 : Vec Ideal S1x1x1024x128 .bf16) (q1 : Vec Ideal S1x1x1024x64 .bf16)
    (p2 : Vec Ideal S1x1x1024x128 .bf16) (q2 : Vec Ideal S1x1x1024x64 .bf16) (p3 : Vec Ideal S1x1x1024x128 .bf16) (q3 : Vec Ideal S1x1x1024x64 .bf16) :
    List (View.Piece (Elt Ideal) S1x4x1024x192 .bf16) :=
  [⟨Rect.unit ![0, 3, 0, 128] ![1, 1, 1024, 64] inb_S1x4x1024x192_S1x1x1024x64_0_3_0_128, q3⟩,
   ⟨Rect.unit ![0, 3, 0, 0] ![1, 1, 1024, 128] inb_S1x4x1024x192_S1x1x1024x128_0_3_0_0, p3⟩,
   ⟨Rect.unit ![0, 2, 0, 128] ![1, 1, 1024, 64] inb_S1x4x1024x192_S1x1x1024x64_0_2_0_128, q2⟩,
   ⟨Rect.unit ![0, 2, 0, 0] ![1, 1, 1024, 128] inb_S1x4x1024x192_S1x1x1024x128_0_2_0_0, p2⟩,
   ⟨Rect.unit ![0, 1, 0, 128] ![1, 1, 1024, 64] inb_S1x4x1024x192_S1x1x1024x64_0_1_0_128, q1⟩,
   ⟨Rect.unit ![0, 1, 0, 0] ![1, 1, 1024, 128] inb_S1x4x1024x192_S1x1x1024x128_0_1_0_0, p1⟩,
   ⟨Rect.unit ![0, 0, 0, 128] ![1, 1, 1024, 64] inb_S1x4x1024x192_S1x1x1024x64_0_0_0_128, q0⟩,
   ⟨Rect.unit ![0, 0, 0, 0] ![1, 1, 1024, 128] inb_S1x4x1024x192_S1x1x1024x128_0_0_0_0, p0⟩]

theorem eight_at (p0 p1 p2 p3 : Vec Ideal S1x1x1024x128 .bf16) (q0 q1 q2 q3 : Vec Ideal S1x1x1024x64 .bf16) (G : Fin 4 → ℕ → Fin 1024 → EReal)
    (h0 : ∀ r (d : Fin 128), p0 (ix4 0 0 r d) = G 0 d.val r) (h1 : ∀ r (d : Fin 128), p1 (ix4 0 0 r d) = G 1 d.val r)
    (h2 : ∀ r (d : Fin 128), p2 (ix4 0 0 r d) = G 2 d.val r) (h3 : ∀ r (d : Fin 128), p3 (ix4 0 0 r d) = G 3 d.val r)
    (g0 : ∀ r (e : Fin 64), q0 (ix4 0 0 r e) = G 0 (128 + e.val) r) (g1 : ∀ r (e : Fin 64), q1 (ix4 0 0 r e) = G 1 (128 + e.val) r)
    (g2 : ∀ r (e : Fin 64), q2 (ix4 0 0 r e) = G 2 (128 + e.val) r) (g3 : ∀ r (e : Fin 64), q3 (ix4 0 0 r e) = G 3 (128 + e.val) r)
    (h : Fin 4) (d : Fin 192) (r : Fin 1024) : View.canon (eight p0 q0 p1 q1 p2 q2 p3 q3) (ix4 0 h r d) = G h d.val r := by
  have hz : ∀ (p : Vec Ideal S1x1x1024x128 .bf16) k, (∀ r (d : Fin 128), p (ix4 0 0 r d) = G k d.val r) →
      ∀ r (d : Fin 128), p (ix4 0 0 r d) = G k (0 + d.val) r := fun p k hp r d => by rw [Nat.zero_add]; exact hp r d
  exact View.canon_eq_of_allAt _ _ _ (View.cover_of_tiledBy (eight p0 q0 p1 q1 p2 q2 p3 q3) ![1, 1, 1024, 64] (by sl_kernel_rfl) _)
    (View.allAt_cons_unit _ _ _ _ _ (tile_col 3 128 64 q3 (G 3) 192 g3 h d r _ (by rintro rfl; rfl))
    (View.allAt_cons_unit _ _ _ _ _ (tile_col 3 0 128 p3 (G 3) 192 (hz _ _ h3) h d r _ (by rintro rfl; rfl))
    (View.allAt_cons_unit _ _ _ _ _ (tile_col 2 128 64 q2 (G 2) 192 g2 h d r _ (by rintro rfl; rfl))
    (View.allAt_cons_unit _ _ _ _ _ (tile_col 2 0 128 p2 (G 2) 192 (hz _ _ h2) h d r _ (by rintro rfl; rfl))
    (View.allAt_cons_unit _ _ _ _ _ (tile_col 1 128 64 q1 (G 1) 192 g1 h d r _ (by rintro rfl; rfl))
    (View.allAt_cons_unit _ _ _ _ _ (tile_col 1 0 128 p1 (G 1) 192 (hz _ _ h1) h d r _ (by rintro rfl; rfl))
    (View.allAt_cons_unit _ _ _ _ _ (tile_col 0 128 64 q0 (G 0) 192 g0 h d r _ (by rintro rfl; rfl))
    (View.allAt_cons_unit _ _ _ _ _ (tile_col 0 0 128 p0 (G 0) 192 (hz _ _ h0) h d r _ (by rintro rfl; rfl)) (View.allAt_nil _ _)))))))))

/-! ## The values behind the pieces -/

theorem pay3_at (x0 : Vec Ideal S1x1024x1024 .f32) (a : Vec Ideal S1x1x1024 .f32) (g : Vec Ideal S1x1024 .f32) (b : Vec Ideal S1x1x1024 .f32) (r l : Fin 1024) :
    k0_pay3 x0 a g b (ix2 r l) = FfnMath.hid (fun l => x0 (ix3 0 r l)) (fun l => g (ix2 0 l)) (fun l => b (ix3 0 0 l)) (fun l => a (ix3 0 0 l)) l := by
  pointwise [k0_pay3, FfnMath.hid, FfnMath.unit]
  try rfl

theorem pay6_at (x0 : Vec Ideal S1x1024x1024 .f32) (a : Vec Ideal S1x1x1024 .f32) (g : Vec Ideal S1x1024 .f32) (b : Vec Ideal S1x1x1024 .f32) (W : Vec Ideal S1024x512 .bf16) (r : Fin 1024) (j : Fin 512) :
    k0_pay6 x0 a g b W (ix2 r j) = ∑ k, k0_pay3 x0 a g b (ix2 r k) * W (ix2 k j) := by
  pointwise [k0_pay6]

theorem pay9_at (x0 : Vec Ideal S1x1024x1024 .f32) (a : Vec Ideal S1x1x1024 .f32) (g : Vec Ideal S1x1024 .f32) (b : Vec Ideal S1x1x1024 .f32) (W : Vec Ideal S1024x512 .bf16)
    (n : Vec Ideal S1x256 .f32) (r : Fin 1024) (l : Fin 256) :
    k0_pay9 (k0_pay7 x0 a g b W) (k0_pay8 x0 a g b W) n (ix2 r l)
      = unit (fun l => k0_pay6 x0 a g b W (ix2 r ⟨256 + l.val, by omega⟩)) l * n (ix2 0 l) := by
  pointwise [k0_pay9, k0_pay8, k0_pay7, unit]
  try rfl

theorem pay10_at (C : FVec Ideal S1024x512 .f32) (n : Vec Ideal S1x256 .f32) (U : Vec Ideal S256x1024 .bf16) (r j : Fin 1024) :
    k0_pay10 C n U (ix2 r j) = lat (fun l => C (ix2 r ⟨l.val, by omega⟩)) (fun l => n (ix2 0 l)) (fun k j => U (ix2 k j)) j := by
  pointwise [k0_pay10, unit, lat]
  try rfl

theorem pay23_at (K : FVec Ideal S1024x256 .bf16) (U : Vec Ideal S256x1024 .bf16) (r j : Fin 1024) :
    k0_pay23 K U (ix2 r j) = ∑ k, K (ix2 r k) * U (ix2 k j) := by
  pointwise [k0_pay23]

theorem pay24_at (H : FVec Ideal S1024x1024 .bf16) (c s : FVec Ideal S1024x64 .f32) (W : Vec Ideal S1024x128 .bf16) (r : Fin 1024) (e : Fin 64) :
    k0_pay24 H c s W (ix2 r e) = (∑ k, H (ix2 r k) * W (ix2 k ⟨e.val, by omega⟩)) * c (ix2 r e) + (∑ k, H (ix2 r k) * W (ix2 k ⟨64 + e.val, by omega⟩)) * s (ix2 r e) := by
  pointwise [k0_pay24]
  try rfl

theorem pay41_at (H : FVec Ideal S1024x1024 .bf16) (T : Vec Ideal S2x512 .f32) (W : Vec Ideal S1024x512 .bf16) (r : Fin 1024) (j : Fin 512) :
    k0_pay41 H T W (ix2 r j) = gate (low (T (ix2 0 j)) (T (ix2 1 j))) (∑ k, H (ix2 r k) * W (ix2 k j)) := by
  pointwise [k0_pay41, k0_pay40, gate, low]
  simp only [Fin.sum_univ_two, fold_two, bot_eq, max_bot_left, max_bot_right]
  try rfl

theorem pay60_at (H : FVec Ideal S1024x1024 .bf16) (T : Vec Ideal S2x512 .f32) (W : Vec Ideal S1024x512 .bf16) (r : Fin 1024) (j : Fin 512) :
    k0_pay60 H (k0_pay58 T) (Scalar.ofBits .f32 0x3F800000#32) W (ix2 r j) = gate (low (T (ix2 0 j)) (T (ix2 1 j))) (∑ k, H (ix2 r k) * W (ix2 k j)) := by
  pointwise [k0_pay60, k0_pay59, k0_pay58, gate, low]
  simp only [Fin.sum_univ_two, fold_two, bot_eq, max_bot_left, max_bot_right]
  try rfl

/-! ## The blocks -/

section Lists

variable (H : FVec Ideal S1024x1024 .bf16) (W : Vec Ideal S1024x512 .bf16) (T : Vec Ideal S2x512 .f32) (r : Fin 1024) (h : Fin 4) (d : Fin 128)

theorem hq_at : View.canon (four (k0_pay75 H W) (k0_pay76 H W) (k0_pay77 H W) (k0_pay78 H W)) (ix4 0 h r d)
    = ∑ k, H (ix2 r k) * W (ix2 k ⟨h.val * 128 + d.val, by omega⟩) := by
  refine (four_at _ _ _ _ (k0_pay74 H W) (fun r d => ?_) (fun r d => ?_) (fun r d => ?_) (fun r d => ?_) h r d).trans ?_
  · pointwise [k0_pay75]
  · pointwise [k0_pay76]
  · pointwise [k0_pay77]
  · pointwise [k0_pay78]
  · pointwise [k0_pay74]

theorem hi_at : View.canon (four (k0_pay81 (k0_pay80 H W)) (k0_pay82 (k0_pay79 H W)) (k0_pay83 (k0_pay79 H W)) (k0_pay84 (k0_pay79 H W))) (ix4 0 h r d)
    = ∑ k, H (ix2 r k) * W (ix2 k ⟨h.val * 128 + d.val, by omega⟩) := by
  refine (four_at _ _ _ _ (k0_pay79 H W) (fun r d => ?_) (fun r d => ?_) (fun r d => ?_) (fun r d => ?_) h r d).trans ?_
  · pointwise [k0_pay81, k0_pay80]
  · pointwise [k0_pay82]
  · pointwise [k0_pay83]
  · pointwise [k0_pay84]
  · pointwise [k0_pay79]

theorem hg_at : View.canon (four (k0_pay86 H W) (k0_pay87 H W) (k0_pay1 (k0_pay85 H W)) (k0_pay2 (k0_pay85 H W))) (ix4 0 h r d)
    = ∑ k, H (ix2 r k) * W (ix2 k ⟨h.val * 128 + d.val, by omega⟩) := by
  refine (four_at _ _ _ _ (k0_pay85 H W) (fun r d => ?_) (fun r d => ?_) (fun r d => ?_) (fun r d => ?_) h r d).trans ?_
  · pointwise [k0_pay86]
  · pointwise [k0_pay87]
  · pointwise [k0_pay1]
  · pointwise [k0_pay2]
  · pointwise [k0_pay85]

theorem kf_at : View.canon (four (k0_pay51 (k0_pay41 H T W)) (k0_pay53 (k0_pay41 H T W)) (k0_pay55 (k0_pay41 H T W)) (k0_pay57 (k0_pay41 H T W))) (ix4 0 h r d)
    = gate (low (T (ix2 0 ⟨h.val * 128 + d.val, by omega⟩)) (T (ix2 1 ⟨h.val * 128 + d.val, by omega⟩)))
        (∑ k, H (ix2 r k) * W (ix2 k ⟨h.val * 128 + d.val, by omega⟩)) := by
  refine (four_at _ _ _ _ (k0_pay41 H T W) (fun r d => ?_) (fun r d => ?_) (fun r d => ?_) (fun r d => ?_) h r d).trans (pay41_at H T W r _)
  · pointwise [k0_pay51]
  · pointwise [k0_pay53]
  · pointwise [k0_pay55]
  · pointwise [k0_pay57]

theorem kb_at : View.canon (four (k0_pay66 (k0_pay60 H (k0_pay58 T) (Scalar.ofBits .f32 0x3F800000#32) W)) (k0_pay68 (k0_pay60 H (k0_pay58 T) (Scalar.ofBits .f32 0x3F800000#32) W))
      (k0_pay70 (k0_pay60 H (k0_pay58 T) (Scalar.ofBits .f32 0x3F800000#32) W)) (k0_pay73 (k0_pay72 (k0_pay60 H (k0_pay58 T) (Scalar.ofBits .f32 0x3F800000#32) W)))) (ix4 0 h r d)
    = gate (low (T (ix2 0 ⟨h.val * 128 + d.val, by omega⟩)) (T (ix2 1 ⟨h.val * 128 + d.val, by omega⟩)))
        (∑ k, H (ix2 r k) * W (ix2 k ⟨h.val * 128 + d.val, by omega⟩)) := by
  refine (four_at _ _ _ _ (k0_pay60 H (k0_pay58 T) (Scalar.ofBits .f32 0x3F800000#32) W) (fun r d => ?_) (fun r d => ?_) (fun r d => ?_) (fun r d => ?_) h r d).trans (pay60_at H T W r _)
  · pointwise [k0_pay66]
  · pointwise [k0_pay68]
  · pointwise [k0_pay70]
  · pointwise [k0_pay73, k0_pay72]

end Lists

/-- A column of an array, zero outside it. -/
def at_ {n : ℕ} (f : Fin n → EReal) (i : ℕ) : EReal := if hi : i < n then f ⟨i, hi⟩ else 0

theorem at_eq {n : ℕ} (f : Fin n → EReal) (i : ℕ) (hi : i < n) : at_ f i = f ⟨i, hi⟩ := dif_pos hi

section Latent

variable (C : FVec Ideal S1024x512 .f32) (n : Vec Ideal S1x256 .f32) (U : Vec Ideal S256x1024 .bf16) (c s : FVec Ideal S1024x64 .f32)
  (K : FVec Ideal S1024x256 .bf16) (H : FVec Ideal S1024x1024 .bf16) (W : Vec Ideal S1024x128 .bf16) (r : Fin 1024) (h : Fin 4)

/-- A component of the queries' block. -/
def qG (h : Fin 4) (d : ℕ) (r : Fin 1024) : EReal :=
  if d < 128 then at_ (fun j => k0_pay10 C n U (ix2 r j)) (h.val * 128 + d)
  else at_ (fun j => k0_pay10 C n U (ix2 r j)) (512 + (h.val * 64 + (d - 128))) * at_ (fun e => c (ix2 r e)) (d - 128)
    + at_ (fun j => k0_pay10 C n U (ix2 r j)) (768 + (h.val * 64 + (d - 128))) * at_ (fun e => s (ix2 r e)) (d - 128)

theorem pay11_at (j : Fin 512) : k0_pay11 C n U (ix2 j r) = at_ (fun j => k0_pay10 C n U (ix2 r j)) j.val := by
  rw [at_eq _ _ (by omega)]
  pointwise [k0_pay11]

theorem pick (f : Fin 64 → EReal) (e : Fin 64) :
    (if h1 : h.val * 64 + e.val < 64 then f ⟨h.val * 64 + e.val, h1⟩
      else if h2 : h.val * 64 + e.val - 64 < 64 then f ⟨h.val * 64 + e.val - 64, h2⟩
      else if h3 : h.val * 64 + e.val - 64 - 64 < 64 then f ⟨h.val * 64 + e.val - 64 - 64, h3⟩
      else f ⟨h.val * 64 + e.val - 64 - 64 - 64, by omega⟩) = f e := by
  split_ifs <;> exact congrArg f (Fin.ext (by dsimp only; omega))

theorem pay12_at (e : Fin 64) : k0_pay12 c s C n U (ix2 ⟨h.val * 64 + e.val, by omega⟩ r) = qG C n U c s h (128 + e.val) r := by
  unfold qG
  rw [if_neg (by omega)]
  simp only [Nat.add_sub_cancel_left]
  rw [at_eq _ _ (by omega), at_eq _ _ (by omega), at_eq _ _ (by omega), at_eq _ _ (by omega)]
  pointwise [k0_pay12]
  exact congrArg₂ (· + ·) (congrArg₂ (· * ·) rfl (pick h (fun e => c (ix2 r e)) e)) (congrArg₂ (· * ·) rfl (pick h (fun e => s (ix2 r e)) e))

theorem nope_at (d : Fin 128) (j : Fin 512) (hj : j.val = h.val * 128 + d.val) : k0_pay11 C n U (ix2 j r) = qG C n U c s h d.val r := by
  unfold qG
  rw [if_pos d.isLt, pay11_at, hj]

theorem rope_at (e : Fin 64) (j : Fin 256) (hj : j.val = h.val * 64 + e.val) : k0_pay12 c s C n U (ix2 j r) = qG C n U c s h (128 + e.val) r := by
  rw [← pay12_at]
  exact congrArg (fun j => k0_pay12 c s C n U (ix2 j r)) (Fin.ext hj)

theorem q_at (d : Fin 192) :
    View.canon (eightT (k0_pay14 (k0_pay13 C n U)) (k0_pay15 (k0_pay12 c s C n U)) (k0_pay16 (k0_pay11 C n U)) (k0_pay17 (k0_pay12 c s C n U))
      (k0_pay18 (k0_pay11 C n U)) (k0_pay19 (k0_pay12 c s C n U)) (k0_pay21 (k0_pay20 (k0_pay11 C n U))) (k0_pay22 (k0_pay12 c s C n U))) (ix4 0 h d r)
    = qG C n U c s h d.val r := by
  refine eightT_at _ _ _ _ _ _ _ _ (qG C n U c s) (fun d r => ?_) (fun d r => ?_) (fun d r => ?_) (fun d r => ?_)
    (fun d r => ?_) (fun d r => ?_) (fun d r => ?_) (fun d r => ?_) h d r
  · rw [← nope_at C n U c s r 0 d ⟨d.val, by omega⟩ (by simp)]; pointwise [k0_pay14, k0_pay13]
  · rw [← nope_at C n U c s r 1 d ⟨128 + d.val, by omega⟩ (by simp)]; pointwise [k0_pay16]
  · rw [← nope_at C n U c s r 2 d ⟨256 + d.val, by omega⟩ (by simp)]; pointwise [k0_pay18]
  · rw [← nope_at C n U c s r 3 d ⟨384 + d.val, by omega⟩ (by simp)]; pointwise [k0_pay21, k0_pay20]
  · rw [← rope_at C n U c s r 0 d ⟨d.val, by omega⟩ (by simp)]; pointwise [k0_pay15]
  · rw [← rope_at C n U c s r 1 d ⟨64 + d.val, by omega⟩ (by simp)]; pointwise [k0_pay17]
  · rw [← rope_at C n U c s r 2 d ⟨128 + d.val, by omega⟩ (by simp)]; pointwise [k0_pay19]
  · rw [← rope_at C n U c s r 3 d ⟨192 + d.val, by omega⟩ (by simp)]; pointwise [k0_pay22]

/-- A component of the keys' block. -/
def kG (h : Fin 4) (d : ℕ) (r : Fin 1024) : EReal :=
  if d < 128 then at_ (fun j => k0_pay23 K U (ix2 r j)) (h.val * 128 + d) else at_ (fun e => k0_pay24 H c s W (ix2 r e)) (d - 128)

theorem knope_at (d : Fin 128) (j : Fin 1024) (hj : j.val = h.val * 128 + d.val) : k0_pay23 K U (ix2 r j) = kG U c s K H W h d.val r := by
  unfold kG
  rw [if_pos d.isLt, at_eq _ _ (by omega)]
  exact congrArg (fun j => k0_pay23 K U (ix2 r j)) (Fin.ext hj)

theorem krope_at (e : Fin 64) : k0_pay24 H c s W (ix2 r e) = kG U c s K H W h (128 + e.val) r := by
  unfold kG
  rw [if_neg (by omega), Nat.add_sub_cancel_left, at_eq _ _ (by omega)]

theorem k_at (d : Fin 192) :
    View.canon (eight (k0_pay26 K U) (k0_pay27 H c s W) (k0_pay30 (k0_pay23 K U)) (k0_pay31 (k0_pay24 H c s W))
      (k0_pay33 (k0_pay23 K U)) (k0_pay34 (k0_pay24 H c s W)) (k0_pay37 (k0_pay36 (k0_pay23 K U))) (k0_pay38 (k0_pay24 H c s W))) (ix4 0 h r d)
    = kG U c s K H W h d.val r := by
  refine eight_at _ _ _ _ _ _ _ _ (kG U c s K H W) (fun r d => ?_) (fun r d => ?_) (fun r d => ?_) (fun r d => ?_)
    (fun r d => ?_) (fun r d => ?_) (fun r d => ?_) (fun r d => ?_) h d r
  · rw [← knope_at U c s K H W r 0 d ⟨d.val, by omega⟩ (by simp)]; pointwise [k0_pay26]
  · rw [← knope_at U c s K H W r 1 d ⟨128 + d.val, by omega⟩ (by simp)]; pointwise [k0_pay30]
  · rw [← knope_at U c s K H W r 2 d ⟨256 + d.val, by omega⟩ (by simp)]; pointwise [k0_pay33]
  · rw [← knope_at U c s K H W r 3 d ⟨384 + d.val, by omega⟩ (by simp)]; pointwise [k0_pay37, k0_pay36]
  · rw [← krope_at U c s K H W r 0 d]; pointwise [k0_pay27]
  · rw [← krope_at U c s K H W r 1 d]; pointwise [k0_pay31]
  · rw [← krope_at U c s K H W r 2 d]; pointwise [k0_pay34]
  · rw [← krope_at U c s K H W r 3 d]; pointwise [k0_pay38]

/-- A component of the values' block. -/
def vG (h : Fin 4) (d : ℕ) (r : Fin 1024) : EReal := at_ (fun j => k0_pay23 K U (ix2 r j)) (512 + (h.val * 128 + d))

theorem vat (d : Fin 128) (j : Fin 512) (hj : j.val = h.val * 128 + d.val) : k0_pay25 K U (ix2 j r) = vG U K h d.val r := by
  unfold vG
  rw [at_eq _ _ (by omega)]
  pointwise [k0_pay25]
  exact congrArg (fun j => k0_pay23 K U (ix2 r j)) (Fin.ext (by dsimp only; omega))

theorem v_at (d : Fin 128) :
    View.canon (fourT (k0_pay29 (k0_pay28 K U)) (k0_pay32 (k0_pay25 K U)) (k0_pay35 (k0_pay25 K U)) (k0_pay39 (k0_pay25 K U))) (ix4 0 h d r)
    = vG U K h d.val r := by
  refine fourT_at _ _ _ _ (vG U K) (fun d r => ?_) (fun d r => ?_) (fun d r => ?_) (fun d r => ?_) h d r
  · rw [← vat U K r 0 d ⟨d.val, by omega⟩ (by simp)]; pointwise [k0_pay29, k0_pay28]
  · rw [← vat U K r 1 d ⟨128 + d.val, by omega⟩ (by simp)]; pointwise [k0_pay32]
  · rw [← vat U K r 2 d ⟨256 + d.val, by omega⟩ (by simp)]; pointwise [k0_pay35]
  · rw [← vat U K r 3 d ⟨384 + d.val, by omega⟩ (by simp)]; pointwise [k0_pay39]

end Latent

end Cert.ProjIdeal.Block

end
-- ==== Proof.ProjOut.lean ====
/- What the input projections' kernel leaves in each output's block at a grid point, in terms of the program's arguments. -/
module

public import proofs.«01_k».proof.Proof.ProjIdealFrame
public import proofs.«01_k».proof.Proof.ProjHost
public import proofs.«01_k».proof.Proof.ProjBlock

@[expose] public section

set_option maxRecDepth 16384

noncomputable section

namespace Cert.ProjIdeal.Result

open Cert.ProjIdeal Cert.ProjIdeal.Gen Idealize.ShloMosaic Idealize.ShloMosaic.TcCoe Cert.ProjMath Idealize.SL.Sem
open Idealize.ShloMosaic.Pipeline (Dat)

variable (m : (ℓ : Loc nD τ sig) → Buf (Elt Ideal) ℓ) (c : Dev nD) (t : Fin cfg0.N)

/-- A row's products with the columns of the input weights, off the program's arguments. -/
def colsOf (b : Fin 8) (r : Fin 4096) : Fin 3136 → EReal :=
  cols (fun l => m ((c : Thread nD τ).loc main_arg0) (ix3 b r l)) (fun l => m ((c : Thread nD τ).loc main_arg2) (ix2 0 l))
    (fun l => m ((c : Thread nD τ).loc main_arg1) (ix2 b l)) (fun k j => m ((c : Thread nD τ).loc main_arg3) (ix3 0 k j))

/-- A row's normalised and modulated entries, off the program's arguments. -/
def hidOf (b : Fin 8) (r : Fin 4096) : Fin 1024 → EReal :=
  FfnMath.hid (fun l => m ((c : Thread nD τ).loc main_arg0) (ix3 b r l)) (fun l => m ((c : Thread nD τ).loc main_arg2) (ix2 0 l))
    (fun l => m ((c : Thread nD τ).loc main_arg1) (ix2 b ⟨1024 + l.val, by omega⟩)) (fun l => m ((c : Thread nD τ).loc main_arg1) (ix2 b ⟨l.val, by omega⟩))

theorem colsOf_eq (b : Fin 8) (r : Fin 4096) (j : Fin 3136) :
    colsOf m c b r j = ∑ k, hidOf m c b r k * m ((c : Thread nD τ).loc main_arg3) (ix3 0 k j) := rfl

/-- The normalised and modulated rows of a point's block. -/
def HB : FVec Ideal S1024x1024 .bf16 :=
  k0_pay3 (View.ld (iblk m c 0 t) (Rect.unit ![0, 0, 0] ![1, 1024, 1024] inb_S1x1024x1024_S1x1024x1024_0_0_0))
    (View.ld (iblk m c 1 t) (Rect.unit ![0, 0, 0] ![1, 1, 1024] inb_S1x8x1024_S1x1x1024_0_0_0))
    (View.ld (iblk m c 2 t) (Rect.unit ![0, 0] ![1, 1024] inb_S1x1024_S1x1024_0_0))
    (View.ld (iblk m c 1 t) (Rect.unit ![0, 1, 0] ![1, 1, 1024] inb_S1x8x1024_S1x1x1024_0_1_0))

theorem HB_at (r l : Fin 1024) : HB m c t (ix2 r l) = hidOf m c (at0 t) (at1 t r) l := by
  refine (Block.pay3_at _ _ _ _ r l).trans ?_
  have e0 : ∀ l : Fin 1024, View.ld (iblk m c 0 t) (Rect.unit ![0, 0, 0] ![1, 1024, 1024] inb_S1x1024x1024_S1x1024x1024_0_0_0) (ix3 0 r l)
      = m ((c : Thread nD τ).loc main_arg0) (ix3 (at0 t) (at1 t r) l) := fun l => by
    rw [← blk0 m c t]; pointwise
  have e1 : ∀ l : Fin 1024, View.ld (iblk m c 1 t) (Rect.unit ![0, 0, 0] ![1, 1, 1024] inb_S1x8x1024_S1x1x1024_0_0_0) (ix3 0 0 l)
      = m ((c : Thread nD τ).loc main_arg1) (ix2 (at0 t) ⟨l.val, by omega⟩) := fun l => by
    refine Eq.trans ?_ ((blk1 m c t 0 l).trans (congrArg (fun n => m ((c : Thread nD τ).loc main_arg1) (ix2 (at0 t) n)) (Fin.ext (by simp))))
    pointwise
    try rfl
  have e2 : ∀ l : Fin 1024, View.ld (iblk m c 2 t) (Rect.unit ![0, 0] ![1, 1024] inb_S1x1024_S1x1024_0_0) (ix2 0 l)
      = m ((c : Thread nD τ).loc main_arg2) (ix2 0 l) := fun l => by
    rw [← blk2 m c t]; pointwise
  have e3 : ∀ l : Fin 1024, View.ld (iblk m c 1 t) (Rect.unit ![0, 1, 0] ![1, 1, 1024] inb_S1x8x1024_S1x1x1024_0_1_0) (ix3 0 0 l)
      = m ((c : Thread nD τ).loc main_arg1) (ix2 (at0 t) ⟨1024 + l.val, by omega⟩) := fun l => by
    refine Eq.trans ?_ ((blk1 m c t 1 l).trans (congrArg (fun n => m ((c : Thread nD τ).loc main_arg1) (ix2 (at0 t) n)) (Fin.ext (by simp))))
    pointwise
    try rfl
  simp only [e0, e1, e2, e3]
  rfl

theorem hq_blk (h : Fin 4) (r : Fin 1024) (d : Fin 128) :
    (outsAt0 m c t).2.2.2.1 (ix4 0 h r d) = colsOf m c (at0 t) (at1 t r) ⟨576 + (h.val * 128 + d.val), by omega⟩ := by
  dsimp only [outsAt0]
  unfold out0_A_17
  rw [View.read_writes_junk_eq_canon]
  dsimp only [kernelRun0_A]
  refine (Block.hq_at _ _ r h d).trans ?_
  simp only [kernelRun0_A.sl.r, View.readAt_eq_ld, Memref.IsWhole.read_unread]
  rw [colsOf_eq]
  refine Finset.sum_congr rfl fun k _ => congrArg₂ (· * ·) (HB_at m c t r k) ?_
  refine Eq.trans ?_ ((blk4 m c t k ⟨0 + (h.val * 128 + d.val), by omega⟩).trans ?_)
  · pointwise
  · exact congrArg (fun n => m ((c : Thread nD τ).loc main_arg3) (ix3 0 k n)) (Fin.ext (by dsimp only; omega))

theorem hi_blk (h : Fin 4) (r : Fin 1024) (d : Fin 128) :
    (outsAt0 m c t).2.2.2.2.1 (ix4 0 h r d) = colsOf m c (at0 t) (at1 t r) ⟨1088 + (h.val * 128 + d.val), by omega⟩ := by
  dsimp only [outsAt0]
  unfold out0_A_18
  rw [View.read_writes_junk_eq_canon]
  dsimp only [kernelRun0_A]
  refine (Block.hi_at _ _ r h d).trans ?_
  simp only [kernelRun0_A.sl.r, View.readAt_eq_ld, Memref.IsWhole.read_unread]
  rw [colsOf_eq]
  refine Finset.sum_congr rfl fun k _ => congrArg₂ (· * ·) (HB_at m c t r k) ?_
  refine Eq.trans ?_ ((blk4 m c t k ⟨512 + (h.val * 128 + d.val), by omega⟩).trans ?_)
  · pointwise
  · exact congrArg (fun n => m ((c : Thread nD τ).loc main_arg3) (ix3 0 k n)) (Fin.ext (by dsimp only; omega))

theorem hg_blk (h : Fin 4) (r : Fin 1024) (d : Fin 128) :
    (outsAt0 m c t).2.2.2.2.2.1 (ix4 0 h r d) = colsOf m c (at0 t) (at1 t r) ⟨1600 + (h.val * 128 + d.val), by omega⟩ := by
  dsimp only [outsAt0]
  unfold out0_A_19
  rw [View.read_writes_junk_eq_canon]
  dsimp only [kernelRun0_A]
  refine (Block.hg_at _ _ r h d).trans ?_
  simp only [kernelRun0_A.sl.r, View.readAt_eq_ld, Memref.IsWhole.read_unread]
  rw [colsOf_eq]
  refine Finset.sum_congr rfl fun k _ => congrArg₂ (· * ·) (HB_at m c t r k) ?_
  refine Eq.trans ?_ ((blk4 m c t k ⟨1024 + (h.val * 128 + d.val), by omega⟩).trans ?_)
  · pointwise
  · exact congrArg (fun n => m ((c : Thread nD τ).loc main_arg3) (ix3 0 k n)) (Fin.ext (by dsimp only; omega))

theorem kf_blk (h : Fin 4) (r : Fin 1024) (d : Fin 128) :
    (outsAt0 m c t).2.2.2.2.2.2.1 (ix4 0 h r d)
      = gate (low (m ((c : Thread nD τ).loc main_arg10) (ix2 0 ⟨h.val * 128 + d.val, by omega⟩)) (m ((c : Thread nD τ).loc main_arg10) (ix2 1 ⟨h.val * 128 + d.val, by omega⟩)))
          (colsOf m c (at0 t) (at1 t r) ⟨2112 + (h.val * 128 + d.val), by omega⟩) := by
  dsimp only [outsAt0]
  unfold out0_A_20
  rw [View.read_writes_junk_eq_canon]
  dsimp only [kernelRun0_A]
  simp only [kernelRun0_A.sl.r_17]
  refine (Block.kf_at _ _ _ r h d).trans ?_
  simp only [kernelRun0_A.sl.r, View.readAt_eq_ld, Memref.IsWhole.read_unread]
  have eT : ∀ (q : Fin 2) (j : Fin 512), View.ld (iblk m c 12 t) (Rect.unit ![0, 0] ![2, 512] inb_S2x512_S2x512_0_0) (ix2 q j)
      = m ((c : Thread nD τ).loc main_arg10) (ix2 q j) := fun q j => by
    rw [← blk12 m c t]; pointwise
  rw [colsOf_eq]
  refine congrArg₂ gate (congrArg₂ low (eT 0 _) (eT 1 _)) (Finset.sum_congr rfl fun k _ => congrArg₂ (· * ·) (HB_at m c t r k) ?_)
  refine Eq.trans ?_ ((blk4 m c t k ⟨1536 + (h.val * 128 + d.val), by omega⟩).trans ?_)
  · pointwise
  · exact congrArg (fun n => m ((c : Thread nD τ).loc main_arg3) (ix3 0 k n)) (Fin.ext (by dsimp only; omega))

theorem kb_blk (h : Fin 4) (r : Fin 1024) (d : Fin 128) :
    (outsAt0 m c t).2.2.2.2.2.2.2.2.1 (ix4 0 h r d)
      = gate (low (m ((c : Thread nD τ).loc main_arg11) (ix2 0 ⟨h.val * 128 + d.val, by omega⟩)) (m ((c : Thread nD τ).loc main_arg11) (ix2 1 ⟨h.val * 128 + d.val, by omega⟩)))
          (colsOf m c (at0 t) (at1 t r) ⟨2624 + (h.val * 128 + d.val), by omega⟩) := by
  dsimp only [outsAt0]
  unfold out0_A_22
  rw [View.read_writes_junk_eq_canon]
  dsimp only [kernelRun0_A]
  simp only [kernelRun0_A.sl.r_27, kernelRun0_A.sl.r_26, kernelRun0_A.sl.r_32]
  refine (Block.kb_at _ _ _ r h d).trans ?_
  simp only [kernelRun0_A.sl.r, View.readAt_eq_ld, Memref.IsWhole.read_unread]
  have eT : ∀ (q : Fin 2) (j : Fin 512), View.ld (iblk m c 13 t) (Rect.unit ![0, 0] ![2, 512] inb_S2x512_S2x512_0_0) (ix2 q j)
      = m ((c : Thread nD τ).loc main_arg11) (ix2 q j) := fun q j => by
    rw [← blk13 m c t]; pointwise
  rw [colsOf_eq]
  refine congrArg₂ gate (congrArg₂ low (eT 0 _) (eT 1 _)) (Finset.sum_congr rfl fun k _ => congrArg₂ (· * ·) (HB_at m c t r k) ?_)
  refine Eq.trans ?_ ((blk4 m c t k ⟨2048 + (h.val * 128 + d.val), by omega⟩).trans ?_)
  · pointwise
  · exact congrArg (fun n => m ((c : Thread nD τ).loc main_arg3) (ix3 0 k n)) (Fin.ext (by dsimp only; omega))

/-- The latent columns of a point's rows. -/
def CB : FVec Ideal S1024x512 .f32 :=
  k0_pay6 (View.ld (iblk m c 0 t) (Rect.unit ![0, 0, 0] ![1, 1024, 1024] inb_S1x1024x1024_S1x1024x1024_0_0_0))
    (View.ld (iblk m c 1 t) (Rect.unit ![0, 0, 0] ![1, 1, 1024] inb_S1x8x1024_S1x1x1024_0_0_0))
    (View.ld (iblk m c 2 t) (Rect.unit ![0, 0] ![1, 1024] inb_S1x1024_S1x1024_0_0))
    (View.ld (iblk m c 1 t) (Rect.unit ![0, 1, 0] ![1, 1, 1024] inb_S1x8x1024_S1x1x1024_0_1_0))
    (View.ld (iblk m c 3 t) (Rect.unit ![0, 0] ![1024, 512] inb_S1024x512_S1024x512_0_0))

theorem CB_at (r : Fin 1024) (j : Fin 512) : CB m c t (ix2 r j) = colsOf m c (at0 t) (at1 t r) ⟨j.val, by omega⟩ := by
  refine (Block.pay6_at _ _ _ _ _ r j).trans ?_
  rw [colsOf_eq]
  refine Finset.sum_congr rfl fun k _ => congrArg₂ (· * ·) (HB_at m c t r k) (Eq.trans ?_ (blk3 m c t k j))
  pointwise

/-- A product after a latent vector depends on one column of its weights. -/
theorem lat_congr {n n' : Nat} {v v' g g' : Fin 256 → EReal} {W : Fin 256 → Fin n → EReal} {W' : Fin 256 → Fin n' → EReal} {j : Fin n} {j' : Fin n'}
    (hv : ∀ l, v l = v' l) (hg : ∀ l, g l = g' l) (hW : ∀ k, W k j = W' k j') : lat v g W j = lat v' g' W' j' := by
  obtain rfl : v = v' := funext hv
  obtain rfl : g = g' := funext hg
  exact Finset.sum_congr rfl fun k _ => congrArg _ (hW k)

section Loads

theorem ld6 (l : Fin 256) : View.ld (iblk m c 6 t) (Rect.unit ![0, 0] ![1, 256] inb_S1x256_S1x256_0_0) (ix2 0 l) = m ((c : Thread nD τ).loc main_arg4) (ix2 0 l) := by
  rw [← blk6 m c t]; pointwise

theorem ld8 (l : Fin 256) : View.ld (iblk m c 8 t) (Rect.unit ![0, 0] ![1, 256] inb_S1x256_S1x256_0_0) (ix2 0 l) = m ((c : Thread nD τ).loc main_arg6) (ix2 0 l) := by
  rw [← blk8 m c t]; pointwise

theorem ld7 (k : Fin 256) (j : Fin 1024) : View.ld (iblk m c 7 t) (Rect.unit ![0, 0] ![256, 1024] inb_S256x1024_S256x1024_0_0) (ix2 k j) = qW (m ((c : Thread nD τ).loc main_arg5)) (ix2 k j) := by
  rw [← blk7 m c t]; pointwise

theorem ld9 (k : Fin 256) (j : Fin 1024) : View.ld (iblk m c 9 t) (Rect.unit ![0, 0] ![256, 1024] inb_S256x1024_S256x1024_0_0) (ix2 k j) = kvW (m ((c : Thread nD τ).loc main_arg7)) (ix2 k j) := by
  rw [← blk9 m c t]; pointwise

theorem ld5 (k : Fin 1024) (j : Fin 128) : View.ld (iblk m c 5 t) (Rect.unit ![0, 0] ![1024, 128] inb_S1024x128_S1024x128_0_0) (ix2 k j) = keyW (m ((c : Thread nD τ).loc main_arg3)) (ix2 k j) := by
  rw [← blk5 m c t]; pointwise

theorem ld10 (r : Fin 1024) (e : Fin 64) : k0_pay4 (View.ld (iblk m c 10 t) (Rect.unit ![0, 0] ![1024, 64] inb_S1024x64_S1024x64_0_0)) (ix2 r e)
    = m ((c : Thread nD τ).loc main_arg8) (ix2 (at1 t r) (ang e)) := by
  refine Eq.trans ?_ ((blk10 m c t r e).trans (cosT_apply _ _ _)); pointwise [k0_pay4]

theorem ld11 (r : Fin 1024) (e : Fin 64) : k0_pay5 (View.ld (iblk m c 11 t) (Rect.unit ![0, 0] ![1024, 64] inb_S1024x64_S1024x64_0_0)) (ix2 r e)
    = sgn (fun n => m ((c : Thread nD τ).loc main_arg9) (ix2 (at1 t r) n)) e := by
  refine Eq.trans ?_ ((blk11 m c t r e).trans (sinT_apply _ _ _)); pointwise [k0_pay5]

end Loads

theorem q_blk (h : Fin 4) (d : Fin 192) (r : Fin 1024) :
    (outsAt0 m c t).1 (ix4 0 h d r)
      = query (colsOf m c (at0 t) (at1 t r)) (fun l => m ((c : Thread nD τ).loc main_arg4) (ix2 0 l)) (fun k j => m ((c : Thread nD τ).loc main_arg5) (ix3 0 k j))
          (fun n => m ((c : Thread nD τ).loc main_arg8) (ix2 (at1 t r) n)) (fun n => m ((c : Thread nD τ).loc main_arg9) (ix2 (at1 t r) n)) h d := by
  dsimp only [outsAt0]
  unfold out0_A_14
  rw [View.read_writes_junk_eq_canon]
  dsimp only [kernelRun0_A]
  simp only [kernelRun0_A.sl.r_9, kernelRun0_A.sl.r_8, kernelRun0_A.sl.r_10, kernelRun0_A.sl.r_7]
  refine (Block.q_at _ _ _ _ _ r h d).trans ?_
  simp only [kernelRun0_A.sl.r_1, kernelRun0_A.sl.r_2, kernelRun0_A.sl.r_3, View.readAt_eq_ld, Memref.IsWhole.read_unread]
  unfold Block.qG query
  have hd := d.isLt
  split_ifs with h1
  · rw [Block.at_eq _ _ (by omega), Block.pay10_at]
    exact lat_congr (fun l => CB_at m c t r _) (fun l => ld6 m c t l) (fun k => (ld7 m c t k _).trans (qW_nope _ k h ⟨d.val, h1⟩))
  · rw [Block.at_eq _ _ (by omega), Block.at_eq _ _ (by omega), Block.at_eq _ _ (by omega), Block.at_eq _ _ (by omega), Block.pay10_at, Block.pay10_at, ← rope_turn]
    refine congrArg₂ (· + ·) (congrArg₂ (· * ·) ?_ (ld10 m c t r _)) (congrArg₂ (· * ·) ?_ (ld11 m c t r _))
    · exact lat_congr (fun l => CB_at m c t r _) (fun l => ld6 m c t l) (fun k => (ld7 m c t k _).trans (qW_rope _ k h ⟨d.val - 128, by omega⟩))
    · exact lat_congr (fun l => CB_at m c t r _) (fun l => ld6 m c t l) (fun k => (ld7 m c t k _).trans (qW_turn _ k h ⟨d.val - 128, by omega⟩))

/-- The normalised latent of the keys and values, of a point's rows. -/
theorem KB_at (r : Fin 1024) (j : Fin 1024) (U' : Fin 256 → Fin 1024 → EReal) (j' : Fin 1024) (hU : ∀ k, kvW (m ((c : Thread nD τ).loc main_arg7)) (ix2 k j) = U' k j') :
    k0_pay23 (k0_pay9 (k0_pay7 (View.ld (iblk m c 0 t) (Rect.unit ![0, 0, 0] ![1, 1024, 1024] inb_S1x1024x1024_S1x1024x1024_0_0_0))
        (View.ld (iblk m c 1 t) (Rect.unit ![0, 0, 0] ![1, 1, 1024] inb_S1x8x1024_S1x1x1024_0_0_0))
        (View.ld (iblk m c 2 t) (Rect.unit ![0, 0] ![1, 1024] inb_S1x1024_S1x1024_0_0))
        (View.ld (iblk m c 1 t) (Rect.unit ![0, 1, 0] ![1, 1, 1024] inb_S1x8x1024_S1x1x1024_0_1_0))
        (View.ld (iblk m c 3 t) (Rect.unit ![0, 0] ![1024, 512] inb_S1024x512_S1024x512_0_0)))
      (k0_pay8 (View.ld (iblk m c 0 t) (Rect.unit ![0, 0, 0] ![1, 1024, 1024] inb_S1x1024x1024_S1x1024x1024_0_0_0))
        (View.ld (iblk m c 1 t) (Rect.unit ![0, 0, 0] ![1, 1, 1024] inb_S1x8x1024_S1x1x1024_0_0_0))
        (View.ld (iblk m c 2 t) (Rect.unit ![0, 0] ![1, 1024] inb_S1x1024_S1x1024_0_0))
        (View.ld (iblk m c 1 t) (Rect.unit ![0, 1, 0] ![1, 1, 1024] inb_S1x8x1024_S1x1x1024_0_1_0))
        (View.ld (iblk m c 3 t) (Rect.unit ![0, 0] ![1024, 512] inb_S1024x512_S1024x512_0_0)))
      (View.ld (iblk m c 8 t) (Rect.unit ![0, 0] ![1, 256] inb_S1x256_S1x256_0_0)))
      (View.ld (iblk m c 9 t) (Rect.unit ![0, 0] ![256, 1024] inb_S256x1024_S256x1024_0_0)) (ix2 r j)
      = lat (fun l => colsOf m c (at0 t) (at1 t r) ⟨256 + l.val, by omega⟩) (fun l => m ((c : Thread nD τ).loc main_arg6) (ix2 0 l)) U' j' := by
  refine (Block.pay23_at _ _ r j).trans (Finset.sum_congr rfl fun k _ => congrArg₂ (· * ·) ((Block.pay9_at _ _ _ _ _ _ r k).trans ?_) ((ld9 m c t k j).trans (hU k)))
  exact congrArg₂ (· * ·) (congrFun (congrArg unit (funext fun l => CB_at m c t r _)) k) (ld8 m c t k)

theorem k_blk (h : Fin 4) (r : Fin 1024) (d : Fin 192) :
    (outsAt0 m c t).2.1 (ix4 0 h r d)
      = key (colsOf m c (at0 t) (at1 t r)) (fun l => m ((c : Thread nD τ).loc main_arg6) (ix2 0 l)) (fun k j => m ((c : Thread nD τ).loc main_arg7) (ix3 0 k j))
          (fun n => m ((c : Thread nD τ).loc main_arg8) (ix2 (at1 t r) n)) (fun n => m ((c : Thread nD τ).loc main_arg9) (ix2 (at1 t r) n)) h d := by
  dsimp only [outsAt0]
  unfold out0_A_15
  rw [View.read_writes_junk_eq_canon]
  dsimp only [kernelRun0_A]
  simp only [kernelRun0_A.sl.r_16, kernelRun0_A.sl.r_11, kernelRun0_A.sl.r_12]
  refine (Block.k_at _ _ _ _ _ _ r h d).trans ?_
  simp only [kernelRun0_A.sl.r, kernelRun0_A.sl.r_1, kernelRun0_A.sl.r_2, kernelRun0_A.sl.r_6, kernelRun0_A.sl.r_4, kernelRun0_A.sl.r_5, View.readAt_eq_ld, Memref.IsWhole.read_unread]
  unfold Block.kG key
  have hd := d.isLt
  split_ifs with h1
  · rw [Block.at_eq _ _ (by omega)]
    exact KB_at m c t r _ _ _ (fun k => kvW_left _ k h ⟨d.val, h1⟩)
  · rw [Block.at_eq _ _ (by omega), Block.pay24_at, ← rope_turn]
    refine congrArg₂ (· + ·) (congrArg₂ (· * ·) ?_ (ld10 m c t r _)) (congrArg₂ (· * ·) ?_ (ld11 m c t r _))
    · rw [colsOf_eq]
      exact Finset.sum_congr rfl fun k _ => congrArg₂ (· * ·) (HB_at m c t r k) ((ld5 m c t k _).trans (keyW_left _ k ⟨d.val - 128, by omega⟩))
    · rw [colsOf_eq]
      exact Finset.sum_congr rfl fun k _ => congrArg₂ (· * ·) (HB_at m c t r k) ((ld5 m c t k _).trans (keyW_right _ k ⟨d.val - 128, by omega⟩))

theorem v_blk (h : Fin 4) (d : Fin 128) (r : Fin 1024) :
    (outsAt0 m c t).2.2.1 (ix4 0 h d r)
      = value (colsOf m c (at0 t) (at1 t r)) (fun l => m ((c : Thread nD τ).loc main_arg6) (ix2 0 l)) (fun k j => m ((c : Thread nD τ).loc main_arg7) (ix3 0 k j)) h d := by
  dsimp only [outsAt0]
  unfold out0_A_16
  rw [View.read_writes_junk_eq_canon]
  dsimp only [kernelRun0_A]
  simp only [kernelRun0_A.sl.r_13, kernelRun0_A.sl.r_14]
  refine (Block.v_at _ _ r h d).trans ?_
  simp only [kernelRun0_A.sl.r_6, kernelRun0_A.sl.r_4, kernelRun0_A.sl.r_5, View.readAt_eq_ld, Memref.IsWhole.read_unread]
  unfold Block.vG value
  rw [Block.at_eq _ _ (by omega)]
  exact KB_at m c t r _ _ _ (fun k => kvW_right _ k h d)

end Cert.ProjIdeal.Result

end
-- ==== Proof.ProjValue.lean ====
/- The result arrays of the input projections' kernel: each holds, index by index, the mathematics of the arguments' rows. -/
module

public import proofs.«01_k».proof.Proof.ProjOut

@[expose] public section

set_option maxRecDepth 16384

noncomputable section

namespace Cert.ProjIdeal.Result

open Cert.ProjIdeal Cert.ProjIdeal.Gen Idealize.ShloMosaic Idealize.ShloMosaic.TcCoe Cert.ProjMath Idealize.SL.Sem
open Idealize.ShloMosaic.Pipeline (Dat)

variable (m : (ℓ : Loc nD τ sig) → Buf (Elt Ideal) ℓ) (c : Dev nD)

/-- The queries as a function of the argument arrays. -/
def Gq : FVec Ideal S8x4x192x4096 .bf16 := fun i =>
  query (colsOf m c (i 0) (i 3)) (fun l => m ((c : Thread nD τ).loc main_arg4) (ix2 0 l)) (fun k j => m ((c : Thread nD τ).loc main_arg5) (ix3 0 k j))
    (fun n => m ((c : Thread nD τ).loc main_arg8) (ix2 (i 3) n)) (fun n => m ((c : Thread nD τ).loc main_arg9) (ix2 (i 3) n)) (i 1) (i 2)

/-- The keys as a function of the argument arrays. -/
def Gk : FVec Ideal S8x4x4096x192 .bf16 := fun i =>
  key (colsOf m c (i 0) (i 2)) (fun l => m ((c : Thread nD τ).loc main_arg6) (ix2 0 l)) (fun k j => m ((c : Thread nD τ).loc main_arg7) (ix3 0 k j))
    (fun n => m ((c : Thread nD τ).loc main_arg8) (ix2 (i 2) n)) (fun n => m ((c : Thread nD τ).loc main_arg9) (ix2 (i 2) n)) (i 1) (i 3)

/-- The values as a function of the argument arrays. -/
def Gv : FVec Ideal S8x4x128x4096 .bf16 := fun i =>
  value (colsOf m c (i 0) (i 3)) (fun l => m ((c : Thread nD τ).loc main_arg6) (ix2 0 l)) (fun k j => m ((c : Thread nD τ).loc main_arg7) (ix3 0 k j)) (i 1) (i 2)

/-- Columns of the products from `o` on, laid out by head. -/
def Gh (o : ℕ) (ho : o + 512 ≤ 3136) : FVec Ideal S8x4x4096x128 .bf16 := fun i =>
  colsOf m c (i 0) (i 2) ⟨o + ((i 1).val * 128 + (i 3).val), by have h1 : (i 1).val < 4 := (i 1).isLt; have h3 : (i 3).val < 128 := (i 3).isLt; omega⟩

/-- One minus the gate of the columns from `o` on, laid out by head, with the bounds' logits `T`. -/
def Gg (o : ℕ) (ho : o + 512 ≤ 3136) (T : FVec Ideal S2x512 .f32) : FVec Ideal S8x4x4096x128 .bf16 := fun i =>
  have h1 : (i 1).val < 4 := (i 1).isLt
  have h3 : (i 3).val < 128 := (i 3).isLt
  gate (low (T (ix2 0 ⟨(i 1).val * 128 + (i 3).val, by omega⟩)) (T (ix2 1 ⟨(i 1).val * 128 + (i 3).val, by omega⟩))) (Gh m c o ho i)

theorem final_q : (dats m 0 c).arrAt 14 cfg0.N = Gq m c := by
  refine (dats m 0 c).arrAt_eq_of_covers 14 _ (by decide +kernel) fun t hf y => ?_
  blk_simp
  rw [after0_14]
  idx_vars y
  obtain rfl : y0 = 0 := Subsingleton.elim _ _
  rw [show ((View.whole main_v51_0).slice (win0_14.rect t)).emb (ix4 0 y1 y2 y3) = ix4 (at0 t) y1 y2 (at1 t y3) from by blk_ext [idx t]; rfl]
  exact q_blk m c t y1 y2 y3

theorem final_k : (dats m 0 c).arrAt 15 cfg0.N = Gk m c := by
  refine (dats m 0 c).arrAt_eq_of_covers 15 _ (by decide +kernel) fun t hf y => ?_
  blk_simp
  rw [after0_15]
  idx_vars y
  obtain rfl : y0 = 0 := Subsingleton.elim _ _
  rw [show ((View.whole main_v51_1).slice (win0_15.rect t)).emb (ix4 0 y1 y2 y3) = ix4 (at0 t) y1 (at1 t y2) y3 from by blk_ext [idx t]; rfl]
  exact k_blk m c t y1 y2 y3

theorem final_v : (dats m 0 c).arrAt 16 cfg0.N = Gv m c := by
  refine (dats m 0 c).arrAt_eq_of_covers 16 _ (by decide +kernel) fun t hf y => ?_
  blk_simp
  rw [after0_16]
  idx_vars y
  obtain rfl : y0 = 0 := Subsingleton.elim _ _
  rw [show ((View.whole main_v51_2).slice (win0_16.rect t)).emb (ix4 0 y1 y2 y3) = ix4 (at0 t) y1 y2 (at1 t y3) from by blk_ext [idx t]; rfl]
  exact v_blk m c t y1 y2 y3

theorem final_hq : (dats m 0 c).arrAt 17 cfg0.N = Gh m c 576 (by omega) := by
  refine (dats m 0 c).arrAt_eq_of_covers 17 _ (by decide +kernel) fun t hf y => ?_
  blk_simp
  rw [after0_17]
  idx_vars y
  obtain rfl : y0 = 0 := Subsingleton.elim _ _
  rw [show ((View.whole main_v51_3).slice (win0_17.rect t)).emb (ix4 0 y1 y2 y3) = ix4 (at0 t) y1 (at1 t y2) y3 from by blk_ext [idx t]; rfl]
  exact hq_blk m c t y1 y2 y3

theorem final_hi : (dats m 0 c).arrAt 18 cfg0.N = Gh m c 1088 (by omega) := by
  refine (dats m 0 c).arrAt_eq_of_covers 18 _ (by decide +kernel) fun t hf y => ?_
  blk_simp
  rw [after0_18]
  idx_vars y
  obtain rfl : y0 = 0 := Subsingleton.elim _ _
  rw [show ((View.whole main_v51_4).slice (win0_18.rect t)).emb (ix4 0 y1 y2 y3) = ix4 (at0 t) y1 (at1 t y2) y3 from by blk_ext [idx t]; rfl]
  exact hi_blk m c t y1 y2 y3

theorem final_hg : (dats m 0 c).arrAt 19 cfg0.N = Gh m c 1600 (by omega) := by
  refine (dats m 0 c).arrAt_eq_of_covers 19 _ (by decide +kernel) fun t hf y => ?_
  blk_simp
  rw [after0_19]
  idx_vars y
  obtain rfl : y0 = 0 := Subsingleton.elim _ _
  rw [show ((View.whole main_v51_5).slice (win0_19.rect t)).emb (ix4 0 y1 y2 y3) = ix4 (at0 t) y1 (at1 t y2) y3 from by blk_ext [idx t]; rfl]
  exact hg_blk m c t y1 y2 y3

theorem final_kf : (dats m 0 c).arrAt 20 cfg0.N = Gg m c 2112 (by omega) (m ((c : Thread nD τ).loc main_arg10)) := by
  refine (dats m 0 c).arrAt_eq_of_covers 20 _ (by decide +kernel) fun t hf y => ?_
  blk_simp
  rw [after0_20]
  idx_vars y
  obtain rfl : y0 = 0 := Subsingleton.elim _ _
  rw [show ((View.whole main_v51_6).slice (win0_20.rect t)).emb (ix4 0 y1 y2 y3) = ix4 (at0 t) y1 (at1 t y2) y3 from by blk_ext [idx t]; rfl]
  exact kf_blk m c t y1 y2 y3

theorem final_kb : (dats m 0 c).arrAt 22 cfg0.N = Gg m c 2624 (by omega) (m ((c : Thread nD τ).loc main_arg11)) := by
  refine (dats m 0 c).arrAt_eq_of_covers 22 _ (by decide +kernel) fun t hf y => ?_
  blk_simp
  rw [after0_22]
  idx_vars y
  obtain rfl : y0 = 0 := Subsingleton.elim _ _
  rw [show ((View.whole main_v51_8).slice (win0_22.rect t)).emb (ix4 0 y1 y2 y3) = ix4 (at0 t) y1 (at1 t y2) y3 from by blk_ext [idx t]; rfl]
  exact kb_blk m c t y1 y2 y3

end Cert.ProjIdeal.Result

end
-- ==== Proof.ProjResult.lean ====
/- The run of the input projections' kernel over the ideal floats: what its eight result arrays hold at the end, and that its
   arguments stay. -/
module

public import proofs.«01_k».proof.Proof.ProjValue

@[expose] public section

set_option maxRecDepth 16384
set_option maxHeartbeats 4000000

noncomputable section

namespace Cert.ProjIdeal.Result

open Cert.ProjIdeal Cert.ProjIdeal.Gen Idealize.ShloMosaic Idealize.ShloMosaic.TcCoe Idealize.SL.Sem

variable (m : (ℓ : Loc nD τ sig) → Buf (Elt Ideal) ℓ)

section Reads

variable (c : Dev nD) (r : PUnit × MemSt nD τ sig (Elt Ideal)) (h : Pipeline.FramePost cfgs (dats m) 0 (V m) r)

include h

theorem read_q : r.2.mem ((c.tc : Thread nD τ).loc main_v51_0) = Gq m c := ((h c).1 14).trans (final_q m c)

theorem read_k : r.2.mem ((c.tc : Thread nD τ).loc main_v51_1) = Gk m c := ((h c).1 15).trans (final_k m c)

theorem read_v : r.2.mem ((c.tc : Thread nD τ).loc main_v51_2) = Gv m c := ((h c).1 16).trans (final_v m c)

theorem read_hq : r.2.mem ((c.tc : Thread nD τ).loc main_v51_3) = Gh m c 576 (by omega) := ((h c).1 17).trans (final_hq m c)

theorem read_hi : r.2.mem ((c.tc : Thread nD τ).loc main_v51_4) = Gh m c 1088 (by omega) := ((h c).1 18).trans (final_hi m c)

theorem read_hg : r.2.mem ((c.tc : Thread nD τ).loc main_v51_5) = Gh m c 1600 (by omega) := ((h c).1 19).trans (final_hg m c)

theorem read_kf : r.2.mem ((c.tc : Thread nD τ).loc main_v51_6) = Gg m c 2112 (by omega) (m ((c.tc : Thread nD τ).loc main_arg10)) := ((h c).1 20).trans (final_kf m c)

theorem read_kb : r.2.mem ((c.tc : Thread nD τ).loc main_v51_8) = Gg m c 2624 (by omega) (m ((c.tc : Thread nD τ).loc main_arg11)) := ((h c).1 22).trans (final_kb m c)

end Reads

theorem run_results (ρ : Dev nD → PrngReg) :
    θ_run defs (onTc (τ := τ) (main (F := Ideal))) ⟨m, fun _ => 0, ρ⟩ fun r => ∀ c : Dev nD,
      r.2.mem ((c.tc : Thread nD τ).loc main_v51_0) = Gq m c
      ∧ r.2.mem ((c.tc : Thread nD τ).loc main_v51_1) = Gk m c
      ∧ r.2.mem ((c.tc : Thread nD τ).loc main_v51_2) = Gv m c
      ∧ r.2.mem ((c.tc : Thread nD τ).loc main_v51_3) = Gh m c 576 (by omega)
      ∧ r.2.mem ((c.tc : Thread nD τ).loc main_v51_4) = Gh m c 1088 (by omega)
      ∧ r.2.mem ((c.tc : Thread nD τ).loc main_v51_5) = Gh m c 1600 (by omega)
      ∧ r.2.mem ((c.tc : Thread nD τ).loc main_v51_6) = Gg m c 2112 (by omega) (m ((c.tc : Thread nD τ).loc main_arg10))
      ∧ r.2.mem ((c.tc : Thread nD τ).loc main_v51_8) = Gg m c 2624 (by omega) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨read_q m c r h.1, read_k m c r h.1, read_v m c r h.1, read_hq m c r h.1, read_hi m c r h.1, read_hg m c r h.1, read_kf m c r h.1, read_kb m c r h.1, h.2 c⟩)
    (θ_run_and (run_main (F := Ideal) m ρ) (unchanged (F := Ideal) m ρ))

end Cert.ProjIdeal.Result

end
-- ==== Proof.ProjRefRow.lean ====
/- The input projections' reference, element by element: each of its arrays is what `ProjMath` says of the arguments' rows. -/
module

public import proofs.«01_k».proof.Proof.Gen.ProjRefIdeal.Run
public import proofs.«01_k».proof.Proof.ProjMath
public import Idealize.ShloMosaic.Lib.Pipeline.ValueKit

@[expose] public section

set_option maxRecDepth 16384

noncomputable section

namespace Cert.ProjRefIdeal.Row

open Cert.ProjRefIdeal Cert.ProjRefIdeal.Gen Idealize.ShloMosaic Idealize.ShloMosaic.TcCoe Cert.ProjMath Idealize.SL.Sem Idealize.ShloMosaic.StableHlo

/-- Every row divided by the root of its mean square. -/
def rms (v : FVec Ideal S8x4096x1024 .f32) : FVec Ideal S8x4096x1024 .f32 :=
  mulf v (broadcastInDim S8x4096x1024 ![0, 1, 2] bcast_S8x4096x1_S8x4096x1024_0_1_2 (Host.rsqrt (addf
    (Host.divf (broadcastInDim S8x4096x1 ![0, 1] bcast_S8x4096_S8x4096x1_0_1
        (Host.reduceAdd (mulf v v) (constant S_ .f32 0x00000000#32) reducesTo_S8x4096x1024_S8x4096_d2 h_S_))
      (broadcastInDim S8x4096x1 ![] bcast_S_S8x4096x1 (constant S_ .f32 0x44800000#32)))
    (broadcastInDim S8x4096x1 ![] bcast_S_S8x4096x1 (constant S_ .f32 0x358637BD#32)))))

/-- A modulation vector. -/
def modR (off : Fin 3 → Nat) (h : S8x1x6144.Slices off S8x1x1024) (a1 : FVec Ideal S8x6144 .f32) : FVec Ideal S8x1x1024 .f32 :=
  extractStridedSlice S8x1x1024 off (broadcastInDim S8x1x6144 ![0, 2] bcast_S8x6144_S8x1x6144_0_2 a1) h

/-- The normalised and modulated array. -/
def hidR (a0 : FVec Ideal S8x4096x1024 .f32) (a1 : FVec Ideal S8x6144 .f32) (a2 : FVec Ideal S1x1024 .f32) : FVec Ideal S8x4096x1024 .f32 :=
  addf (mulf (mulf (rms a0) (broadcastInDim S8x4096x1024 ![0, 1, 2] bcast_S1x1x1024_S8x4096x1024_0_1_2
      (broadcastInDim S1x1x1024 ![2] bcast_S1024_S1x1x1024_2 (shapeCast S1024 a2 shapeCasts_S1x1024_S1024))))
    (broadcastInDim S8x4096x1024 ![0, 1, 2] bcast_S8x1x1024_S8x4096x1024_0_1_2
      (addf (broadcastInDim S8x1x1024 ![] bcast_S_S8x1x1024 (constant S_ .f32 0x3F800000#32)) (modR _ slices_S8x1x6144_S8x1x1024_0_0_1024 a1))))
    (broadcastInDim S8x4096x1024 ![0, 1, 2] bcast_S8x1x1024_S8x4096x1024_0_1_2 (modR _ slices_S8x1x6144_S8x1x1024_0_0_0 a1))

/-- All products with the input weights. -/
def colR (a0 : FVec Ideal S8x4096x1024 .f32) (a1 : FVec Ideal S8x6144 .f32) (a2 : FVec Ideal S1x1024 .f32) (a3 : FVec Ideal S1x1024x3136 .f32) :
    FVec Ideal S8x4096x3136 .f32 :=
  Host.dotGeneral dot_S8x4096x1024_S1024x3136_S8x4096x3136_2_0_01_1_n_n none (hidR a0 a1 a2) (shapeCast S1024x3136 a3 shapeCasts_S1x1024x3136_S1024x3136)

/-- A latent vector, normalised with its gain. -/
def unitR (v : FVec Ideal S8x4096x256 .f32) (g : FVec Ideal S1x256 .f32) : FVec Ideal S8x4096x256 .f32 :=
  mulf (mulf v (broadcastInDim S8x4096x256 ![0, 1, 2] bcast_S8x4096x1_S8x4096x256_0_1_2 (Host.rsqrt (addf
    (Host.divf (broadcastInDim S8x4096x1 ![0, 1] bcast_S8x4096_S8x4096x1_0_1
        (Host.reduceAdd (mulf v v) (constant S_ .f32 0x00000000#32) reducesTo_S8x4096x256_S8x4096_d2 h_S_))
      (broadcastInDim S8x4096x1 ![] bcast_S_S8x4096x1 (constant S_ .f32 0x43800000#32)))
    (broadcastInDim S8x4096x1 ![] bcast_S_S8x4096x1 (constant S_ .f32 0x358637BD#32))))))
    (broadcastInDim S8x4096x256 ![0, 1, 2] bcast_S1x1x256_S8x4096x256_0_1_2
      (broadcastInDim S1x1x256 ![2] bcast_S256_S1x1x256_2 (shapeCast S256 g shapeCasts_S1x256_S256)))

/-- The queries before the turn, by head. -/
def qR (w : FVec Ideal S8x4096x3136 .f32) (a4 : FVec Ideal S1x256 .f32) (a5 : FVec Ideal S1x256x768 .f32) : FVec Ideal S8x4096x4x192 .f32 :=
  shapeCast S8x4096x4x192 (Host.dotGeneral dot_S8x4096x256_S256x768_S8x4096x768_2_0_01_1_n_n none
    (unitR (extractStridedSlice S8x4096x256 ![0, 0, 0] w slices_S8x4096x3136_S8x4096x256_0_0_0) a4)
    (shapeCast S256x768 a5 shapeCasts_S1x256x768_S256x768)) shapeCasts_S8x4096x768_S8x4096x4x192

/-- The keys' plain part and the values, by head. -/
def kvR (w : FVec Ideal S8x4096x3136 .f32) (a6 : FVec Ideal S1x256 .f32) (a7 : FVec Ideal S1x256x1024 .f32) : FVec Ideal S8x4096x4x256 .f32 :=
  shapeCast S8x4096x4x256 (Host.dotGeneral dot_S8x4096x256_S256x1024_S8x4096x1024_2_0_01_1_n_n none
    (unitR (extractStridedSlice S8x4096x256 ![0, 0, 256] w slices_S8x4096x3136_S8x4096x256_0_0_256) a6)
    (shapeCast S256x1024 a7 shapeCasts_S1x256x1024_S256x1024)) shapeCasts_S8x4096x1024_S8x4096x4x256

/-- Sixteen of the angles' numbers, spread over batch and heads. -/
def ang4 (off : Fin 3 → Nat) (h : S4096x1x32.Slices off S4096x1x16) (c : FVec Ideal S4096x32 .f32) : FVec Ideal S8x4096x4x16 .f32 :=
  broadcastInDim S8x4096x4x16 ![0, 1, 2, 3] bcast_S1x4096x1x16_S8x4096x4x16_0_1_2_3
    (broadcastInDim S1x4096x1x16 ![1, 2, 3] bcast_S4096x1x16_S1x4096x1x16_1_2_3
      (extractStridedSlice S4096x1x16 off (broadcastInDim S4096x1x32 ![0, 2] bcast_S4096x32_S4096x1x32_0_2 c) h))

/-- One axis of the turn. -/
def axis4 (x : FVec Ideal S8x4096x4x32 .f32) (c s : FVec Ideal S8x4096x4x16 .f32) : FVec Ideal S8x4096x4x32 .f32 :=
  let x1 := extractStridedSlice S8x4096x4x16 ![0, 0, 0, 0] x slices_S8x4096x4x32_S8x4096x4x16_0_0_0_0
  let x2 := extractStridedSlice S8x4096x4x16 ![0, 0, 0, 16] x slices_S8x4096x4x32_S8x4096x4x16_0_0_0_16
  concatenate S8x4096x4x32 3 [⟨S8x4096x4x16, subf (mulf x1 c) (mulf x2 s)⟩, ⟨S8x4096x4x16, addf (mulf x2 c) (mulf x1 s)⟩]
    concatenates_S8x4096x4x16_S8x4096x4x16_S8x4096x4x32_d3

/-- The turn of an array by head. -/
def rope4 (x : FVec Ideal S8x4096x4x64 .f32) (c s : FVec Ideal S4096x32 .f32) : FVec Ideal S8x4096x4x64 .f32 :=
  concatenate S8x4096x4x64 3
    [⟨S8x4096x4x32, axis4 (extractStridedSlice S8x4096x4x32 ![0, 0, 0, 0] x slices_S8x4096x4x64_S8x4096x4x32_0_0_0_0)
      (ang4 _ slices_S4096x1x32_S4096x1x16_0_0_0 c) (ang4 _ slices_S4096x1x32_S4096x1x16_0_0_0 s)⟩,
     ⟨S8x4096x4x32, axis4 (extractStridedSlice S8x4096x4x32 ![0, 0, 0, 32] x slices_S8x4096x4x64_S8x4096x4x32_0_0_0_32)
      (ang4 _ slices_S4096x1x32_S4096x1x16_0_0_16 c) (ang4 _ slices_S4096x1x32_S4096x1x16_0_0_16 s)⟩]
    concatenates_S8x4096x4x32_S8x4096x4x32_S8x4096x4x64_d3

/-- Sixteen of the angles' numbers, spread over the batch. -/
def ang3 (off : Fin 2 → Nat) (h : S4096x32.Slices off S4096x16) (c : FVec Ideal S4096x32 .f32) : FVec Ideal S8x4096x16 .f32 :=
  broadcastInDim S8x4096x16 ![0, 1, 2] bcast_S1x4096x16_S8x4096x16_0_1_2
    (broadcastInDim S1x4096x16 ![1, 2] bcast_S4096x16_S1x4096x16_1_2 (extractStridedSlice S4096x16 off c h))

/-- One axis of the turn. -/
def axis3 (x : FVec Ideal S8x4096x32 .f32) (c s : FVec Ideal S8x4096x16 .f32) : FVec Ideal S8x4096x32 .f32 :=
  let x1 := extractStridedSlice S8x4096x16 ![0, 0, 0] x slices_S8x4096x32_S8x4096x16_0_0_0
  let x2 := extractStridedSlice S8x4096x16 ![0, 0, 16] x slices_S8x4096x32_S8x4096x16_0_0_16
  concatenate S8x4096x32 2 [⟨S8x4096x16, subf (mulf x1 c) (mulf x2 s)⟩, ⟨S8x4096x16, addf (mulf x2 c) (mulf x1 s)⟩]
    concatenates_S8x4096x16_S8x4096x16_S8x4096x32_d2

/-- The turn of an array that all heads share. -/
def rope3 (x : FVec Ideal S8x4096x64 .f32) (c s : FVec Ideal S4096x32 .f32) : FVec Ideal S8x4096x64 .f32 :=
  concatenate S8x4096x64 2
    [⟨S8x4096x32, axis3 (extractStridedSlice S8x4096x32 ![0, 0, 0] x slices_S8x4096x64_S8x4096x32_0_0_0)
      (ang3 _ slices_S4096x32_S4096x16_0_0 c) (ang3 _ slices_S4096x32_S4096x16_0_0 s)⟩,
     ⟨S8x4096x32, axis3 (extractStridedSlice S8x4096x32 ![0, 0, 32] x slices_S8x4096x64_S8x4096x32_0_0_32)
      (ang3 _ slices_S4096x32_S4096x16_0_16 c) (ang3 _ slices_S4096x32_S4096x16_0_16 s)⟩]
    concatenates_S8x4096x32_S8x4096x32_S8x4096x64_d2

/-- The queries as returned. -/
def outQ (q : FVec Ideal S8x4096x4x192 .f32) (c s : FVec Ideal S4096x32 .f32) : FVec Ideal S8x4x192x4096 .bf16 :=
  truncf .bf16 (transpose S8x4x192x4096 [0, 2, 3, 1] (concatenate S8x4096x4x192 3
    [⟨S8x4096x4x128, extractStridedSlice S8x4096x4x128 ![0, 0, 0, 0] q slices_S8x4096x4x192_S8x4096x4x128_0_0_0_0⟩,
     ⟨S8x4096x4x64, rope4 (extractStridedSlice S8x4096x4x64 ![0, 0, 0, 128] q slices_S8x4096x4x192_S8x4096x4x64_0_0_0_128) c s⟩]
    concatenates_S8x4096x4x128_S8x4096x4x64_S8x4096x4x192_d3) transposes_S8x4096x4x192_S8x4x192x4096_0_2_3_1) bitsLt_bf16_f32

/-- The keys as returned. -/
def outK (kv : FVec Ideal S8x4096x4x256 .f32) (w : FVec Ideal S8x4096x3136 .f32) (c s : FVec Ideal S4096x32 .f32) : FVec Ideal S8x4x4096x192 .bf16 :=
  truncf .bf16 (transpose S8x4x4096x192 [0, 2, 1, 3] (concatenate S8x4096x4x192 3
    [⟨S8x4096x4x128, extractStridedSlice S8x4096x4x128 ![0, 0, 0, 0] kv slices_S8x4096x4x256_S8x4096x4x128_0_0_0_0⟩,
     ⟨S8x4096x4x64, broadcastInDim S8x4096x4x64 ![0, 1, 2, 3] bcast_S8x4096x1x64_S8x4096x4x64_0_1_2_3
      (broadcastInDim S8x4096x1x64 ![0, 1, 3] bcast_S8x4096x64_S8x4096x1x64_0_1_3
        (rope3 (extractStridedSlice S8x4096x64 ![0, 0, 512] w slices_S8x4096x3136_S8x4096x64_0_0_512) c s))⟩]
    concatenates_S8x4096x4x128_S8x4096x4x64_S8x4096x4x192_d3) transposes_S8x4096x4x192_S8x4x4096x192_0_2_1_3) bitsLt_bf16_f32

/-- The values as returned. -/
def outV (kv : FVec Ideal S8x4096x4x256 .f32) : FVec Ideal S8x4x128x4096 .bf16 :=
  truncf .bf16 (transpose S8x4x128x4096 [0, 2, 3, 1]
    (extractStridedSlice S8x4096x4x128 ![0, 0, 0, 128] kv slices_S8x4096x4x256_S8x4096x4x128_0_0_0_128) transposes_S8x4096x4x128_S8x4x128x4096_0_2_3_1) bitsLt_bf16_f32

/-- An array of the recurrence, laid out by head. -/
def headsR (x : FVec Ideal S8x4096x512 .f32) : FVec Ideal S8x4x4096x128 .bf16 :=
  truncf .bf16 (transpose S8x4x4096x128 [0, 2, 1, 3] (shapeCast S8x4096x4x128 x shapeCasts_S8x4096x512_S8x4096x4x128)
    transposes_S8x4096x4x128_S8x4x4096x128_0_2_1_3) bitsLt_bf16_f32

/-- The exponentials of the bound's table, each column less its greatest entry. -/
def expR (t : FVec Ideal S2x512 .f32) : FVec Ideal S2x512 .f32 :=
  Host.exp (subf t (broadcastInDim S2x512 ![0, 1] bcast_S1x512_S2x512_0_1 (broadcastInDim S1x512 ![1] bcast_S512_S1x512_1
    (maximumf (broadcastInDim S512 ![] bcast_S_S512 (constant S_ .f32 0xFF800000#32))
      (Host.reduce FloatOps.maximumf t (constant S_ .f32 0xFF800000#32) reducesTo_S2x512_S512_d0 h_S_)))))

/-- The lower bound of the forget gate. -/
def lowR (t : FVec Ideal S2x512 .f32) : FVec Ideal S512 .f32 :=
  shapeCast S512 (extractStridedSlice S1x512 ![0, 0] (Host.divf (expR t) (broadcastInDim S2x512 ![0, 1] bcast_S1x512_S2x512_0_1
    (broadcastInDim S1x512 ![1] bcast_S512_S1x512_1 (Host.reduceAdd (expR t) (constant S_ .f32 0x00000000#32) reducesTo_S2x512_S512_d0 h_S_))))
    slices_S2x512_S1x512_0_0) shapeCasts_S1x512_S512

/-- One minus the forget gate. -/
def gateR (l : FVec Ideal S512 .f32) (g : FVec Ideal S8x4096x512 .f32) : FVec Ideal S8x4096x512 .f32 :=
  subf (broadcastInDim S8x4096x512 ![] bcast_S_S8x4096x512 (constant S_ .f32 0x3F800000#32))
    (addf (broadcastInDim S8x4096x512 ![0, 1, 2] bcast_S1x1x512_S8x4096x512_0_1_2 (broadcastInDim S1x1x512 ![2] bcast_S512_S1x1x512_2 l))
      (mulf (broadcastInDim S8x4096x512 ![0, 1, 2] bcast_S1x1x512_S8x4096x512_0_1_2 (broadcastInDim S1x1x512 ![2] bcast_S512_S1x1x512_2
          (subf (broadcastInDim S512 ![] bcast_S_S512 (constant S_ .f32 0x3F800000#32)) l)))
        (Host.divf (broadcastInDim S8x4096x512 ![] bcast_S_S8x4096x512 (constant S_ .f32 0x3F800000#32))
          (addf (broadcastInDim S8x4096x512 ![] bcast_S_S8x4096x512 (constant S_ .f32 0x3F800000#32)) (Host.exp (Host.negf g))))))

/-! ## Element by element -/

theorem rms_apply (v : FVec Ideal S8x4096x1024 .f32) (b : Fin 8) (r : Fin 4096) (l : Fin 1024) :
    rms v (ix3 b r l) = FfnMath.unit (fun l => v (ix3 b r l)) l := by
  pointwise [rms, FfnMath.unit]

theorem hidR_apply (a0 : FVec Ideal S8x4096x1024 .f32) (a1 : FVec Ideal S8x6144 .f32) (a2 : FVec Ideal S1x1024 .f32)
    (b : Fin 8) (r : Fin 4096) (l : Fin 1024) :
    hidR a0 a1 a2 (ix3 b r l)
      = FfnMath.hid (fun l => a0 (ix3 b r l)) (fun l => a2 (ix2 0 l)) (fun l => a1 (ix2 b ⟨1024 + l.val, by omega⟩))
          (fun l => a1 (ix2 b ⟨l.val, by omega⟩)) l := by
  pointwise [hidR, modR, FfnMath.hid]
  rw [rms_apply, mul_assoc]

theorem colR_apply (a0 : FVec Ideal S8x4096x1024 .f32) (a1 : FVec Ideal S8x6144 .f32) (a2 : FVec Ideal S1x1024 .f32) (a3 : FVec Ideal S1x1024x3136 .f32)
    (b : Fin 8) (r : Fin 4096) (j : Fin 3136) :
    colR a0 a1 a2 a3 (ix3 b r j) = col (fun l => hidR a0 a1 a2 (ix3 b r l)) (fun k j => a3 (ix3 0 k j)) j := by
  pointwise [colR, col]

theorem unitR_apply (v : FVec Ideal S8x4096x256 .f32) (g : FVec Ideal S1x256 .f32) (b : Fin 8) (r : Fin 4096) (l : Fin 256) :
    unitR v g (ix3 b r l) = unit (fun l => v (ix3 b r l)) l * g (ix2 0 l) := by
  pointwise [unitR, unit]

theorem qR_apply (w : FVec Ideal S8x4096x3136 .f32) (a4 : FVec Ideal S1x256 .f32) (a5 : FVec Ideal S1x256x768 .f32)
    (b : Fin 8) (r : Fin 4096) (h : Fin 4) (d : Fin 192) :
    qR w a4 a5 (ix4 b r h d)
      = lat (fun l => w (ix3 b r ⟨l.val, by omega⟩)) (fun l => a4 (ix2 0 l)) (fun k j => a5 (ix3 0 k j)) ⟨h.val * 192 + d.val, by omega⟩ := by
  pointwise [qR, lat]
  simp only [unitR_apply]
  pointwise

theorem kvR_apply (w : FVec Ideal S8x4096x3136 .f32) (a6 : FVec Ideal S1x256 .f32) (a7 : FVec Ideal S1x256x1024 .f32)
    (b : Fin 8) (r : Fin 4096) (h : Fin 4) (d : Fin 256) :
    kvR w a6 a7 (ix4 b r h d)
      = lat (fun l => w (ix3 b r ⟨256 + l.val, by omega⟩)) (fun l => a6 (ix2 0 l)) (fun k j => a7 (ix3 0 k j)) ⟨h.val * 256 + d.val, by omega⟩ := by
  pointwise [kvR, lat]
  simp only [unitR_apply]
  pointwise

theorem rope4_apply (x : FVec Ideal S8x4096x4x64 .f32) (c s : FVec Ideal S4096x32 .f32) (b : Fin 8) (r : Fin 4096) (h : Fin 4) (e : Fin 64) :
    rope4 x c s (ix4 b r h e) = rope (fun e => x (ix4 b r h e)) (fun i => c (ix2 r i)) (fun i => s (ix2 r i)) e := by
  pointwise [rope4, axis4, ang4]
  exact rope_nest (fun e => x (ix4 b r h e)) (fun i => c (ix2 r i)) (fun i => s (ix2 r i)) e

theorem lowR_apply (t : FVec Ideal S2x512 .f32) (j : Fin 512) : lowR t (ix1 j) = low (t (ix2 0 j)) (t (ix2 1 j)) := by
  pointwise [lowR, expR, low]
  simp only [Fin.sum_univ_two, fold_two, bot_eq, max_bot_left, max_bot_right]

theorem rope3_apply (x : FVec Ideal S8x4096x64 .f32) (c s : FVec Ideal S4096x32 .f32) (b : Fin 8) (r : Fin 4096) (e : Fin 64) :
    rope3 x c s (ix3 b r e) = rope (fun e => x (ix3 b r e)) (fun i => c (ix2 r i)) (fun i => s (ix2 r i)) e := by
  pointwise [rope3, axis3, ang3]
  exact rope_nest (fun e => x (ix3 b r e)) (fun i => c (ix2 r i)) (fun i => s (ix2 r i)) e

theorem gateR_apply (l : FVec Ideal S512 .f32) (g : FVec Ideal S8x4096x512 .f32) (b : Fin 8) (r : Fin 4096) (j : Fin 512) :
    gateR l g (ix3 b r j) = gate (l (ix1 j)) (g (ix3 b r j)) := by
  pointwise [gateR, gate]
  rfl

/-- A component of the queries. -/
theorem outQ_apply (q : FVec Ideal S8x4096x4x192 .f32) (c s : FVec Ideal S4096x32 .f32) (b : Fin 8) (h : Fin 4) (d : Fin 192) (r : Fin 4096) :
    outQ q c s (ix4 b h d r)
      = if hd : d.val < 128 then q (ix4 b r h d)
        else rope (fun e => q (ix4 b r h ⟨128 + e.val, by omega⟩)) (fun i => c (ix2 r i)) (fun i => s (ix2 r i)) ⟨d.val - 128, by omega⟩ := by
  pointwise [outQ]
  simp only [rope4_apply]
  pointwise

/-- A component of the keys. -/
theorem outK_apply (kv : FVec Ideal S8x4096x4x256 .f32) (w : FVec Ideal S8x4096x3136 .f32) (c s : FVec Ideal S4096x32 .f32)
    (b : Fin 8) (h : Fin 4) (r : Fin 4096) (d : Fin 192) :
    outK kv w c s (ix4 b h r d)
      = if hd : d.val < 128 then kv (ix4 b r h ⟨d.val, by omega⟩)
        else rope (fun e => w (ix3 b r ⟨512 + e.val, by omega⟩)) (fun i => c (ix2 r i)) (fun i => s (ix2 r i)) ⟨d.val - 128, by omega⟩ := by
  pointwise [outK]
  simp only [rope3_apply]
  pointwise

/-- A component of the values. -/
theorem outV_apply (kv : FVec Ideal S8x4096x4x256 .f32) (b : Fin 8) (h : Fin 4) (d : Fin 128) (r : Fin 4096) :
    outV kv (ix4 b h d r) = kv (ix4 b r h ⟨128 + d.val, by omega⟩) := by
  pointwise [outV]

/-- A component of an array laid out by head. -/
theorem headsR_apply (x : FVec Ideal S8x4096x512 .f32) (b : Fin 8) (h : Fin 4) (r : Fin 4096) (d : Fin 128) :
    headsR x (ix4 b h r d) = x (ix3 b r ⟨h.val * 128 + d.val, by omega⟩) := by
  pointwise [headsR]

/-! ## The program's results -/

section

variable (m : (ℓ : Loc nD τ sig) → Buf (Elt Ideal) ℓ) (c : Dev nD)

/-- The row's columns, off the program's arguments. -/
def colsOf (b : Fin 8) (r : Fin 4096) : Fin 3136 → EReal :=
  cols (fun l => m ((c.tc : Thread nD τ).loc main_arg0) (ix3 b r l)) (fun l => m ((c.tc : Thread nD τ).loc main_arg2) (ix2 0 l))
    (fun l => m ((c.tc : Thread nD τ).loc main_arg1) (ix2 b l)) (fun k j => m ((c.tc : Thread nD τ).loc main_arg3) (ix3 0 k j))

theorem v28_apply (b : Fin 8) (r : Fin 4096) (j : Fin 3136) :
    Value.res_main_v28 (launchContents m c) (ix3 b r j) = colsOf m c b r j := by
  refine (show Value.res_main_v28 (launchContents m c) = colR (m ((c.tc : Thread nD τ).loc main_arg0)) (m ((c.tc : Thread nD τ).loc main_arg1))
    (m ((c.tc : Thread nD τ).loc main_arg2)) (m ((c.tc : Thread nD τ).loc main_arg3)) from rfl) ▸ ?_
  simp only [colR_apply, hidR_apply]
  rfl

theorem v53_apply (b : Fin 8) (r : Fin 4096) (h : Fin 4) (d : Fin 192) :
    Value.res_main_v53 (launchContents m c) (ix4 b r h d)
      = lat (fun l => colsOf m c b r ⟨l.val, by omega⟩) (fun l => m ((c.tc : Thread nD τ).loc main_arg4) (ix2 0 l))
          (fun k j => m ((c.tc : Thread nD τ).loc main_arg5) (ix3 0 k j)) ⟨h.val * 192 + d.val, by omega⟩ := by
  refine (show Value.res_main_v53 (launchContents m c) = qR (Value.res_main_v28 (launchContents m c)) (m ((c.tc : Thread nD τ).loc main_arg4))
    (m ((c.tc : Thread nD τ).loc main_arg5)) from rfl) ▸ ?_
  simp only [qR_apply, v28_apply]

theorem v116_apply (b : Fin 8) (r : Fin 4096) (h : Fin 4) (d : Fin 256) :
    Value.res_main_v116 (launchContents m c) (ix4 b r h d)
      = lat (fun l => colsOf m c b r ⟨256 + l.val, by omega⟩) (fun l => m ((c.tc : Thread nD τ).loc main_arg6) (ix2 0 l))
          (fun k j => m ((c.tc : Thread nD τ).loc main_arg7) (ix3 0 k j)) ⟨h.val * 256 + d.val, by omega⟩ := by
  refine (show Value.res_main_v116 (launchContents m c) = kvR (Value.res_main_v28 (launchContents m c)) (m ((c.tc : Thread nD τ).loc main_arg6))
    (m ((c.tc : Thread nD τ).loc main_arg7)) from rfl) ▸ ?_
  simp only [kvR_apply, v28_apply]

theorem v184_eq : Value.res_main_v184 (launchContents m c) = lowR (m ((c.tc : Thread nD τ).loc main_arg10)) := rfl

theorem v214_eq : Value.res_main_v214 (launchContents m c) = lowR (m ((c.tc : Thread nD τ).loc main_arg11)) := rfl

/-- The reference runs, each result is the stages' composition, and the arguments stay. -/
theorem run_stages (ρ : Dev nD → PrngReg) :
    θ_run defs (onTc (τ := τ) (main (F := Ideal))) ⟨m, fun _ => 0, ρ⟩ fun r => ∀ c : Dev nD,
      r.2.mem ((c.tc : Thread nD τ).loc main_v164) = outQ (Value.res_main_v53 (launchContents m c)) (m ((c.tc : Thread nD τ).loc main_arg8)) (m ((c.tc : Thread nD τ).loc main_arg9))
      ∧ r.2.mem ((c.tc : Thread nD τ).loc main_v166) = outK (Value.res_main_v116 (launchContents m c)) (Value.res_main_v28 (launchContents m c)) (m ((c.tc : Thread nD τ).loc main_arg8)) (m ((c.tc : Thread nD τ).loc main_arg9))
      ∧ r.2.mem ((c.tc : Thread nD τ).loc main_v168) = outV (Value.res_main_v116 (launchContents m c))
      ∧ r.2.mem ((c.tc : Thread nD τ).loc main_v233) = headsR (extractStridedSlice S8x4096x512 ![0, 0, 576] (Value.res_main_v28 (launchContents m c)) slices_S8x4096x3136_S8x4096x512_0_0_576)
      ∧ r.2.mem ((c.tc : Thread nD τ).loc main_v235) = headsR (extractStridedSlice S8x4096x512 ![0, 0, 1088] (Value.res_main_v28 (launchContents m c)) slices_S8x4096x3136_S8x4096x512_0_0_1088)
      ∧ r.2.mem ((c.tc : Thread nD τ).loc main_v237) = headsR (extractStridedSlice S8x4096x512 ![0, 0, 1600] (Value.res_main_v28 (launchContents m c)) slices_S8x4096x3136_S8x4096x512_0_0_1600)
      ∧ r.2.mem ((c.tc : Thread nD τ).loc main_v239) = headsR (gateR (lowR (m ((c.tc : Thread nD τ).loc main_arg10))) (extractStridedSlice S8x4096x512 ![0, 0, 2112] (Value.res_main_v28 (launchContents m c)) slices_S8x4096x3136_S8x4096x512_0_0_2112))
      ∧ r.2.mem ((c.tc : Thread nD τ).loc main_v241) = headsR (gateR (lowR (m ((c.tc : Thread nD τ).loc main_arg11))) (extractStridedSlice S8x4096x512 ![0, 0, 2624] (Value.res_main_v28 (launchContents m c)) slices_S8x4096x3136_S8x4096x512_0_0_2624))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Value.run (F := Ideal) m ρ

end

end Cert.ProjRefIdeal.Row
-- ==== Proof.ProjClaim.lean ====
/- The claims about the input projections' call: the three frames, the named constant, and that kernel and reference return
   the same eight arrays over the ideal floats. -/
module

public import proofs.«01_k».proof.Defs
public import proofs.«01_k».proof.Proof.ProjFrame
public import proofs.«01_k».proof.Proof.ProjResult
public import proofs.«01_k».proof.Proof.ProjRefRow
public import Idealize.ShloMosaic.Rules
public import Idealize.ShloMosaic.Lib.Claim

@[expose] public section

set_option maxRecDepth 16384

noncomputable section

namespace Cert.ProjClaim

open Idealize.ShloMosaic Idealize.SL.Sem Idealize.ShloMosaic.Tactic

/-- The kernel over the machine's floats runs, leaves its arguments unchanged and its counters at zero. -/
theorem frame_kernel : Cert.quiescent_Proj (hProj := Cert.Proj.Gen.facts) :=
  fun m ρ _ => Cert.Proj.Gen.frame m ρ

/-- The kernel over the ideal floats runs, leaves its arguments unchanged and its counters at zero. -/
theorem frame_kernel_ideal : Cert.quiescent_ProjIdeal (hProjIdeal := Cert.ProjIdeal.Gen.facts) :=
  fun m ρ _ => Cert.ProjIdeal.Gen.frame m ρ

/-- The reference over the ideal floats runs, leaves its arguments unchanged and its counters at zero. -/
theorem frame_ref : Cert.quiescent_ProjRefIdeal (hProjRefIdeal := Cert.ProjRefIdeal.Gen.facts) := fun m ρ _ =>
  (θ_run Cert.ProjRefIdeal.defs _ _).mono (fun r h => ⟨fun c => (h c).2.2.2.2.2.2.2.2,
      Idealize.ShloMosaic.sem_eq_zero_of_no_sems (by decide) r.2⟩)
    (Cert.ProjRefIdeal.Row.run_stages m ρ)

/-- The constant of the base-two logarithm is the reciprocal of the logarithm of two. -/
theorem log_two : Cert.preserves_Proj_ProjIdeal :=
  IdealRules.named_const.statement Cert.ProjIdeal.κ "log2_e" .f32 0x3FB8AA3B#32 (((Real.log 2)⁻¹ : ℝ) : EReal) rfl

section Reference

open Cert.ProjRefIdeal Cert.ProjRefIdeal.Row Cert.ProjMath

variable (m : (ℓ : Loc Cert.ProjIdeal.nD Cert.ProjIdeal.τ Cert.ProjIdeal.sig) → Buf (Elt Ideal) ℓ)
  (m' : (ℓ : Loc nD τ sig) → Buf (Elt Ideal) ℓ) (c : Dev nD)

theorem cols_eq (h0 : m' ((c.tc : Thread nD τ).loc main_arg0) = m ((c.tc : Thread Cert.ProjIdeal.nD Cert.ProjIdeal.τ).loc Cert.ProjIdeal.main_arg0))
    (h1 : m' ((c.tc : Thread nD τ).loc main_arg1) = m ((c.tc : Thread Cert.ProjIdeal.nD Cert.ProjIdeal.τ).loc Cert.ProjIdeal.main_arg1))
    (h2 : m' ((c.tc : Thread nD τ).loc main_arg2) = m ((c.tc : Thread Cert.ProjIdeal.nD Cert.ProjIdeal.τ).loc Cert.ProjIdeal.main_arg2))
    (h3 : m' ((c.tc : Thread nD τ).loc main_arg3) = m ((c.tc : Thread Cert.ProjIdeal.nD Cert.ProjIdeal.τ).loc Cert.ProjIdeal.main_arg3))
    (b : Fin 8) (r : Fin 4096) : colsOf m' c b r = Cert.ProjIdeal.Result.colsOf m c b r := by
  unfold colsOf
  rw [h0, h1, h2, h3]
  rfl

end Reference

set_option maxHeartbeats 4000000 in
/-- Kernel and reference, started on the same arguments, return the same arrays over the ideal floats. -/
theorem value : Cert.algebraic_ProjIdeal_ProjRefIdeal (hProjIdeal := Cert.ProjIdeal.Gen.facts)
    (hProjRefIdeal := Cert.ProjRefIdeal.Gen.facts) := by
  intro m g m' g' _ hagree
  refine ⟨fun c => Cert.ProjIdeal.Result.Gq m c, fun c => Cert.ProjIdeal.Result.Gk m c, fun c => Cert.ProjIdeal.Result.Gv m c,
    fun c => Cert.ProjIdeal.Result.Gh m c 576 (by omega), fun c => Cert.ProjIdeal.Result.Gh m c 1088 (by omega),
    fun c => Cert.ProjIdeal.Result.Gh m c 1600 (by omega),
    fun c => Cert.ProjIdeal.Result.Gg m c 2112 (by omega) (m ((c.tc : Thread Cert.ProjIdeal.nD Cert.ProjIdeal.τ).loc Cert.ProjIdeal.main_arg10)),
    fun c => Cert.ProjIdeal.Result.Gg m c 2624 (by omega) (m ((c.tc : Thread Cert.ProjIdeal.nD Cert.ProjIdeal.τ).loc Cert.ProjIdeal.main_arg11)), ?_, ?_⟩
  · exact Cert.ProjIdeal.Result.run_results m g
  · refine (θ_run Cert.ProjRefIdeal.defs _ _).mono (fun r h c => ?_) (Cert.ProjRefIdeal.Row.run_stages m' g')
    obtain ⟨e0, e1, e2, e3, e4, e5, e6, e7, hargs⟩ := h c
    obtain ⟨h0, h1, h2, h3, h4, h5, h6, h7, h8, h9, h10, h11⟩ := hagree c
    have hc := cols_eq m m' c h0 h1 h2 h3
    refine ⟨e0.trans ?_, e1.trans ?_, e2.trans ?_, e3.trans ?_, e4.trans ?_, e5.trans ?_, e6.trans ?_, e7.trans ?_, hargs⟩
    · funext y
      idx_vars y
      refine (Cert.ProjRefIdeal.Row.outQ_apply _ _ _ y0 y1 y2 y3).trans ?_
      simp only [Cert.ProjRefIdeal.Row.v53_apply, hc, h4, h5, h8, h9]
      rfl
    · funext y
      idx_vars y
      refine (Cert.ProjRefIdeal.Row.outK_apply _ _ _ _ y0 y1 y2 y3).trans ?_
      simp only [Cert.ProjRefIdeal.Row.v116_apply, Cert.ProjRefIdeal.Row.v28_apply, hc, h6, h7, h8, h9]
      rfl
    · funext y
      idx_vars y
      refine (Cert.ProjRefIdeal.Row.outV_apply _ y0 y1 y2 y3).trans ?_
      simp only [Cert.ProjRefIdeal.Row.v116_apply, hc, h6, h7]
      rfl
    · funext y
      idx_vars y
      refine (Cert.ProjRefIdeal.Row.headsR_apply _ y0 y1 y2 y3).trans ?_
      pointwise [Cert.ProjRefIdeal.Row.v28_apply, hc]
      rfl
    · funext y
      idx_vars y
      refine (Cert.ProjRefIdeal.Row.headsR_apply _ y0 y1 y2 y3).trans ?_
      pointwise [Cert.ProjRefIdeal.Row.v28_apply, hc]
      rfl
    · funext y
      idx_vars y
      refine (Cert.ProjRefIdeal.Row.headsR_apply _ y0 y1 y2 y3).trans ?_
      pointwise [Cert.ProjRefIdeal.Row.v28_apply, hc]
      rfl
    · funext y
      idx_vars y
      refine (Cert.ProjRefIdeal.Row.headsR_apply _ y0 y1 y2 y3).trans ((Cert.ProjRefIdeal.Row.gateR_apply _ _ _ _ _).trans ?_)
      rw [Cert.ProjRefIdeal.Row.lowR_apply, h10]
      pointwise [Cert.ProjRefIdeal.Row.v28_apply, hc]
      rfl
    · funext y
      idx_vars y
      refine (Cert.ProjRefIdeal.Row.headsR_apply _ y0 y1 y2 y3).trans ((Cert.ProjRefIdeal.Row.gateR_apply _ _ _ _ _).trans ?_)
      rw [Cert.ProjRefIdeal.Row.lowR_apply, h11]
      pointwise [Cert.ProjRefIdeal.Row.v28_apply, hc]
      rfl

end Cert.ProjClaim

end
-- ==== Proof.lean ====
module

public import proofs.«01_k».proof.Defs
public import proofs.«01_k».proof.Proof.AttnClaim
public import proofs.«01_k».proof.Proof.FfnClaim
public import proofs.«01_k».proof.Proof.ProjClaim
public import Idealize.ShloMosaic.Adequacy
public import Idealize.ShloMosaic.Init

@[expose] public section

noncomputable section

namespace Cert.Proof

theorem claim : Cert.Claim := ⟨Cert.Attn.Gen.facts, Cert.AttnIdeal.Gen.facts, Cert.AttnRefIdeal.Gen.facts,
  Cert.Ffn.Gen.facts, Cert.FfnIdeal.Gen.facts, Cert.FfnRefIdeal.Gen.facts,
  Cert.Proj.Gen.facts, Cert.ProjIdeal.Gen.facts, Cert.ProjRefIdeal.Gen.facts, Cert.Pre_finite_qk.Gen.facts,
  AttnClaim.frame_kernel, AttnClaim.frame_kernel_ideal, AttnClaim.frame_kernel_ideal_pre, AttnRefFrame.frame_ideal,
  AttnRefFrame.frame_ideal_pre, FfnClaim.frame_kernel, FfnClaim.frame_kernel_ideal, FfnClaim.frame_ref,
  ProjClaim.frame_kernel, ProjClaim.frame_kernel_ideal, ProjClaim.frame_ref,
  AttnClaim.scale, AttnClaim.value, trivial, FfnClaim.value,
  ProjClaim.log_two, ProjClaim.value⟩

end Cert.Proof

end
